-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 2, 2] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 16384#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Pre_in_range_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 16384#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096 : Shape := ⟨1, ![4096]⟩
abbrev S8192x2048 : Shape := ⟨2, ![8192, 2048]⟩
abbrev S4096x1 : Shape := ⟨2, ![4096, 1]⟩
abbrev S4096x2048 : Shape := ⟨2, ![4096, 2048]⟩
abbrev S2x512x2048 : Shape := ⟨3, ![2, 512, 2048]⟩
abbrev S2048x2048 : Shape := ⟨2, ![2048, 2048]⟩
abbrev S3x256x2048 : Shape := ⟨3, ![3, 256, 2048]⟩
abbrev S2x256x2048 : Shape := ⟨3, ![2, 256, 2048]⟩
abbrev S2 : Shape := ⟨1, ![2]⟩
abbrev S_ : Shape := ⟨0, ![]⟩
abbrev S3 : Shape := ⟨1, ![3]⟩
abbrev S1x512 : Shape := ⟨2, ![1, 512]⟩
abbrev S2048x1 : Shape := ⟨2, ![2048, 1]⟩
abbrev S1 : Shape := ⟨1, ![1]⟩
abbrev S1x512x2048 : Shape := ⟨3, ![1, 512, 2048]⟩
abbrev S512x2048 : Shape := ⟨2, ![512, 2048]⟩
abbrev S2048x512 : Shape := ⟨2, ![2048, 512]⟩
abbrev S1x256x2048 : Shape := ⟨3, ![1, 256, 2048]⟩
abbrev S256x2048 : Shape := ⟨2, ![256, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4096, .i32⟩
  | .hbm, ⟨1, _⟩ => ⟨S8192x2048, .f32⟩
  | .hbm, ⟨2, _⟩ => ⟨S4096x1, .i32⟩
  | .hbm, ⟨3, _⟩ => ⟨S4096x2048, .f32⟩
  | .local _ .vmem, ⟨0, _⟩ => ⟨S4096x1, .i32⟩
  | .local _ .vmem, ⟨1, _⟩ => ⟨S2x512x2048, .f32⟩
  | .local _ .vmem, ⟨2, _⟩ => ⟨S2048x2048, .f32⟩
  | .local _ .vmem, ⟨3, _⟩ => ⟨S3x256x2048, .f32⟩
  | .local _ .vmem, ⟨4, _⟩ => ⟨S2x256x2048, .f32⟩
  | .local _ .vmem, ⟨5, _⟩ => ⟨S2x256x2048, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 3 16 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_8 : BitVec 32 := 1#32
  let v16 : BitVec 32 := Scalar.muli v9 c1_i32_8
  let v17 : BitVec 32 := Scalar.addi v15 v16
  v17.toNat
def k0_dev2 (d0 : Dev nD) : Nat :=
  let c0_i32_11 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_10 : BitVec 32 := 4#32
  let v18 : BitVec 32 := Scalar.muli v10 c4_i32_10
  let v19 : BitVec 32 := Scalar.addi c0_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v20 : BitVec 32 := Scalar.muli v5 c2_i32_12
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v22 : BitVec 32 := Scalar.muli v8 c1_i32_13
  let v23 : BitVec 32 := Scalar.addi v21 v22
  v23.toNat
def k0_off1 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32 : BitVec 32 := 2048#32
  let v24 : BitVec 32 := Scalar.muli v2 c2048_i32
  let v27 : Index := Scalar.indexCast v24
  let c0 : Index := 0#32
  ![v27.toNat, 0]
def k0_dev3 (d0 : Dev nD) : Nat :=
  let c0_i32_337 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_336 : BitVec 32 := 4#32
  let v444 : BitVec 32 := Scalar.muli v2 c4_i32_336
  let v445 : BitVec 32 := Scalar.addi c0_i32_337 v444
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_338 : BitVec 32 := 2#32
  let v446 : BitVec 32 := Scalar.muli v5 c2_i32_338
  let v447 : BitVec 32 := Scalar.addi v445 v446
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_339 : BitVec 32 := 1#32
  let v448 : BitVec 32 := Scalar.muli v9 c1_i32_339
  let v449 : BitVec 32 := Scalar.addi v447 v448
  v449.toNat
def k0_dev4 (d0 : Dev nD) : Nat :=
  let c0_i32_348 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_347 : BitVec 32 := 4#32
  let v457 : BitVec 32 := Scalar.muli v2 c4_i32_347
  let v458 : BitVec 32 := Scalar.addi c0_i32_348 v457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_349 : BitVec 32 := 2#32
  let v459 : BitVec 32 := Scalar.muli v5 c2_i32_349
  let v460 : BitVec 32 := Scalar.addi v458 v459
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_350 : BitVec 32 := 1#32
  let v461 : BitVec 32 := Scalar.muli v9 c1_i32_350
  let v462 : BitVec 32 := Scalar.addi v460 v461
  v462.toNat
def k0_dev5 (d0 : Dev nD) : Nat :=
  let c0_i32_358 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_357 : BitVec 32 := 4#32
  let v470 : BitVec 32 := Scalar.muli v2 c4_i32_357
  let v471 : BitVec 32 := Scalar.addi c0_i32_358 v470
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_359 : BitVec 32 := 2#32
  let v472 : BitVec 32 := Scalar.muli v5 c2_i32_359
  let v473 : BitVec 32 := Scalar.addi v471 v472
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_360 : BitVec 32 := 1#32
  let v474 : BitVec 32 := Scalar.muli v9 c1_i32_360
  let v475 : BitVec 32 := Scalar.addi v473 v474
  v475.toNat
def k0_dev6 (d0 : Dev nD) : Nat :=
  let c0_i32_386 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_385 : BitVec 32 := 4#32
  let v501 : BitVec 32 := Scalar.muli v2 c4_i32_385
  let v502 : BitVec 32 := Scalar.addi c0_i32_386 v501
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_387 : BitVec 32 := 2#32
  let v503 : BitVec 32 := Scalar.muli v5 c2_i32_387
  let v504 : BitVec 32 := Scalar.addi v502 v503
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_388 : BitVec 32 := 1#32
  let v505 : BitVec 32 := Scalar.muli v9 c1_i32_388
  let v506 : BitVec 32 := Scalar.addi v504 v505
  v506.toNat
def k0_dev7 (d0 : Dev nD) : Nat :=
  let c0_i32_394 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_393 : BitVec 32 := 4#32
  let v507 : BitVec 32 := Scalar.muli v10 c4_i32_393
  let v508 : BitVec 32 := Scalar.addi c0_i32_394 v507
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_395 : BitVec 32 := 2#32
  let v509 : BitVec 32 := Scalar.muli v5 c2_i32_395
  let v510 : BitVec 32 := Scalar.addi v508 v509
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_396 : BitVec 32 := 1#32
  let v511 : BitVec 32 := Scalar.muli v8 c1_i32_396
  let v512 : BitVec 32 := Scalar.addi v510 v511
  v512.toNat
def k0_off2 (d0 : Dev nD) (c0_i32_401 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32 : BitVec 32 := 2048#32
  let v24 : BitVec 32 := Scalar.muli v2 c2048_i32
  let v521 : BitVec 32 := Scalar.addi v24 c0_i32_401
  let c0_i32_404 : BitVec 32 := 0#32
  ![v521.toNat, 0]
def k0_dev8 (d0 : Dev nD) : Nat :=
  let c0_i32_420 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_419 : BitVec 32 := 4#32
  let v532 : BitVec 32 := Scalar.muli v2 c4_i32_419
  let v533 : BitVec 32 := Scalar.addi c0_i32_420 v532
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_421 : BitVec 32 := 2#32
  let v534 : BitVec 32 := Scalar.muli v5 c2_i32_421
  let v535 : BitVec 32 := Scalar.addi v533 v534
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_422 : BitVec 32 := 1#32
  let v536 : BitVec 32 := Scalar.muli v9 c1_i32_422
  let v537 : BitVec 32 := Scalar.addi v535 v536
  v537.toNat
def k0_dev9 (d0 : Dev nD) : Nat :=
  let c0_i32_447 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_446 : BitVec 32 := 4#32
  let v563 : BitVec 32 := Scalar.muli v2 c4_i32_446
  let v564 : BitVec 32 := Scalar.addi c0_i32_447 v563
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_448 : BitVec 32 := 2#32
  let v565 : BitVec 32 := Scalar.muli v5 c2_i32_448
  let v566 : BitVec 32 := Scalar.addi v564 v565
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_449 : BitVec 32 := 1#32
  let v567 : BitVec 32 := Scalar.muli v9 c1_i32_449
  let v568 : BitVec 32 := Scalar.addi v566 v567
  v568.toNat
def k0_dev10 (d0 : Dev nD) : Nat :=
  let c0_i32_455 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_454 : BitVec 32 := 4#32
  let v569 : BitVec 32 := Scalar.muli v10 c4_i32_454
  let v570 : BitVec 32 := Scalar.addi c0_i32_455 v569
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_456 : BitVec 32 := 2#32
  let v571 : BitVec 32 := Scalar.muli v5 c2_i32_456
  let v572 : BitVec 32 := Scalar.addi v570 v571
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_457 : BitVec 32 := 1#32
  let v573 : BitVec 32 := Scalar.muli v8 c1_i32_457
  let v574 : BitVec 32 := Scalar.addi v572 v573
  v574.toNat
def k0_off3 (d0 : Dev nD) (c0_i32_482 : BitVec 32) : Fin 2 → Nat :=
  let c1_i32_480 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v601 : BitVec 32 := Scalar.subi c1_i32_480 v2
  let c2048_i32_481 : BitVec 32 := 2048#32
  let v602 : BitVec 32 := Scalar.muli v601 c2048_i32_481
  let v603 : BitVec 32 := Scalar.addi v602 c0_i32_482
  let c0_i32_484 : BitVec 32 := 0#32
  ![v603.toNat, 0]
def k0_dev11 (d0 : Dev nD) : Nat :=
  let c0_i32_493 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_492 : BitVec 32 := 4#32
  let v610 : BitVec 32 := Scalar.muli v10 c4_i32_492
  let v611 : BitVec 32 := Scalar.addi c0_i32_493 v610
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_494 : BitVec 32 := 2#32
  let v612 : BitVec 32 := Scalar.muli v5 c2_i32_494
  let v613 : BitVec 32 := Scalar.addi v611 v612
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_495 : BitVec 32 := 1#32
  let v614 : BitVec 32 := Scalar.muli v8 c1_i32_495
  let v615 : BitVec 32 := Scalar.addi v613 v614
  v615.toNat
def k0_dev12 (d0 : Dev nD) : Nat :=
  let c0_i32_510 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_509 : BitVec 32 := 4#32
  let v621 : BitVec 32 := Scalar.muli v2 c4_i32_509
  let v622 : BitVec 32 := Scalar.addi c0_i32_510 v621
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_511 : BitVec 32 := 2#32
  let v623 : BitVec 32 := Scalar.muli v5 c2_i32_511
  let v624 : BitVec 32 := Scalar.addi v622 v623
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_512 : BitVec 32 := 1#32
  let v625 : BitVec 32 := Scalar.muli v9 c1_i32_512
  let v626 : BitVec 32 := Scalar.addi v624 v625
  v626.toNat
def k0_dev13 (d0 : Dev nD) : Nat :=
  let c0_i32_551 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_550 : BitVec 32 := 4#32
  let v664 : BitVec 32 := Scalar.muli v2 c4_i32_550
  let v665 : BitVec 32 := Scalar.addi c0_i32_551 v664
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_552 : BitVec 32 := 2#32
  let v666 : BitVec 32 := Scalar.muli v5 c2_i32_552
  let v667 : BitVec 32 := Scalar.addi v665 v666
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_553 : BitVec 32 := 1#32
  let v668 : BitVec 32 := Scalar.muli v9 c1_i32_553
  let v669 : BitVec 32 := Scalar.addi v667 v668
  v669.toNat
def k0_dev14 (d0 : Dev nD) : Nat :=
  let c0_i32_561 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_560 : BitVec 32 := 4#32
  let v670 : BitVec 32 := Scalar.muli v10 c4_i32_560
  let v671 : BitVec 32 := Scalar.addi c0_i32_561 v670
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_562 : BitVec 32 := 2#32
  let v672 : BitVec 32 := Scalar.muli v5 c2_i32_562
  let v673 : BitVec 32 := Scalar.addi v671 v672
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_563 : BitVec 32 := 1#32
  let v674 : BitVec 32 := Scalar.muli v8 c1_i32_563
  let v675 : BitVec 32 := Scalar.addi v673 v674
  v675.toNat
def k0_dev15 (d0 : Dev nD) : Nat :=
  let c0_i32_599 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_598 : BitVec 32 := 4#32
  let v711 : BitVec 32 := Scalar.muli v10 c4_i32_598
  let v712 : BitVec 32 := Scalar.addi c0_i32_599 v711
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_600 : BitVec 32 := 2#32
  let v713 : BitVec 32 := Scalar.muli v5 c2_i32_600
  let v714 : BitVec 32 := Scalar.addi v712 v713
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_601 : BitVec 32 := 1#32
  let v715 : BitVec 32 := Scalar.muli v8 c1_i32_601
  let v716 : BitVec 32 := Scalar.addi v714 v715
  v716.toNat
def k0_dev16 (d0 : Dev nD) : Nat :=
  let c0_i32_615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_614 : BitVec 32 := 4#32
  let v722 : BitVec 32 := Scalar.muli v2 c4_i32_614
  let v723 : BitVec 32 := Scalar.addi c0_i32_615 v722
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_616 : BitVec 32 := 2#32
  let v724 : BitVec 32 := Scalar.muli v5 c2_i32_616
  let v725 : BitVec 32 := Scalar.addi v723 v724
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_617 : BitVec 32 := 1#32
  let v726 : BitVec 32 := Scalar.muli v9 c1_i32_617
  let v727 : BitVec 32 := Scalar.addi v725 v726
  v727.toNat
def k0_dev17 (d0 : Dev nD) : Nat :=
  let c0_i32_657 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_656 : BitVec 32 := 4#32
  let v765 : BitVec 32 := Scalar.muli v2 c4_i32_656
  let v766 : BitVec 32 := Scalar.addi c0_i32_657 v765
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_658 : BitVec 32 := 2#32
  let v767 : BitVec 32 := Scalar.muli v5 c2_i32_658
  let v768 : BitVec 32 := Scalar.addi v766 v767
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_659 : BitVec 32 := 1#32
  let v769 : BitVec 32 := Scalar.muli v9 c1_i32_659
  let v770 : BitVec 32 := Scalar.addi v768 v769
  v770.toNat
def k0_dev18 (d0 : Dev nD) : Nat :=
  let c0_i32_667 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_666 : BitVec 32 := 4#32
  let v771 : BitVec 32 := Scalar.muli v10 c4_i32_666
  let v772 : BitVec 32 := Scalar.addi c0_i32_667 v771
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_668 : BitVec 32 := 2#32
  let v773 : BitVec 32 := Scalar.muli v5 c2_i32_668
  let v774 : BitVec 32 := Scalar.addi v772 v773
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_669 : BitVec 32 := 1#32
  let v775 : BitVec 32 := Scalar.muli v8 c1_i32_669
  let v776 : BitVec 32 := Scalar.addi v774 v775
  v776.toNat
def k0_dev19 (d0 : Dev nD) : Nat :=
  let c0_i32_705 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_704 : BitVec 32 := 4#32
  let v812 : BitVec 32 := Scalar.muli v10 c4_i32_704
  let v813 : BitVec 32 := Scalar.addi c0_i32_705 v812
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_706 : BitVec 32 := 2#32
  let v814 : BitVec 32 := Scalar.muli v5 c2_i32_706
  let v815 : BitVec 32 := Scalar.addi v813 v814
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_707 : BitVec 32 := 1#32
  let v816 : BitVec 32 := Scalar.muli v8 c1_i32_707
  let v817 : BitVec 32 := Scalar.addi v815 v816
  v817.toNat
def k0_dev20 (d0 : Dev nD) : Nat :=
  let c0_i32_722 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_721 : BitVec 32 := 4#32
  let v823 : BitVec 32 := Scalar.muli v2 c4_i32_721
  let v824 : BitVec 32 := Scalar.addi c0_i32_722 v823
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_723 : BitVec 32 := 2#32
  let v825 : BitVec 32 := Scalar.muli v5 c2_i32_723
  let v826 : BitVec 32 := Scalar.addi v824 v825
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_724 : BitVec 32 := 1#32
  let v827 : BitVec 32 := Scalar.muli v9 c1_i32_724
  let v828 : BitVec 32 := Scalar.addi v826 v827
  v828.toNat
def k0_dev21 (d0 : Dev nD) : Nat :=
  let c0_i32_764 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_763 : BitVec 32 := 4#32
  let v866 : BitVec 32 := Scalar.muli v2 c4_i32_763
  let v867 : BitVec 32 := Scalar.addi c0_i32_764 v866
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_765 : BitVec 32 := 2#32
  let v868 : BitVec 32 := Scalar.muli v5 c2_i32_765
  let v869 : BitVec 32 := Scalar.addi v867 v868
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_766 : BitVec 32 := 1#32
  let v870 : BitVec 32 := Scalar.muli v9 c1_i32_766
  let v871 : BitVec 32 := Scalar.addi v869 v870
  v871.toNat
def k0_dev22 (d0 : Dev nD) : Nat :=
  let c0_i32_774 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_773 : BitVec 32 := 4#32
  let v872 : BitVec 32 := Scalar.muli v10 c4_i32_773
  let v873 : BitVec 32 := Scalar.addi c0_i32_774 v872
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_775 : BitVec 32 := 2#32
  let v874 : BitVec 32 := Scalar.muli v5 c2_i32_775
  let v875 : BitVec 32 := Scalar.addi v873 v874
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_776 : BitVec 32 := 1#32
  let v876 : BitVec 32 := Scalar.muli v8 c1_i32_776
  let v877 : BitVec 32 := Scalar.addi v875 v876
  v877.toNat
def k0_dev23 (d0 : Dev nD) : Nat :=
  let c0_i32_812 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_811 : BitVec 32 := 4#32
  let v913 : BitVec 32 := Scalar.muli v10 c4_i32_811
  let v914 : BitVec 32 := Scalar.addi c0_i32_812 v913
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_813 : BitVec 32 := 2#32
  let v915 : BitVec 32 := Scalar.muli v5 c2_i32_813
  let v916 : BitVec 32 := Scalar.addi v914 v915
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_814 : BitVec 32 := 1#32
  let v917 : BitVec 32 := Scalar.muli v8 c1_i32_814
  let v918 : BitVec 32 := Scalar.addi v916 v917
  v918.toNat
def k0_dev24 (d0 : Dev nD) : Nat :=
  let c0_i32_828 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_827 : BitVec 32 := 4#32
  let v924 : BitVec 32 := Scalar.muli v2 c4_i32_827
  let v925 : BitVec 32 := Scalar.addi c0_i32_828 v924
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_829 : BitVec 32 := 2#32
  let v926 : BitVec 32 := Scalar.muli v5 c2_i32_829
  let v927 : BitVec 32 := Scalar.addi v925 v926
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_830 : BitVec 32 := 1#32
  let v928 : BitVec 32 := Scalar.muli v9 c1_i32_830
  let v929 : BitVec 32 := Scalar.addi v927 v928
  v929.toNat
def k0_dev25 (d0 : Dev nD) : Nat :=
  let c0_i32_875 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_874 : BitVec 32 := 4#32
  let v967 : BitVec 32 := Scalar.muli v10 c4_i32_874
  let v968 : BitVec 32 := Scalar.addi c0_i32_875 v967
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_876 : BitVec 32 := 2#32
  let v969 : BitVec 32 := Scalar.muli v5 c2_i32_876
  let v970 : BitVec 32 := Scalar.addi v968 v969
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_877 : BitVec 32 := 1#32
  let v971 : BitVec 32 := Scalar.muli v8 c1_i32_877
  let v972 : BitVec 32 := Scalar.addi v970 v971
  v972.toNat
def k0_dev26 (d0 : Dev nD) : Nat :=
  let c0_i32_913 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_912 : BitVec 32 := 4#32
  let v1008 : BitVec 32 := Scalar.muli v10 c4_i32_912
  let v1009 : BitVec 32 := Scalar.addi c0_i32_913 v1008
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_914 : BitVec 32 := 2#32
  let v1010 : BitVec 32 := Scalar.muli v5 c2_i32_914
  let v1011 : BitVec 32 := Scalar.addi v1009 v1010
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_915 : BitVec 32 := 1#32
  let v1012 : BitVec 32 := Scalar.muli v8 c1_i32_915
  let v1013 : BitVec 32 := Scalar.addi v1011 v1012
  v1013.toNat
def k0_dev27 (d0 : Dev nD) : Nat :=
  let c0_i32_956 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_955 : BitVec 32 := 4#32
  let v1044 : BitVec 32 := Scalar.muli v10 c4_i32_955
  let v1045 : BitVec 32 := Scalar.addi c0_i32_956 v1044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_957 : BitVec 32 := 2#32
  let v1046 : BitVec 32 := Scalar.muli v5 c2_i32_957
  let v1047 : BitVec 32 := Scalar.addi v1045 v1046
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_958 : BitVec 32 := 1#32
  let v1048 : BitVec 32 := Scalar.muli v8 c1_i32_958
  let v1049 : BitVec 32 := Scalar.addi v1047 v1048
  v1049.toNat
def k0_dev28 (d0 : Dev nD) : Nat :=
  let c0_i32_994 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_993 : BitVec 32 := 4#32
  let v1085 : BitVec 32 := Scalar.muli v10 c4_i32_993
  let v1086 : BitVec 32 := Scalar.addi c0_i32_994 v1085
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_995 : BitVec 32 := 2#32
  let v1087 : BitVec 32 := Scalar.muli v5 c2_i32_995
  let v1088 : BitVec 32 := Scalar.addi v1086 v1087
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_996 : BitVec 32 := 1#32
  let v1089 : BitVec 32 := Scalar.muli v8 c1_i32_996
  let v1090 : BitVec 32 := Scalar.addi v1088 v1089
  v1090.toNat
def k0_dev29 (d0 : Dev nD) : Nat :=
  let c0_i32_1037 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1036 : BitVec 32 := 4#32
  let v1121 : BitVec 32 := Scalar.muli v10 c4_i32_1036
  let v1122 : BitVec 32 := Scalar.addi c0_i32_1037 v1121
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1038 : BitVec 32 := 2#32
  let v1123 : BitVec 32 := Scalar.muli v5 c2_i32_1038
  let v1124 : BitVec 32 := Scalar.addi v1122 v1123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1039 : BitVec 32 := 1#32
  let v1125 : BitVec 32 := Scalar.muli v8 c1_i32_1039
  let v1126 : BitVec 32 := Scalar.addi v1124 v1125
  v1126.toNat
abbrev stage0_0 : Fin 1 → Memref sig .tc .vmem S4096x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096 : Shape := ⟨1, ![4096]⟩
abbrev S16384x2048 : Shape := ⟨2, ![16384, 2048]⟩
abbrev S_ : Shape := ⟨0, ![]⟩
abbrev S4096x1 : Shape := ⟨2, ![4096, 1]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096, .i32⟩
  | .hbm, ⟨1, _⟩ => ⟨S16384x2048, .f32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S4096x2048, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Prog.lean ====
/-
# The kernel's body, step by step

The printed body of `custom_call` 0 is one long text. Here the same body is written as a program over a block
number `b` (the gather of a device's rows, sixteen blocks of 512 table rows) and a chunk number `j` (the exchange,
eight chunks of 256 result rows): the buffers a step touches, the step, and the whole as a chain of steps. `body_eq`
says the two are one program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Emb

open Cert.KernelIdeal Cert.KernelIdeal.Gen
open Idealize.ShloMosaic Idealize.ShloMosaic.TcCoe
open Idealize.SL Idealize.SL.Sem

variable {F : FTy → Type} [FloatOps F]

/-- A program of the TensorCore over the kernel's labels. -/
abbrev PG (F : FTy → Type) [FloatOps F] : Type 1 := Prog (TpuEff nD τ sig (Elt F) Λ₀ .tc) PUnit

/-! ## The buffers a step names -/

theorem inb_e (b : ℕ) : ∀ a, (![b % 2, 0, 0] : Fin 3 → ℕ) a + S1x512x2048.size a ≤ S2x512x2048.size a := by
  have := Nat.mod_lt b (show 0 < 2 by decide)
  intro a; fin_cases a <;> simp [S1x512x2048, S2x512x2048] <;> omega
theorem inb_z (j : ℕ) : ∀ a, (![j % 3, 0, 0] : Fin 3 → ℕ) a + S1x256x2048.size a ≤ S3x256x2048.size a := by
  have := Nat.mod_lt j (show 0 < 3 by decide)
  intro a; fin_cases a <;> simp [S1x256x2048, S3x256x2048] <;> omega
theorem inb_x (j : ℕ) : ∀ a, (![j % 2, 0, 0] : Fin 3 → ℕ) a + S1x256x2048.size a ≤ S2x256x2048.size a := by
  have := Nat.mod_lt j (show 0 < 2 by decide)
  intro a; fin_cases a <;> simp [S1x256x2048, S2x256x2048] <;> omega
theorem inb_rows (b : ℕ) : ∀ a, (![512 * (b % 16), 0] : Fin 2 → ℕ) a + S512x2048.size a ≤ S8192x2048.size a := by
  have := Nat.mod_lt b (show 0 < 16 by decide)
  intro a; fin_cases a <;> simp [S512x2048, S8192x2048] <;> omega
theorem inb_acc (j : ℕ) : ∀ a, (![256 * (j % 8), 0] : Fin 2 → ℕ) a + S256x2048.size a ≤ S2048x2048.size a := by
  have := Nat.mod_lt j (show 0 < 8 by decide)
  intro a; fin_cases a <;> simp [S256x2048, S2048x2048] <;> omega
theorem inb_s2 (j : ℕ) : ∀ a, (![j % 2] : Fin 1 → ℕ) a + S1.size a ≤ S2.size a := by
  have := Nat.mod_lt j (show 0 < 2 by decide)
  intro a; fin_cases a; simp [S1, S2]; omega
theorem inb_s3 (j : ℕ) : ∀ a, (![j % 3] : Fin 1 → ℕ) a + S1.size a ≤ S3.size a := by
  have := Nat.mod_lt j (show 0 < 3 by decide)
  intro a; fin_cases a; simp [S1, S3]; omega

/-- The rectangle of the table's staging slot block `b` uses. -/
abbrev eRect (b : ℕ) : Rect S2x512x2048 := Rect.unit (s := S2x512x2048) ![b % 2, 0, 0] S1x512x2048.size (inb_e b)
/-- The rectangle of the landing slot chunk `j` takes between the two holders of the table's halves. -/
abbrev zRect (j : ℕ) : Rect S3x256x2048 := Rect.unit (s := S3x256x2048) ![j % 3, 0, 0] S1x256x2048.size (inb_z j)
/-- The rectangle of the slot chunk `j` takes in the buffer of sums and in its landing buffer. -/
abbrev xRect (j : ℕ) : Rect S2x256x2048 := Rect.unit (s := S2x256x2048) ![j % 2, 0, 0] S1x256x2048.size (inb_x j)
/-- The rectangle of the partial rows of chunk `j`. -/
abbrev accRect (j : ℕ) : Rect S2048x2048 := Rect.unit (s := S2048x2048) ![256 * (j % 8), 0] S256x2048.size (inb_acc j)
/-- The rectangle of all partial rows. -/
abbrev accAll : Rect S2048x2048 := Rect.unit (s := S2048x2048) ![0, 0] S2048x2048.size inb_S2048x2048_S2048x2048_0_0

abbrev eBuf : Memref sig .tc .vmem S2x512x2048 .f32 := Memref.whole cc0_scratch0
abbrev accBuf : Memref sig .tc .vmem S2048x2048 .f32 := Memref.whole cc0_scratch1
abbrev zBuf : Memref sig .tc .vmem S3x256x2048 .f32 := Memref.whole cc0_scratch2
abbrev redBuf : Memref sig .tc .vmem S2x256x2048 .f32 := Memref.whole cc0_scratch3
abbrev xBuf : Memref sig .tc .vmem S2x256x2048 .f32 := Memref.whole cc0_scratch4
abbrev tabBuf : Memref sig .tc .hbm S8192x2048 .f32 := Memref.whole main_arg1
abbrev outBuf : Memref sig .tc .hbm S4096x2048 .f32 := Memref.whole main_v2
abbrev idsBuf : Memref sig .tc .vmem S4096x1 .i32 := Memref.whole cc0_stg0_0

/-- Block `b`'s staging slot, as a matrix. -/
abbrev eSlot (b : ℕ) : Memref sig .tc .vmem S512x2048 .f32 :=
  (eBuf.slice (eRect b) (fun _ => rfl)).squeeze S512x2048 squeezes_S1x512x2048_S512x2048
/-- Block `b`'s rows of the device's half of the table. -/
abbrev eRows (b : ℕ) : Memref sig .tc .hbm S512x2048 .f32 :=
  tabBuf.slice (Rect.unit (s := S8192x2048) ![512 * (b % 16), 0] S512x2048.size (inb_rows b)) (fun _ => rfl)
/-- Chunk `j` of the partial rows. -/
abbrev accChunk (j : ℕ) : Memref sig .tc .vmem S256x2048 .f32 := accBuf.slice (accRect j) (fun _ => rfl)
/-- Chunk `j`'s landing slot for the other half's partial rows. -/
abbrev zSlot (j : ℕ) : Memref sig .tc .vmem S256x2048 .f32 :=
  (zBuf.slice (zRect j) (fun _ => rfl)).squeeze S256x2048 squeezes_S1x256x2048_S256x2048
/-- Chunk `j`'s slot of sums. -/
abbrev redSlot (j : ℕ) : Memref sig .tc .vmem S256x2048 .f32 :=
  (redBuf.slice (xRect j) (fun _ => rfl)).squeeze S256x2048 squeezes_S1x256x2048_S256x2048
/-- Chunk `j`'s landing slot for the other half's sums. -/
abbrev xSlot (j : ℕ) : Memref sig .tc .vmem S256x2048 .f32 :=
  (xBuf.slice (xRect j) (fun _ => rfl)).squeeze S256x2048 squeezes_S1x256x2048_S256x2048
/-- The rows of the result chunk `j` of the device's own half goes to. -/
abbrev outOwn (d0 : Dev nD) (j : ℕ) : Memref sig .tc .hbm S256x2048 .f32 :=
  outBuf.slice (Rect.unit (s := S4096x2048) (k0_off2 d0 (BitVec.ofNat 32 (256 * (j % 8)))) S256x2048.size
    (k0_off2_inb d0 ⟨j % 8, Nat.mod_lt _ (by decide)⟩)) (fun _ => rfl)
/-- The rows of the result chunk `j` of the other half goes to. -/
abbrev outOther (d0 : Dev nD) (j : ℕ) : Memref sig .tc .hbm S256x2048 .f32 :=
  outBuf.slice (Rect.unit (s := S4096x2048) (k0_off3 d0 (BitVec.ofNat 32 (256 * (j % 8)))) S256x2048.size
    (k0_off3_inb d0 ⟨j % 8, Nat.mod_lt _ (by decide)⟩)) (fun _ => rfl)

/-! ## The semaphores a step names -/

abbrev sem2 (A : DmaSems sig S2) (j : ℕ) : DmaSem sig :=
  ((A.slice (Rect.unit (s := S2) ![j % 2] S1.size (inb_s2 j))).squeeze S_ squeezes_S1_S_).sem
abbrev sem3 (A : DmaSems sig S3) (j : ℕ) : DmaSem sig :=
  ((A.slice (Rect.unit (s := S3) ![j % 3] S1.size (inb_s3 j))).squeeze S_ squeezes_S1_S_).sem

abbrev eSem (b : ℕ) : DmaSem sig := sem2 cc0_scratch5 b
abbrev stSem (j : ℕ) : DmaSem sig := sem2 cc0_scratch6 j
abbrev st2Sem : DmaSem sig := cc0_scratch7.sem
abbrev zSend (j : ℕ) : DmaSem sig := sem3 cc0_scratch8 j
abbrev zRecv (j : ℕ) : DmaSem sig := sem3 cc0_scratch9 j
abbrev xSend (j : ℕ) : DmaSem sig := sem2 cc0_scratch10 j
abbrev xRecv (j : ℕ) : DmaSem sig := sem2 cc0_scratch11 j
abbrev zCredit : Sem sig := cc0_scratch12.sem
abbrev xCredit : Sem sig := cc0_scratch13.sem
abbrev barSem : Sem sig := (SemArray.scalar (sig.barrier 0 rfl) : Sems sig S_).sem

/-! ## The two neighbours, as the body computes them -/

/-- The device holding the other half of the table (same rows of the result). -/
abbrev zDev (d0 : Dev nD) : Dev nD := ⟨k0_dev1 d0, k0_dev1_lt d0⟩
/-- The device of the other half of the result's rows (same half of the table). -/
abbrev xDev (d0 : Dev nD) : Dev nD := ⟨k0_dev2 d0, k0_dev2_lt d0⟩

/-! ## The values a step stores -/

/-- The first row number of the device's half of the table. -/
def tabBase (d0 : Dev nD) : BitVec 32 :=
  Scalar.muli (Scalar.remsi (Scalar.divsi (Dev.word d0) 1#32) 2#32) 8192#32

/-- Block `b`'s one-hot matrix: entry `(r, k)` is one when row `r`'s number is `tabBase + 512 b + k`. -/
def oneHot (d0 : Dev nD) (b : ℕ) (ids : IVec S2048x1 32) : FVec F S2048x512 .f32 :=
  sitofp .f32 (extui 32 (cmpi .eq (broadcastTo S2048x512 ids broadcasts_S2048x1_S2048x512)
    (broadcastTo S2048x512 (addi (broadcast S1x512 (Scalar.addi (tabBase d0) (BitVec.ofNat 32 (512 * b))))
      (iota .tc S1x512 32 [1] iota_S1x512_d1_w32)) broadcasts_S1x512_S2048x512)) natLt_1_32)

/-- The one-hot matrix times the block's rows. -/
def gathered (d0 : Dev nD) (b : ℕ) (ids : IVec S2048x1 32) (e : Vec F S1x512x2048 .f32) : FVec F S2048x2048 .f32 :=
  matmul dot_S2048x512_S512x2048_S2048x2048_1_0_0_1_n_n none (oneHot d0 b ids)
    (shapeCast S512x2048 e shapeCasts_S1x512x2048_S512x2048 : FVec F S512x2048 .f32) (constant S2048x2048 .f32 0x00000000#32)

/-- What the first block leaves in the partial rows. -/
def accFirst (d0 : Dev nD) (ids : IVec S2048x1 32) (e : Vec F S1x512x2048 .f32) : FVec F S2048x2048 .f32 :=
  shapeCast S2048x2048 (gathered d0 0 ids e) shapeCasts_S2048x2048_S2048x2048

/-- What a later block leaves there. -/
def accNext (d0 : Dev nD) (b : ℕ) (ids : IVec S2048x1 32) (e : Vec F S1x512x2048 .f32) (acc : Vec F S2048x2048 .f32) :
    FVec F S2048x2048 .f32 :=
  shapeCast S2048x2048 (addf acc (gathered d0 b ids e) : FVec F S2048x2048 .f32) shapeCasts_S2048x2048_S2048x2048

/-- The sum of a device's chunk and its neighbour's. -/
def sumOf (a : Vec F S256x2048 .f32) (z : Vec F S1x256x2048 .f32) : FVec F S1x256x2048 .f32 :=
  shapeCast S1x256x2048 (addf a (shapeCast S256x2048 z shapeCasts_S1x256x2048_S256x2048 : FVec F S256x2048 .f32) : FVec F S256x2048 .f32)
    shapeCasts_S256x2048_S1x256x2048

/-! ## The steps -/

/-- Start the copy of block `b`'s rows into its staging slot. -/
def eStart (b : ℕ) (k : PG F) : PG F :=
  .op (.enqueueDma (eRows b) (.here (eSlot b)) (.dma (eSem b)) (View.wordExact_bits rfl) ((View.wordExact_bits rfl).reshape _ _)
    ⟨Or.inl rfl, trivial⟩) fun _ => k
/-- Wait for it. -/
def eWait (b : ℕ) (k : PG F) : PG F :=
  .op (.waitDma2 (eSem b) (eRows b) (eSlot b) (View.wordExact_bits rfl) ((View.wordExact_bits rfl).reshape _ _)) fun _ => k
/-- Read block `b`'s staging slot. -/
def eLoad (b : ℕ) (k : Vec F S1x512x2048 .f32 → PG F) : PG F :=
  .op (.load eBuf (eRect b).toLoadRect (View.loadsAt_vmem h_S1x512x2048)) k
/-- Read the partial rows. -/
def accLoad (k : Vec F S2048x2048 .f32 → PG F) : PG F :=
  .op (.load accBuf accAll.toLoadRect (View.loadsAt_vmem h_S2048x2048)) k
/-- Write them. -/
def accStore (w : FVec F S2048x2048 .f32) (k : PG F) : PG F :=
  .op (.store accBuf accAll w Finset.univ (View.stores_vmem_bits_univ h_S2048x2048 rfl) (.inl rfl)) fun _ => k

/-- The first block: its rows awaited, the next block's asked for, the partial rows written. -/
def eFirst (d0 : Dev nD) (ids : IVec S2048x1 32) (k : PG F) : PG F :=
  eWait 0 <| eStart 1 <| eLoad 0 fun e => accLoad fun _ => accStore (accFirst d0 ids e) k

/-- Block `b ≥ 1`: its rows awaited, the next block's asked for when there is one, the partial rows added to. -/
def eStep (d0 : Dev nD) (ids : IVec S2048x1 32) (b : ℕ) (k : PG F) : PG F :=
  eWait b <| (if b + 1 < 16 then eStart (b + 1) else id) <|
    eLoad b fun e => accLoad fun acc => accLoad fun _ => accStore (accNext d0 b ids e acc) k

/-- Send chunk `j` of the partial rows to the other half's holder. -/
def zStart (d0 : Dev nD) (j : ℕ) (k : PG F) : PG F :=
  .op (.enqueueDma (accChunk j) (.remote (Dev.tc (zDev d0)) (zSlot j) (.dma (zSend j))) (.dma (zRecv j))
    (View.wordExact_bits rfl) ((View.wordExact_bits rfl).reshape _ _) ⟨⟨rfl, Or.inl rfl⟩, trivial⟩) fun _ => k
/-- Wait for a send of chunk `j`'s size to have left, on chunk `j`'s send semaphore. -/
def zSendWait (j j' : ℕ) (k : PG F) : PG F :=
  .op (.waitDma2 (zSend j) (zSlot j) (accChunk j') ((View.wordExact_bits rfl).reshape _ _) (View.wordExact_bits rfl)) fun _ => k
/-- Wait for the other half's chunk `j`. -/
def zRecvWait (j : ℕ) (k : PG F) : PG F :=
  .op (.waitDma2 (zRecv j) (accChunk j) (zSlot j) (View.wordExact_bits rfl) ((View.wordExact_bits rfl).reshape _ _)) fun _ => k
/-- Send chunk `j`'s sums to the device of the other rows. -/
def xStart (d0 : Dev nD) (j : ℕ) (k : PG F) : PG F :=
  .op (.enqueueDma (redSlot j) (.remote (Dev.tc (xDev d0)) (xSlot j) (.dma (xSend j))) (.dma (xRecv j))
    ((View.wordExact_bits rfl).reshape _ _) ((View.wordExact_bits rfl).reshape _ _) ⟨⟨rfl, Or.inl rfl⟩, trivial⟩) fun _ => k
/-- Wait for the send of chunk `j`'s sums to have left. -/
def xSendWait (j : ℕ) (k : PG F) : PG F :=
  .op (.waitDma2 (xSend j) (xSlot j) (redSlot j) ((View.wordExact_bits rfl).reshape _ _) ((View.wordExact_bits rfl).reshape _ _)) fun _ => k
/-- Wait for the other rows' sums of chunk `j`. -/
def xRecvWait (j : ℕ) (k : PG F) : PG F :=
  .op (.waitDma2 (xRecv j) (redSlot j) (xSlot j) ((View.wordExact_bits rfl).reshape _ _) ((View.wordExact_bits rfl).reshape _ _)) fun _ => k
/-- Copy chunk `j`'s sums to the device's own rows of the result. -/
def stStart (d0 : Dev nD) (j : ℕ) (k : PG F) : PG F :=
  .op (.enqueueDma (redSlot j) (.here (outOwn d0 j)) (.dma (stSem j)) ((View.wordExact_bits rfl).reshape _ _) (View.wordExact_bits rfl)
    ⟨Or.inl rfl, trivial⟩) fun _ => k
/-- Wait for that copy. -/
def stWait (d0 : Dev nD) (j : ℕ) (k : PG F) : PG F :=
  .op (.waitDma2 (stSem j) (redSlot j) (outOwn d0 j) ((View.wordExact_bits rfl).reshape _ _) (View.wordExact_bits rfl)) fun _ => k
/-- Copy the other rows' chunk `j` to its rows of the result, and wait. -/
def st2 (d0 : Dev nD) (j : ℕ) (k : PG F) : PG F :=
  .op (.enqueueDma (xSlot j) (.here (outOther d0 j)) (.dma st2Sem) ((View.wordExact_bits rfl).reshape _ _) (View.wordExact_bits rfl)
    ⟨Or.inl rfl, trivial⟩) fun _ =>
  .op (.waitDma2 st2Sem (xSlot j) (outOther d0 j) ((View.wordExact_bits rfl).reshape _ _) (View.wordExact_bits rfl)) fun _ => k
/-- Tell the other half's holder one landing slot is free again. -/
def zCreditSignal (d0 : Dev nD) (k : PG F) : PG F := .op (.semSignal (zDev d0, .tc) zCredit (1#32).toInt) fun _ => k
def zCreditWait (k : PG F) : PG F := .op (.semWait zCredit (1#32).toInt) fun _ => k
/-- Tell the device of the other rows one landing slot is free again. -/
def xCreditSignal (d0 : Dev nD) (k : PG F) : PG F := .op (.semSignal (xDev d0, .tc) xCredit (1#32).toInt) fun _ => k
def xCreditWait (k : PG F) : PG F := .op (.semWait xCredit (1#32).toInt) fun _ => k
/-- Add the two halves' chunk `j`. -/
def reduce (j : ℕ) (k : PG F) : PG F :=
  .op (.load accBuf (accRect j).toLoadRect (View.loadsAt_vmem h_S256x2048)) fun (a : Vec F S256x2048 .f32) =>
  .op (.load zBuf (zRect j).toLoadRect (View.loadsAt_vmem h_S1x256x2048)) fun (z : Vec F S1x256x2048 .f32) =>
  .op (.load redBuf (xRect j).toLoadRect (View.loadsAt_vmem h_S1x256x2048)) fun (_ : Vec F S1x256x2048 .f32) =>
  .op (.store redBuf (xRect j) (sumOf a z) Finset.univ (View.stores_vmem_bits_univ h_S1x256x2048 rfl) (.inl rfl)) fun _ => k

/-- A step taken only when `p` holds. -/
def when (p : Prop) [Decidable p] (f : PG F → PG F) (k : PG F) : PG F := if p then f k else k

/-- Iteration `c`, first part: chunk `c + 2` goes to the other half's holder, once its slot is free there. -/
def sendAhead (d0 : Dev nD) (c : ℕ) (k : PG F) : PG F :=
  when (c + 2 < 8) (fun k => when (1 ≤ c) (fun k => zSendWait (c + 2) (c + 2) <| zCreditWait k) <| zStart d0 (c + 2) k) k
/-- Second part: the other half's chunk `c` arrives, and the sums are formed in a slot no copy reads any more. -/
def recvReduce (d0 : Dev nD) (c : ℕ) (k : PG F) : PG F :=
  zRecvWait c <| when (2 ≤ c) (fun k => xSendWait c <| stWait d0 (c - 2) k) <| reduce c <|
    when (c < 5) (zCreditSignal d0) k
/-- Third part: the sums leave, for the device of the other rows and for the result. -/
def sendSums (d0 : Dev nD) (c : ℕ) (k : PG F) : PG F :=
  when (2 ≤ c) xCreditWait <| xStart d0 c <| stStart d0 c k
/-- The other rows' chunk `j` arrives and is copied out. -/
def takeSums (d0 : Dev nD) (j : ℕ) (k : PG F) : PG F :=
  xRecvWait j <| st2 d0 j <| when (j < 6) (xCreditSignal d0) k
/-- Iteration `c` of the exchange. -/
def chunkStep (d0 : Dev nD) (c : ℕ) (k : PG F) : PG F :=
  sendAhead d0 c <| recvReduce d0 c <| sendSums d0 c <| when (1 ≤ c) (takeSums d0 (c - 1)) k

/-- Steps `a`, `a + 1`, …, `n` of them. -/
def steps (f : ℕ → PG F → PG F) : ℕ → ℕ → PG F → PG F
  | _, 0, k => k
  | a, n + 1, k => f a (steps f (a + 1) n k)

/-- What is left after the last iteration: the last chunk, and every copy still in the air. -/
def lastWaits (d0 : Dev nD) (k : PG F) : PG F :=
  takeSums d0 7 <| zSendWait 5 5 <| zSendWait 6 6 <| zSendWait 7 7 <| xSendWait 6 <| xSendWait 7 <| stWait d0 6 <| stWait d0 7 k

/-- The entry: both neighbours told and awaited, the row numbers read. -/
def entry (d0 : Dev nD) (k : IVec S2048x1 32 → PG F) : PG F :=
  .op (.semSignal (zDev d0, .tc) barSem (1#32).toInt) fun _ =>
  .op (.semSignal (xDev d0, .tc) barSem (1#32).toInt) fun _ =>
  .op (.semWait barSem (2#32).toInt) fun _ =>
  .op (.load idsBuf (Rect.unit (s := S4096x1) (k0_off1 d0) S2048x1.size (k0_off1_inb d0)).toLoadRect (View.loadsAt_vmem h_S2048x1))
    fun (v : Vec F S2048x1 .i32) => k (shapeCast S2048x1 v shapeCasts_S2048x1_S2048x1)

/-- The body. -/
def body : PG F :=
  .op .deviceId fun d0 => entry d0 fun ids =>
    eStart 0 <| eFirst d0 ids <| steps (eStep d0 ids) 1 15 <|
    zStart d0 0 <| zStart d0 1 <| steps (chunkStep d0) 0 8 <| lastWaits d0 (.ret ⟨⟩)

set_option maxRecDepth 100000 in
set_option maxHeartbeats 4000000 in
/-- The printed body is this program. -/
theorem body_eq (t : Fin cfg0.N) : bodyAt0 (F := F) t = body (F := F) := by
  rw [fin_N0 t]
  rfl

end Cert.Emb

end
-- ==== Proof.Views.lean ====
/-
# Where a step's buffers lie

The two neighbours in closed form; the semaphores' numbers; a chunk of a matrix, and the contents a slot has when it
holds it; which elements of a buffer each step's view covers, and what its reads and writes make of such contents.
-/
module

public import proofs.«01_k».proof.Proof.Prog
public import Idealize.ShloMosaic.Lib.ValueLayout

@[expose] public section

noncomputable section

namespace Cert.Emb

open Cert.KernelIdeal Cert.KernelIdeal.Gen
open Idealize.ShloMosaic Idealize.ShloMosaic.TcCoe
open Idealize.SL Idealize.SL.Sem
open Idealize.ShloMosaic.ValueIdx (ix2 ix3 eq_ix2 eq_ix3)

variable {F : FTy → Type} [FloatOps F]

/-! ## The two neighbours -/

set_option backward.proofsInPublic true in
/-- The device holding the other half of the table. -/
def pz (c : Dev nD) : Dev nD := ⟨(4 * (c.val / 4) + 2 * ((c.val / 2) % 2) + 1) - (c.val % 2), by revert c; decide⟩
set_option backward.proofsInPublic true in
/-- The device of the other half of the result's rows. -/
def px (c : Dev nD) : Dev nD := ⟨(2 * ((c.val / 2) % 2) + (c.val % 2) + 4) - 4 * (c.val / 4), by revert c; decide⟩

theorem zDev_eq (c : Dev nD) : zDev c = pz c := Fin.ext (k0_dev1_eq c)
theorem xDev_eq (c : Dev nD) : xDev c = px c := Fin.ext (k0_dev2_eq c)
theorem pz_pz (c : Dev nD) : pz (pz c) = c := by revert c; decide
theorem px_px (c : Dev nD) : px (px c) = c := by revert c; decide
theorem pz_ne (c : Dev nD) : pz c ≠ c := by revert c; decide
theorem px_ne (c : Dev nD) : px c ≠ c := by revert c; decide
theorem pz_ne_px (c : Dev nD) : pz c ≠ px c := by revert c; decide
theorem pz_half (c : Dev nD) : (pz c).val / 4 = c.val / 4 := by revert c; decide
theorem px_half (c : Dev nD) : (px c).val / 4 = 1 - c.val / 4 := by revert c; decide
theorem px_shard (c : Dev nD) : (px c).val % 2 = c.val % 2 := by revert c; decide
theorem pz_shard (c : Dev nD) : (pz c).val % 2 = 1 - c.val % 2 := by revert c; decide
theorem half_lt (c : Dev nD) : c.val / 4 < 2 := by revert c; decide

/-! ## The semaphores' numbers -/

theorem semAt_congr {S : Shape} {S' : Shape} (A : DmaSems sig S) {o o' size : Fin S.rank → ℕ} {h h'} {hs} (e : o = o') :
    ((A.slice (Rect.unit (s := S) o size h)).squeeze S' hs) = ((A.slice (Rect.unit (s := S) o' size h')).squeeze S' hs) := by
  subst e; rfl
theorem sem2_val (A : DmaSems sig S2) (j j' : ℕ) (h : j % 2 = j' % 2) : sem2 A j = sem2 A j' := by
  unfold sem2; exact congrArg SemArray.sem (semAt_congr A (by rw [h]))
theorem sem3_val (A : DmaSems sig S3) (j j' : ℕ) (h : j % 3 = j' % 3) : sem3 A j = sem3 A j' := by
  unfold sem3; exact congrArg SemArray.sem (semAt_congr A (by rw [h]))

theorem mod2_cases (j : ℕ) : j % 2 = 0 ∨ j % 2 = 1 := by omega
theorem mod3_cases (j : ℕ) : j % 3 = 0 ∨ j % 3 = 1 ∨ j % 3 = 2 := by omega

theorem eSem_val (j : ℕ) : (eSem j).val = 1 + j % 2 := by
  rcases mod2_cases j with h | h <;> rw [eSem, h]
  · rw [sem2_val _ j 0 h]; decide
  · rw [sem2_val _ j 1 h]; decide
theorem stSem_val (j : ℕ) : (stSem j).val = 3 + j % 2 := by
  rcases mod2_cases j with h | h <;> rw [stSem, h]
  · rw [sem2_val _ j 0 h]; decide
  · rw [sem2_val _ j 1 h]; decide
theorem xSend_val (j : ℕ) : (xSend j).val = 12 + j % 2 := by
  rcases mod2_cases j with h | h <;> rw [xSend, h]
  · rw [sem2_val _ j 0 h]; decide
  · rw [sem2_val _ j 1 h]; decide
theorem xRecv_val (j : ℕ) : (xRecv j).val = 14 + j % 2 := by
  rcases mod2_cases j with h | h <;> rw [xRecv, h]
  · rw [sem2_val _ j 0 h]; decide
  · rw [sem2_val _ j 1 h]; decide
theorem zSend_val (j : ℕ) : (zSend j).val = 6 + j % 3 := by
  rcases mod3_cases j with h | h | h <;> rw [zSend, h]
  · rw [sem3_val _ j 0 h]; decide
  · rw [sem3_val _ j 1 h]; decide
  · rw [sem3_val _ j 2 h]; decide
theorem zRecv_val (j : ℕ) : (zRecv j).val = 9 + j % 3 := by
  rcases mod3_cases j with h | h | h <;> rw [zRecv, h]
  · rw [sem3_val _ j 0 h]; decide
  · rw [sem3_val _ j 1 h]; decide
  · rw [sem3_val _ j 2 h]; decide
theorem st2Sem_val : st2Sem.val = 5 := by decide
theorem zCredit_val : zCredit.val = 0 := by decide
theorem xCredit_val : xCredit.val = 1 := by decide
theorem barSem_val : barSem.val = 2 := by decide

/-! ## The credit of one chunk -/

/-- What one chunk's transfer adds to a semaphore. -/
def NC : ℕ := (zSlot 0).view.dmaCredit
theorem NC_pos : 0 < NC := View.dmaCredit_pos _ (by decide)
theorem zSlot_credit (j : ℕ) : (zSlot j).view.dmaCredit = NC := rfl
theorem accChunk_credit (j : ℕ) : (accChunk j).view.dmaCredit = NC := rfl
theorem redSlot_credit (j : ℕ) : (redSlot j).view.dmaCredit = NC := rfl
theorem xSlot_credit (j : ℕ) : (xSlot j).view.dmaCredit = NC := rfl
theorem outOwn_credit (c : Dev nD) (j : ℕ) : (outOwn c j).view.dmaCredit = NC := rfl
theorem outOther_credit (c : Dev nD) (j : ℕ) : (outOther c j).view.dmaCredit = NC := rfl
/-- What one block's transfer adds. -/
def NB : ℕ := (eSlot 0).view.dmaCredit
theorem NB_pos : 0 < NB := View.dmaCredit_pos _ (by decide)
theorem eSlot_credit (j : ℕ) : (eSlot j).view.dmaCredit = NB := rfl

/-! ## Contents -/

/-- A matrix of 2048 rows. -/
abbrev Mat (F : FTy → Type) : Type := S2048x2048.Idx → Elt F .f32

/-- Rows `256 j` to `256 j + 255` of a matrix. -/
def chunk (B : Mat F) (j : ℕ) : S256x2048.Idx → Elt F .f32 := (accChunk j).view.read (Elt F) B
/-- Rows `512 b` to `512 b + 511` of a table. -/
def rows (T : S8192x2048.Idx → Elt F .f32) (b : ℕ) : S512x2048.Idx → Elt F .f32 := (eRows b).view.read (Elt F) T
/-- A three-slot buffer whose slots all hold a matrix's chunk `j`. -/
def zC (B : Mat F) (j : ℕ) : S3x256x2048.Idx → Elt F .f32 := fun i => chunk B j (ix2 (i 1) (i 2))
/-- A two-slot buffer whose slots both hold a matrix's chunk `j`. -/
def xC (B : Mat F) (j : ℕ) : S2x256x2048.Idx → Elt F .f32 := fun i => chunk B j (ix2 (i 1) (i 2))
/-- A staging buffer whose slots both hold a table's block `b`. -/
def eC (T : S8192x2048.Idx → Elt F .f32) (b : ℕ) : S2x512x2048.Idx → Elt F .f32 := fun i => rows T b (ix2 (i 1) (i 2))
/-- The result's row of index `i` within its half. -/
def fold (i : S4096x2048.Idx) : S2048x2048.Idx := ix2 ⟨(i 0).val % 2048, Nat.mod_lt _ (by decide)⟩ (i 1)
/-- The result made of two halves, `A` the half of device `c` and `B` the other. -/
def halves (c : Dev nD) (A B : Mat F) : S4096x2048.Idx → Elt F .f32 :=
  fun i => if (i 0).val / 2048 = c.val / 4 then A (fold i) else B (fold i)

/-! ## Elements -/

theorem mem_zSlot {j : ℕ} {i : S3x256x2048.Idx} : i ∈ (zSlot j).view.set ↔ (i 0).val = j % 3 := by
  have e : (zSlot j).view.set = (zRect j).set := (View.set_reshape _ _).trans (View.set_slice_whole _ _)
  refine (Eq.to_iff (congrArg (fun s : Finset S3x256x2048.Idx => i ∈ s) e)).trans (Rect.mem_set_unit.trans ?_)
  have h1 : (i 1).val < 256 := (i 1).isLt
  have h2 : (i 2).val < 2048 := (i 2).isLt
  constructor
  · intro h; have := h 0; simp [S1x256x2048] at this; omega
  · intro h a; fin_cases a <;> simp [S1x256x2048] <;> omega

theorem mem_redSlot {j : ℕ} {i : S2x256x2048.Idx} : i ∈ (redSlot j).view.set ↔ (i 0).val = j % 2 := by
  have e : (redSlot j).view.set = (xRect j).set := (View.set_reshape _ _).trans (View.set_slice_whole _ _)
  refine (Eq.to_iff (congrArg (fun s : Finset S2x256x2048.Idx => i ∈ s) e)).trans (Rect.mem_set_unit.trans ?_)
  have h1 : (i 1).val < 256 := (i 1).isLt
  have h2 : (i 2).val < 2048 := (i 2).isLt
  constructor
  · intro h; have := h 0; simp [S1x256x2048] at this; omega
  · intro h a; fin_cases a <;> simp [S1x256x2048] <;> omega

theorem mem_xSlot {j : ℕ} {i : S2x256x2048.Idx} : i ∈ (xSlot j).view.set ↔ (i 0).val = j % 2 := by
  have e : (xSlot j).view.set = (xRect j).set := (View.set_reshape _ _).trans (View.set_slice_whole _ _)
  refine (Eq.to_iff (congrArg (fun s : Finset S2x256x2048.Idx => i ∈ s) e)).trans (Rect.mem_set_unit.trans ?_)
  have h1 : (i 1).val < 256 := (i 1).isLt
  have h2 : (i 2).val < 2048 := (i 2).isLt
  constructor
  · intro h; have := h 0; simp [S1x256x2048] at this; omega
  · intro h a; fin_cases a <;> simp [S1x256x2048] <;> omega

theorem mem_eSlot {j : ℕ} {i : S2x512x2048.Idx} : i ∈ (eSlot j).view.set ↔ (i 0).val = j % 2 := by
  have e : (eSlot j).view.set = (eRect j).set := (View.set_reshape _ _).trans (View.set_slice_whole _ _)
  refine (Eq.to_iff (congrArg (fun s : Finset S2x512x2048.Idx => i ∈ s) e)).trans (Rect.mem_set_unit.trans ?_)
  have h1 : (i 1).val < 512 := (i 1).isLt
  have h2 : (i 2).val < 2048 := (i 2).isLt
  constructor
  · intro h; have := h 0; simp [S1x512x2048] at this; omega
  · intro h a; fin_cases a <;> simp [S1x512x2048] <;> omega

theorem mem_accChunk {j : ℕ} {i : S2048x2048.Idx} : i ∈ (accChunk j).view.set ↔ (i 0).val / 256 = j % 8 := by
  have e : (accChunk j).view.set = (accRect j).set := View.set_slice_whole _ _
  refine (Eq.to_iff (congrArg (fun s : Finset S2048x2048.Idx => i ∈ s) e)).trans (Rect.mem_set_unit.trans ?_)
  have h1 : (i 1).val < 2048 := (i 1).isLt
  constructor
  · intro h; have := h 0; simp [S256x2048] at this; omega
  · intro h a; fin_cases a <;> simp [S256x2048] <;> omega

/-- The offsets of the own rows of the result. -/
theorem off_own (c : Dev nD) (j : ℕ) : k0_off2 c (BitVec.ofNat 32 (256 * (j % 8))) = ![2048 * (c.val / 4) + 256 * (j % 8), 0] :=
  k0_off2_eq c ⟨j % 8, Nat.mod_lt _ (by decide)⟩
/-- The offsets of the other rows of the result. -/
theorem off_other (c : Dev nD) (j : ℕ) : k0_off3 c (BitVec.ofNat 32 (256 * (j % 8))) = ![(256 * (j % 8) + 2048) - 2048 * (c.val / 4), 0] :=
  k0_off3_eq c ⟨j % 8, Nat.mod_lt _ (by decide)⟩

theorem mem_outOwn {c : Dev nD} {j : ℕ} {i : S4096x2048.Idx} :
    i ∈ (outOwn c j).view.set ↔ (i 0).val / 256 = 8 * (c.val / 4) + j % 8 := by
  have e : (outOwn c j).view.set = (Rect.unit (s := S4096x2048) _ S256x2048.size
    (k0_off2_inb c ⟨j % 8, Nat.mod_lt _ (by decide)⟩)).set := View.set_slice_whole _ _
  refine (Eq.to_iff (congrArg (fun s : Finset S4096x2048.Idx => i ∈ s) e)).trans (Rect.mem_set_unit.trans ?_)
  have ho := off_own c j
  simp only [ho]
  have h1 : (i 1).val < 2048 := (i 1).isLt
  constructor
  · intro h; have := h 0; simp [S256x2048] at this; omega
  · intro h a; fin_cases a <;> simp [S256x2048] <;> omega

theorem mem_outOther {c : Dev nD} {j : ℕ} {i : S4096x2048.Idx} :
    i ∈ (outOther c j).view.set ↔ (i 0).val / 256 = 8 * (1 - c.val / 4) + j % 8 := by
  have e : (outOther c j).view.set = (Rect.unit (s := S4096x2048) _ S256x2048.size
    (k0_off3_inb c ⟨j % 8, Nat.mod_lt _ (by decide)⟩)).set := View.set_slice_whole _ _
  refine (Eq.to_iff (congrArg (fun s : Finset S4096x2048.Idx => i ∈ s) e)).trans (Rect.mem_set_unit.trans ?_)
  have ho := off_other c j
  have hc := half_lt c
  simp only [ho]
  have h1 : (i 1).val < 2048 := (i 1).isLt
  constructor
  · intro h; have := h 0; simp [S256x2048] at this; omega
  · intro h a; fin_cases a <;> simp [S256x2048] <;> omega

/-! ## What a step's reads make of these contents -/

/-- Writing what a view reads of `g` leaves `g` on the view's elements. -/
theorem write_read {Val : EltTy → Type} {κ sp s e} (v : View sig κ sp s e) (f g : v.ty.Contents Val) {i : v.ty.Idx}
    (hi : i ∈ v.set) : v.write Val f (v.read Val g) Finset.univ i = g i := by
  obtain ⟨x, -, rfl⟩ := Finset.mem_map.mp hi
  rw [View.write_emb_of_mem _ _ (Finset.mem_univ x), View.read_apply, cast_cast, cast_eq]

theorem zSlot_read (B : Mat F) (j : ℕ) : (zSlot j).view.read (Elt F) (zC B j) = chunk B j := by
  funext x
  obtain ⟨a, b, rfl⟩ : ∃ (a : Fin 256) (b : Fin 2048), x = ix2 a b := ⟨x 0, x 1, eq_ix2 x⟩
  refine (congrArg (fun y => zC B j ((zRect j).emb y)) (ValueIdx.reshapeEquiv_ix2_1ab _ a b)).trans ?_
  refine congrArg (chunk B j) ?_
  funext a; fin_cases a <;> exact Fin.ext ((Nat.zero_add _).trans (Nat.one_mul _))

theorem redSlot_read (B : Mat F) (j : ℕ) : (redSlot j).view.read (Elt F) (xC B j) = chunk B j := by
  funext x
  obtain ⟨a, b, rfl⟩ : ∃ (a : Fin 256) (b : Fin 2048), x = ix2 a b := ⟨x 0, x 1, eq_ix2 x⟩
  refine (congrArg (fun y => xC B j ((xRect j).emb y)) (ValueIdx.reshapeEquiv_ix2_1ab _ a b)).trans ?_
  refine congrArg (chunk B j) ?_
  funext a; fin_cases a <;> exact Fin.ext ((Nat.zero_add _).trans (Nat.one_mul _))

theorem xSlot_read (B : Mat F) (j : ℕ) : (xSlot j).view.read (Elt F) (xC B j) = chunk B j := redSlot_read B j

theorem eSlot_read (T : S8192x2048.Idx → Elt F .f32) (b : ℕ) : (eSlot b).view.read (Elt F) (eC T b) = rows T b := by
  funext x
  obtain ⟨u, v, rfl⟩ : ∃ (u : Fin 512) (v : Fin 2048), x = ix2 u v := ⟨x 0, x 1, eq_ix2 x⟩
  refine (congrArg (fun y => eC T b ((eRect b).emb y)) (ValueIdx.reshapeEquiv_ix2_1ab _ u v)).trans ?_
  refine congrArg (rows T b) ?_
  funext a; fin_cases a <;> exact Fin.ext ((Nat.zero_add _).trans (Nat.one_mul _))

/-- Reading block `b`'s slot as a stack of one matrix gives the rows. -/
theorem eLoad_val (T : S8192x2048.Idx → Elt F .f32) (b : ℕ) :
    shapeCast S512x2048 (eBuf.view.readAt (Elt F) (eRect b).toLoadRect (eC T b)) shapeCasts_S1x512x2048_S512x2048 = rows T b := by
  funext x
  obtain ⟨u, v, rfl⟩ : ∃ (u : Fin 512) (v : Fin 2048), x = ix2 u v := ⟨x 0, x 1, eq_ix2 x⟩
  refine (ValueIdx.shapeCast_1ab_ab_apply _ _ u v).trans ?_
  refine congrArg (rows T b) ?_
  funext a; fin_cases a <;> exact Fin.ext ((Nat.zero_add _).trans (Nat.one_mul _))

theorem zLoad_val (B : Mat F) (j : ℕ) :
    shapeCast S256x2048 (zBuf.view.readAt (Elt F) (zRect j).toLoadRect (zC B j)) shapeCasts_S1x256x2048_S256x2048 = chunk B j := by
  funext x
  obtain ⟨u, v, rfl⟩ : ∃ (u : Fin 256) (v : Fin 2048), x = ix2 u v := ⟨x 0, x 1, eq_ix2 x⟩
  refine (ValueIdx.shapeCast_1ab_ab_apply _ _ u v).trans ?_
  refine congrArg (chunk B j) ?_
  funext a; fin_cases a <;> exact Fin.ext ((Nat.zero_add _).trans (Nat.one_mul _))

/-- The chunk of the two halves' sum. -/
theorem sumOf_val (A B : Mat F) (j : ℕ) :
    sumOf (accBuf.view.readAt (Elt F) (accRect j).toLoadRect A) (zBuf.view.readAt (Elt F) (zRect j).toLoadRect (zC B j))
      = shapeCast S1x256x2048 (chunk (addf A B : FVec F S2048x2048 .f32) j) shapeCasts_S256x2048_S1x256x2048 := by
  unfold sumOf
  rw [zLoad_val]
  rfl

theorem redStore_val (B : Mat F) (j : ℕ) :
    (redBuf.access (xRect j)).read (Elt F) (xC B j) = shapeCast S1x256x2048 (chunk B j) shapeCasts_S256x2048_S1x256x2048 := by
  funext x
  obtain ⟨t, u, v, rfl⟩ : ∃ (t : Fin 1) (u : Fin 256) (v : Fin 2048), x = ix3 t u v := ⟨x 0, x 1, x 2, eq_ix3 x⟩
  refine Eq.trans ?_ (ValueIdx.shapeCast_ab_1ab_apply _ _ t u v).symm
  refine congrArg (chunk B j) ?_
  funext a; fin_cases a <;> exact Fin.ext ((Nat.zero_add _).trans (Nat.one_mul _))

theorem outOwn_read (c : Dev nD) (A B : Mat F) (j : ℕ) : (outOwn c j).view.read (Elt F) (halves c A B) = chunk A j := by
  funext x
  have ho := off_own c j
  have hc := half_lt c
  have hj := Nat.mod_lt j (show 0 < 8 by decide)
  have h0 : (x 0).val < 256 := (x 0).isLt
  show halves c A B ((Rect.unit (s := S4096x2048) _ S256x2048.size (k0_off2_inb c ⟨j % 8, hj⟩)).emb x) = A ((accRect j).emb x)
  unfold halves fold
  rw [if_pos]
  · congr 1
    funext a; fin_cases a <;> exact Fin.ext (by simp [Rect.emb_apply, ho] <;> omega)
  · simp [Rect.emb_apply, ho]; omega

theorem outOther_read (c : Dev nD) (A B : Mat F) (j : ℕ) : (outOther c j).view.read (Elt F) (halves c A B) = chunk B j := by
  funext x
  have ho := off_other c j
  have hc := half_lt c
  have hj := Nat.mod_lt j (show 0 < 8 by decide)
  have h0 : (x 0).val < 256 := (x 0).isLt
  show halves c A B ((Rect.unit (s := S4096x2048) _ S256x2048.size (k0_off3_inb c ⟨j % 8, hj⟩)).emb x) = B ((accRect j).emb x)
  unfold halves fold
  rw [if_neg]
  · congr 1
    funext a; fin_cases a <;> exact Fin.ext (by simp [Rect.emb_apply, ho] <;> omega)
  · simp [Rect.emb_apply, ho]; omega

end Cert.Emb

end
-- ==== Proof.Common.lean ====
/-
# The protocol

Three exchanges run between the devices. Every device tells its two neighbours, on the runtime's barrier semaphore, that
its landing slots are open. Chunk `j` of the partial rows goes to the device of the other half of the table into landing
slot `j % 3`, and chunk `j` of the sums to the device of the other rows into landing slot `j % 2`; a transfer raises a
send cell here and a receive cell there, chunk `j` in round `j / 3` or `j / 2` of its slot's cells. A reader gives a slot
back on a credit cell. Credits run ahead of the writer, so a slot given back lies in an invariant from which the writer
takes it (`Release`), and a credit carries only the news that it lies there.
-/
module

public import proofs.«01_k».proof.Proof.Views
public import Idealize.ShloMosaic.Lib.Pipeline.Launch
public import Idealize.ShloMosaic.Lib.Pipeline.Kit
public import Idealize.ShloMosaic.Lib.Transfers
public import Idealize.ShloMosaic.Lib.Release
public import Idealize.ShloMosaic.Lib.Tactic

@[expose] public section

noncomputable section

namespace Cert.Emb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Idealize.ShloMosaic.Release (USlots slotInv slot readerAt released writeTok)
open Idealize.ShloMosaic.Transfers (Flight)

variable {F : FTy → Type} [FloatOps F]

/-! ## The ghost state: the pipeline's rounds, the protocol's rounds, the slots' releases, the local copies' counters -/

/-- A landing slot: its device and its place, three for the other half's rows and two for the other rows. -/
abbrev Key : Type := Dev nD × Fin 5
abbrev UB : Type := URounds (GSem nD τ sig) ℕ
abbrev UT : Type := USlots Key × Counters
abbrev UU : Type := UR sig nD τ × (UB × UT)

local notation "𝕄" => MT nD τ sig ℕ (Elt F) ℕ UU ℕ

abbrev EP : Emb (UR sig nD τ) (MT nD τ sig ℕ (Elt F) ℕ UU ℕ) := embL
/-- The protocol's rounds. -/
abbrev ER : Emb UB (MT nD τ sig ℕ (Elt F) ℕ UU ℕ) := (Emb.inl : Emb UB (UB × UT)).trans embR
/-- The slots' releases. -/
abbrev ES : Emb (USlots Key) (MT nD τ sig ℕ (Elt F) ℕ UU ℕ) :=
  ((Emb.inl : Emb (USlots Key) UT).trans (Emb.inr : Emb UT (UB × UT))).trans embR
abbrev EC : UEmb Counters (MT nD τ sig ℕ (Elt F) ℕ UU ℕ) := countersEmb

/-- A program's weakest precondition on device `c`. -/
abbrev WP (c : Dev nD) (p : PG F) (Q : PUnit → sProp 𝕄) : sProp 𝕄 :=
  wp frame (wpE (defs₀ (F := F)) Variants.none (c : Thread nD τ) none) Set.univ p Q

/-! ## Cells -/

abbrev barC (c : Dev nD) : GSem nD τ sig := ((c : Thread nD τ), .reg barSem)
abbrev zsC (c : Dev nD) (j : ℕ) : GSem nD τ sig := ((c : Thread nD τ), .dma (zSend j))
abbrev zrC (c : Dev nD) (j : ℕ) : GSem nD τ sig := ((c : Thread nD τ), .dma (zRecv j))
abbrev xsC (c : Dev nD) (j : ℕ) : GSem nD τ sig := ((c : Thread nD τ), .dma (xSend j))
abbrev xrC (c : Dev nD) (j : ℕ) : GSem nD τ sig := ((c : Thread nD τ), .dma (xRecv j))
abbrev zcC (c : Dev nD) : GSem nD τ sig := ((c : Thread nD τ), .reg zCredit)
abbrev xcC (c : Dev nD) : GSem nD τ sig := ((c : Thread nD τ), .reg xCredit)

/-- What a semaphore is for. -/
inductive Kind' where
  | bar | zs (s : ℕ) | zr (s : ℕ) | xs (s : ℕ) | xr (s : ℕ) | zc | xc | own

/-- A semaphore's use, by its number. -/
def kindOf : SemLoc sig → Kind'
  | .reg s => if s.val = 0 then .zc else if s.val = 1 then .xc else .bar
  | .dma q => if q.val < 6 then .own else if q.val < 9 then .zs (q.val - 6) else if q.val < 12 then .zr (q.val - 9)
      else if q.val < 14 then .xs (q.val - 12) else .xr (q.val - 14)

theorem kind_bar : kindOf (.reg barSem) = .bar := by rfl
theorem kind_zc : kindOf (.reg zCredit) = .zc := by rfl
theorem kind_xc : kindOf (.reg xCredit) = .xc := by rfl
theorem kind_zs (j : ℕ) : kindOf (.dma (zSend j)) = .zs (j % 3) := by
  have := zSend_val j; have := Nat.mod_lt j (show 0 < 3 by decide)
  unfold kindOf; simp only [*]
  rw [if_neg (by omega), if_pos (by omega)]; congr 1; omega
theorem kind_zr (j : ℕ) : kindOf (.dma (zRecv j)) = .zr (j % 3) := by
  have := zRecv_val j; have := Nat.mod_lt j (show 0 < 3 by decide)
  unfold kindOf; simp only [*]
  rw [if_neg (by omega), if_neg (by omega), if_pos (by omega)]; congr 1; omega
theorem kind_xs (j : ℕ) : kindOf (.dma (xSend j)) = .xs (j % 2) := by
  have := xSend_val j; have := Nat.mod_lt j (show 0 < 2 by decide)
  unfold kindOf; simp only [*]
  rw [if_neg (by omega), if_neg (by omega), if_neg (by omega), if_pos (by omega)]; congr 1; omega
theorem kind_xr (j : ℕ) : kindOf (.dma (xRecv j)) = .xr (j % 2) := by
  have := xRecv_val j; have := Nat.mod_lt j (show 0 < 2 by decide)
  unfold kindOf; simp only [*]
  rw [if_neg (by omega), if_neg (by omega), if_neg (by omega), if_neg (by omega)]; congr 1; omega

/-! ## Pieces of the buffers -/

abbrev accL (c : Dev nD) : Loc nD τ sig := (c : Thread nD τ).loc cc0_scratch1
abbrev zL (c : Dev nD) : Loc nD τ sig := (c : Thread nD τ).loc cc0_scratch2
abbrev redL (c : Dev nD) : Loc nD τ sig := (c : Thread nD τ).loc cc0_scratch3
abbrev xL (c : Dev nD) : Loc nD τ sig := (c : Thread nD τ).loc cc0_scratch4
abbrev outL (c : Dev nD) : Loc nD τ sig := (c : Thread nD τ).loc main_v2

abbrev qL : PosShare TreeShare := fullShare.left
abbrev qR : PosShare TreeShare := fullShare.right

/-- Chunk `j` of the partial rows at share `q`, the rows holding `B`. -/
def accP (c : Dev nD) (j : ℕ) (q : PosShare TreeShare) (B : Mat F) : sProp 𝕄 := accL c ↦[(accChunk j).view.set]{q} B
def zP (c : Dev nD) (j : ℕ) (f : Buf (Elt F) (zL c)) : sProp 𝕄 := zL c ↦[(zSlot j).view.set]{fullShare} f
def redP (c : Dev nD) (j : ℕ) (q : PosShare TreeShare) (f : Buf (Elt F) (redL c)) : sProp 𝕄 := redL c ↦[(redSlot j).view.set]{q} f
def xP (c : Dev nD) (j : ℕ) (f : Buf (Elt F) (xL c)) : sProp 𝕄 := xL c ↦[(xSlot j).view.set]{fullShare} f
def ownP (c : Dev nD) (j : ℕ) (f : Buf (Elt F) (outL c)) : sProp 𝕄 := outL c ↦[(outOwn c j).view.set]{fullShare} f
def otherP (c : Dev nD) (j : ℕ) (f : Buf (Elt F) (outL c)) : sProp 𝕄 := outL c ↦[(outOther c j).view.set]{fullShare} f

instance accP_storable (c : Dev nD) (j q) (B : Mat F) : Storable (upEmb : UEmb _ 𝕄) (accP c j q B) := by unfold accP; infer_instance
instance zP_storable (c : Dev nD) (j f) : Storable (upEmb : UEmb _ 𝕄) (zP (F := F) c j f) := by unfold zP; infer_instance
instance redP_storable (c : Dev nD) (j q f) : Storable (upEmb : UEmb _ 𝕄) (redP (F := F) c j q f) := by unfold redP; infer_instance
instance xP_storable (c : Dev nD) (j f) : Storable (upEmb : UEmb _ 𝕄) (xP (F := F) c j f) := by unfold xP; infer_instance

theorem zSet_congr {j j' : ℕ} (h : j % 3 = j' % 3) : (zSlot j).view.set = (zSlot j').view.set := by
  ext i; exact mem_zSlot.trans (Eq.to_iff (by rw [h]) |>.trans mem_zSlot.symm)
theorem redSet_congr {j j' : ℕ} (h : j % 2 = j' % 2) : (redSlot j).view.set = (redSlot j').view.set := by
  ext i; exact mem_redSlot.trans (Eq.to_iff (by rw [h]) |>.trans mem_redSlot.symm)
theorem xSet_congr {j j' : ℕ} (h : j % 2 = j' % 2) : (xSlot j).view.set = (xSlot j').view.set := by
  ext i; exact mem_xSlot.trans (Eq.to_iff (by rw [h]) |>.trans mem_xSlot.symm)
theorem zP_congr (c : Dev nD) {j j' : ℕ} (h : j % 3 = j' % 3) (f) : zP (F := F) c j f = zP c j' f := by unfold zP; rw [zSet_congr h]
theorem redP_congr (c : Dev nD) {j j' : ℕ} (h : j % 2 = j' % 2) (q f) : redP (F := F) c j q f = redP c j' q f := by unfold redP; rw [redSet_congr h]
theorem xP_congr (c : Dev nD) {j j' : ℕ} (h : j % 2 = j' % 2) (f) : xP (F := F) c j f = xP c j' f := by unfold xP; rw [xSet_congr h]

/-- A slot of sums at the full share is its two halves. -/
theorem redP_halves (c : Dev nD) (j f) : (redP (F := F) c j fullShare f) ⊣⊢ iprop(redP c j qL f ∗ redP c j qR f) :=
  pointsTo_share (PosShare.mem_left_op_right _)
theorem accP_halves (c : Dev nD) (j) (B : Mat F) : (accP (F := F) c j fullShare B) ⊣⊢ iprop(accP c j qL B ∗ accP c j qR B) :=
  pointsTo_share (PosShare.mem_left_op_right _)

/-! ## Slots and their releases -/

def zKey (c : Dev nD) (j : ℕ) : Key := (c, ⟨j % 3, by omega⟩)
def xKey (c : Dev nD) (j : ℕ) : Key := (c, ⟨3 + j % 2, by omega⟩)
theorem zKey_congr (c : Dev nD) {j j' : ℕ} (h : j % 3 = j' % 3) : zKey c j = zKey c j' := by unfold zKey; simp only [h]
theorem xKey_congr (c : Dev nD) {j j' : ℕ} (h : j % 2 = j' % 2) : xKey c j = xKey c j' := by unfold xKey; simp only [h]

/-- The elements of chunk `j`'s landing slot for the other rows. -/
abbrev xSet (j : ℕ) : Finset S2x256x2048.Idx := (xSlot j).view.set

/-- The slot of a key, at any contents. -/
def slotOf (k : Key) : sProp 𝕄 :=
  if k.2.val < 3 then slot (zL k.1) (zSlot k.2.val).view.set else slot (xL k.1) (xSet (k.2.val - 3))
instance slotOf_storable (k : Key) : Storable (upEmb : UEmb _ 𝕄) (slotOf (F := F) k) := by
  unfold slotOf; split <;> infer_instance
theorem slotOf_z (c : Dev nD) (j : ℕ) : slotOf (F := F) (zKey c j) = iprop(∃ f, zP c j f) := by
  have := Nat.mod_lt j (show 0 < 3 by decide)
  unfold slotOf zKey; rw [if_pos this]; unfold slot zP; rw [zSet_congr (Nat.mod_mod j 3)]
theorem slotOf_x (c : Dev nD) (j : ℕ) : slotOf (F := F) (xKey c j) = iprop(∃ f, xP c j f) := by
  unfold slotOf xKey; rw [if_neg (by dsimp only; omega)]; unfold slot xP xSet
  rw [xSet_congr (j := 3 + j % 2 - 3) (j' := j) (by omega)]
theorem slotOf_excl (k : Key) : iprop(slotOf (F := F) k ∗ slotOf k) ⊢ (False : sProp 𝕄) := by
  have h5 := k.2.isLt
  unfold slotOf; split
  · exact Release.slot_slot_false ⟨ix3 ⟨k.2.val, by assumption⟩ 0 0, mem_zSlot.mpr (Nat.mod_eq_of_lt (by assumption)).symm⟩
  · exact Release.slot_slot_false ⟨ix3 ⟨k.2.val - 3, by omega⟩ 0 0, mem_xSlot.mpr (Nat.mod_eq_of_lt (show k.2.val - 3 < 2 by omega)).symm⟩

/-- Chunk `j`'s landing slot at device `c` is open: given back `j / 3 + 1` times, its cell in round `j / 3`. -/
def canZ (c : Dev nD) (j : ℕ) : sProp 𝕄 := iprop(released ES (zKey c j) (j / 3 + 1) ∗ reached ER (zrC c j) (j / 3))
def canX (c : Dev nD) (j : ℕ) : sProp 𝕄 := iprop(released ES (xKey c j) (j / 2 + 1) ∗ reached ER (xrC c j) (j / 2))
instance canZ_persistent (c : Dev nD) (j) : BI.Persistent (canZ (F := F) c j) := by unfold canZ; infer_instance
instance canX_persistent (c : Dev nD) (j) : BI.Persistent (canX (F := F) c j) := by unfold canX; infer_instance
instance canZ_storable (c : Dev nD) (j) : Storable (upEmb : UEmb _ 𝕄) (canZ (F := F) c j) := by unfold canZ; infer_instance
instance canX_storable (c : Dev nD) (j) : Storable (upEmb : UEmb _ 𝕄) (canX (F := F) c j) := by unfold canX; infer_instance

/-- What a device tells a neighbour at the entry: its landing slots are open, and so is its cell for the neighbour's credits. -/
def toldZ (c : Dev nD) : sProp 𝕄 := iprop(bigSep (Finset.range 3) (canZ c) ∗ reached ER (zcC c) 0)
def toldX (c : Dev nD) : sProp 𝕄 := iprop(bigSep (Finset.range 2) (canX c) ∗ reached ER (xcC c) 0)
instance toldZ_persistent (c : Dev nD) : BI.Persistent (toldZ (F := F) c) := by unfold toldZ; infer_instance
instance toldX_persistent (c : Dev nD) : BI.Persistent (toldX (F := F) c) := by unfold toldX; infer_instance
instance toldZ_storable (c : Dev nD) : Storable (upEmb : UEmb _ 𝕄) (toldZ (F := F) c) := by unfold toldZ; infer_instance
instance toldX_storable (c : Dev nD) : Storable (upEmb : UEmb _ 𝕄) (toldX (F := F) c) := by unfold toldX; infer_instance

/-! ## The schedule -/

/-- The sum of the two halves' partial rows. -/
def sumv (A : Dev nD → Mat F) (c : Dev nD) : Mat F := (addf (A c) (A (pz c)) : FVec F S2048x2048 .f32)
/-- The result on device `c`. -/
def outv (A : Dev nD → Mat F) (c : Dev nD) : S4096x2048.Idx → Elt F .f32 := halves c (sumv A c) (sumv A (px c))

/-- What duty `d` of round `r` hands the owner of a cell of device `c`. -/
def pay (A : Dev nD → Mat F) (c : Dev nD) (k : Kind') (r d : ℕ) : sProp 𝕄 :=
  match k with
  | .bar => if d = 0 then toldZ (pz c) else toldX (px c)
  | .zs s => accP c (3 * r + s) qL (A c)
  | .zr s => zP c (3 * r + s) (zC (A (pz c)) (3 * r + s))
  | .xs s => redP c (2 * r + s) qL (xC (sumv A c) (2 * r + s))
  | .xr s => xP c (2 * r + s) (xC (sumv A (px c)) (2 * r + s))
  | .zc => bigSep (Finset.range (d + 1)) (fun i => canZ (pz c) (i + 3))
  | .xc => bigSep (Finset.range (d + 1)) (fun i => canX (px c) (i + 2))
  | .own => iprop(emp)

/-- The duties of round `r`. -/
def duts (k : Kind') (r : ℕ) : Finset ℕ :=
  match k with
  | .bar => if r = 0 then {0, 1} else ∅
  | .zs s => if 3 * r + s < 8 then {0} else ∅
  | .zr s => if 3 * r + s < 8 then {0} else ∅
  | .xs s => if 2 * r + s < 8 then {0} else ∅
  | .xr s => if 2 * r + s < 8 then {0} else ∅
  | .zc => if r = 0 then Finset.range 5 else ∅
  | .xc => if r = 0 then Finset.range 6 else ∅
  | .own => ∅

def amt (k : Kind') : ℕ :=
  match k with
  | .bar | .zc | .xc => 1
  | _ => NC

variable (A : Dev nD → Mat F)

/-- The protocol's schedule, the devices' partial rows being `A`. -/
def Rd : Rounds.Schedule (GSem nD τ sig) ℕ 𝕄 where
  duties g r := if g.1.2 = .tc then duts (kindOf g.2) r else ∅
  amount g _ _ := amt (kindOf g.2)
  payload g r d := pay A g.1.1 (kindOf g.2) r d
  amount_pos g _ _ _ := by
    show 0 < amt (kindOf g.2)
    unfold amt; split <;> first | exact Nat.one_pos | exact NC_pos

instance Rd_storable (g : GSem nD τ sig) (r d : ℕ) : Storable (upEmb : UEmb _ 𝕄) ((Rd A).payload g r d) := by
  show Storable upEmb (pay A g.1.1 (kindOf g.2) r d)
  unfold pay
  split
  · split <;> infer_instance
  all_goals infer_instance

section Sched
variable (c : Dev nD)

theorem duties_tc (c : Dev nD) (sm : SemLoc sig) (r : ℕ) : (Rd A).duties ((c : Thread nD τ), sm) r = duts (kindOf sm) r := by
  dsimp only [Rd]; exact if_pos rfl
theorem amount_tc (c : Dev nD) (sm : SemLoc sig) (r d : ℕ) : (Rd A).amount ((c : Thread nD τ), sm) r d = amt (kindOf sm) := rfl
theorem payload_tc (c : Dev nD) (sm : SemLoc sig) (r d : ℕ) : (Rd A).payload ((c : Thread nD τ), sm) r d = pay A c (kindOf sm) r d := rfl

theorem duties_zs {j : ℕ} (h : j < 8) : (Rd A).duties (zsC c j) (j / 3) = {0} := by
  rw [duties_tc, kind_zs]; exact if_pos (by omega)
theorem duties_zr {j : ℕ} (h : j < 8) : (Rd A).duties (zrC c j) (j / 3) = {0} := by
  rw [duties_tc, kind_zr]; exact if_pos (by omega)
theorem duties_xs {j : ℕ} (h : j < 8) : (Rd A).duties (xsC c j) (j / 2) = {0} := by
  rw [duties_tc, kind_xs]; exact if_pos (by omega)
theorem duties_xr {j : ℕ} (h : j < 8) : (Rd A).duties (xrC c j) (j / 2) = {0} := by
  rw [duties_tc, kind_xr]; exact if_pos (by omega)
theorem none_zs {j : ℕ} (h : 8 ≤ j) (r : ℕ) (hr : j / 3 ≤ r) : (Rd A).duties (zsC c j) r = ∅ := by
  rw [duties_tc, kind_zs]; exact if_neg (by omega)
theorem none_zr {j : ℕ} (h : 8 ≤ j) (r : ℕ) (hr : j / 3 ≤ r) : (Rd A).duties (zrC c j) r = ∅ := by
  rw [duties_tc, kind_zr]; exact if_neg (by omega)
theorem none_xs {j : ℕ} (h : 8 ≤ j) (r : ℕ) (hr : j / 2 ≤ r) : (Rd A).duties (xsC c j) r = ∅ := by
  rw [duties_tc, kind_xs]; exact if_neg (by omega)
theorem none_xr {j : ℕ} (h : 8 ≤ j) (r : ℕ) (hr : j / 2 ≤ r) : (Rd A).duties (xrC c j) r = ∅ := by
  rw [duties_tc, kind_xr]; exact if_neg (by omega)
theorem duties_bar : (Rd A).duties (barC c) 0 = {0, 1} := by rw [duties_tc, kind_bar]; rfl
theorem duties_zc : (Rd A).duties (zcC c) 0 = Finset.range 5 := by rw [duties_tc, kind_zc]; rfl
theorem duties_xc : (Rd A).duties (xcC c) 0 = Finset.range 6 := by rw [duties_tc, kind_xc]; rfl
theorem none_bar (r : ℕ) (hr : 1 ≤ r) : (Rd A).duties (barC c) r = ∅ := by rw [duties_tc, kind_bar]; exact if_neg (by omega)
theorem none_zc (r : ℕ) (hr : 1 ≤ r) : (Rd A).duties (zcC c) r = ∅ := by rw [duties_tc, kind_zc]; exact if_neg (by omega)
theorem none_xc (r : ℕ) (hr : 1 ≤ r) : (Rd A).duties (xcC c) r = ∅ := by rw [duties_tc, kind_xc]; exact if_neg (by omega)

theorem payload_zs (j d : ℕ) : (Rd A).payload (zsC c j) (j / 3) d = accP c j qL (A c) := by
  rw [payload_tc, kind_zs]; show accP c (3 * (j / 3) + j % 3) qL (A c) = _; rw [Nat.div_add_mod]
theorem payload_zr (j d : ℕ) : (Rd A).payload (zrC c j) (j / 3) d = zP c j (zC (A (pz c)) j) := by
  rw [payload_tc, kind_zr]; show zP c (3 * (j / 3) + j % 3) (zC (A (pz c)) (3 * (j / 3) + j % 3)) = _; rw [Nat.div_add_mod]
theorem payload_xs (j d : ℕ) : (Rd A).payload (xsC c j) (j / 2) d = redP c j qL (xC (sumv A c) j) := by
  rw [payload_tc, kind_xs]; show redP c (2 * (j / 2) + j % 2) qL (xC (sumv A c) (2 * (j / 2) + j % 2)) = _; rw [Nat.div_add_mod]
theorem payload_xr (j d : ℕ) : (Rd A).payload (xrC c j) (j / 2) d = xP c j (xC (sumv A (px c)) j) := by
  rw [payload_tc, kind_xr]; show xP c (2 * (j / 2) + j % 2) (xC (sumv A (px c)) (2 * (j / 2) + j % 2)) = _; rw [Nat.div_add_mod]
theorem payload_bar0 : (Rd A).payload (barC c) 0 0 = toldZ (pz c) := by rw [payload_tc, kind_bar]; rfl
theorem payload_bar1 : (Rd A).payload (barC c) 0 1 = toldX (px c) := by rw [payload_tc, kind_bar]; rfl
theorem payload_zc (r d : ℕ) : (Rd A).payload (zcC c) r d = bigSep (Finset.range (d + 1)) (fun i => canZ (pz c) (i + 3)) := by
  rw [payload_tc, kind_zc]; rfl
theorem payload_xc (r d : ℕ) : (Rd A).payload (xcC c) r d = bigSep (Finset.range (d + 1)) (fun i => canX (px c) (i + 2)) := by
  rw [payload_tc, kind_xc]; rfl

theorem amount_bar (r d : ℕ) : (Rd A).amount (barC c) r d = 1 := by rw [amount_tc, kind_bar]; rfl
theorem amount_zc (r d : ℕ) : (Rd A).amount (zcC c) r d = 1 := by rw [amount_tc, kind_zc]; rfl
theorem amount_xc (r d : ℕ) : (Rd A).amount (xcC c) r d = 1 := by rw [amount_tc, kind_xc]; rfl
theorem amount_zs (j r d : ℕ) : (Rd A).amount (zsC c j) r d = NC := by rw [amount_tc, kind_zs]; rfl
theorem amount_zr (j r d : ℕ) : (Rd A).amount (zrC c j) r d = NC := by rw [amount_tc, kind_zr]; rfl
theorem amount_xs (j r d : ℕ) : (Rd A).amount (xsC c j) r d = NC := by rw [amount_tc, kind_xs]; rfl
theorem amount_xr (j r d : ℕ) : (Rd A).amount (xrC c j) r d = NC := by rw [amount_tc, kind_xr]; rfl

/-- A round of one duty expects that duty's amount. -/
theorem expect_one {g : GSem nD τ sig} {r N : ℕ} (hd : (Rd A).duties g r = {0}) (ha : (Rd A).amount g r 0 = N) : (Rd A).expect g r = N := by
  unfold Schedule.expect Schedule.amountOf; rw [hd, Finset.sum_singleton, ha]
theorem expect_unit {g : GSem nD τ sig} {r : ℕ} (ha : ∀ d, (Rd A).amount g r d = 1) : (Rd A).expect g r = ((Rd A).duties g r).card := by
  unfold Schedule.expect Schedule.amountOf; rw [Finset.sum_congr rfl fun d _ => ha d, Finset.sum_const, smul_eq_mul, Nat.mul_one]

end Sched

/-! ## Levels and what a device owes -/

/-- The indices of the tallies: a wait may come before everything owed at a larger index. -/
def iz (j : ℕ) : ℕ := 10 * (j + 1) + 1
def izc (k : ℕ) : ℕ := 10 * (k + 3) + 2
def ix (j : ℕ) : ℕ := 10 * (j + 3) + 3
def ixc (k : ℕ) : ℕ := 10 * (k + 4) + 4

def L (g : GSem nD τ sig) : Finset ℕ := if g.1.2 = .tc then Finset.range 200 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 200 := if_pos rfl

/-- What device `c` still owes after `a` chunks of partial rows and `e` chunks of sums sent, `b` and `f` credits given. -/
def owe (c : Dev nD) (a b e f : ℕ) : CellTallies nD τ sig ℕ :=
  ((∑ j ∈ Finset.Ico a 8, tallyAt (zrC (pz c) j) (iz j) NC) + (∑ k ∈ Finset.Ico b 5, tallyAt (zcC (pz c)) (izc k) 1))
    + ((∑ j ∈ Finset.Ico e 8, tallyAt (xrC (px c) j) (ix j) NC) + (∑ k ∈ Finset.Ico f 6, tallyAt (xcC (px c)) (ixc k) 1))

/-- Index `i` lies below everything still owed. -/
def below (i a b e f : ℕ) : Prop := i < 200 ∧ (a < 8 → i < iz a) ∧ (b < 5 → i < izc b) ∧ (e < 8 → i < ix e) ∧ (f < 6 → i < ixc f)

theorem tally_sum_pos {ι : Type} {s : Finset ι} {G : ι → GSem nD τ sig} {I : ι → ℕ} {n : ℕ} {g : GSem nD τ sig} {u : ℕ}
    (h : 0 < (∑ j ∈ s, tallyAt (G j) (I j) n : CellTallies nD τ sig ℕ) g u) : ∃ j ∈ s, g = G j ∧ u = I j := by
  classical
  by_contra hn
  push Not at hn
  rw [Finset.sum_apply, Finsupp.finset_sum_apply, Finset.sum_eq_zero] at h
  · exact Nat.lt_irrefl 0 h
  · intro j hj
    rw [tallyAt_apply, if_neg (fun h' => hn j hj h'.1 h'.2)]

theorem owe_pos {c : Dev nD} {a b e f : ℕ} {g : GSem nD τ sig} {u : ℕ} (h : 0 < owe c a b e f g u) :
    g.1.2 = .tc ∧ ((∃ j, a ≤ j ∧ j < 8 ∧ u = iz j) ∨ (∃ k, b ≤ k ∧ k < 5 ∧ u = izc k) ∨ (∃ j, e ≤ j ∧ j < 8 ∧ u = ix j)
      ∨ (∃ k, f ≤ k ∧ k < 6 ∧ u = ixc k)) := by
  unfold owe at h
  rw [Pi.add_apply, Finsupp.add_apply, Pi.add_apply, Finsupp.add_apply, Pi.add_apply, Finsupp.add_apply] at h
  have h' : 0 < (∑ j ∈ Finset.Ico a 8, tallyAt (zrC (pz c) j) (iz j) NC : CellTallies nD τ sig ℕ) g u
      ∨ 0 < (∑ k ∈ Finset.Ico b 5, tallyAt (zcC (pz c)) (izc k) 1 : CellTallies nD τ sig ℕ) g u
      ∨ 0 < (∑ j ∈ Finset.Ico e 8, tallyAt (xrC (px c) j) (ix j) NC : CellTallies nD τ sig ℕ) g u
      ∨ 0 < (∑ k ∈ Finset.Ico f 6, tallyAt (xcC (px c)) (ixc k) 1 : CellTallies nD τ sig ℕ) g u := by omega
  rcases h' with h' | h' | h' | h' <;> obtain ⟨j, hj, rfl, rfl⟩ := tally_sum_pos h' <;> rw [Finset.mem_Ico] at hj
  · exact ⟨rfl, .inl ⟨j, hj.1, hj.2, rfl⟩⟩
  · exact ⟨rfl, .inr (.inl ⟨j, hj.1, hj.2, rfl⟩)⟩
  · exact ⟨rfl, .inr (.inr (.inl ⟨j, hj.1, hj.2, rfl⟩))⟩
  · exact ⟨rfl, .inr (.inr (.inr ⟨j, hj.1, hj.2, rfl⟩))⟩

/-- A wait at an index below everything owed may be waited. -/
theorem mayWait_of (d : Dev nD) (sm : SemLoc sig) {c : Dev nD} {i a b e f : ℕ} (h : below i a b e f) :
    (levAts L lv : sProp 𝕄) ⊢ MayWait (d : Thread nD τ) sm i (owe c a b e f) := by
  obtain ⟨h0, h1, h2, h3, h4⟩ := h
  refine MayOwe.of_cut (L := L) (lev := lv) i (fun p hp => by rw [Finset.mem_singleton.mp hp, L_tc]; exact Finset.mem_range.mpr h0)
    (fun g u hg => ?_) (fun p hp => by rw [Finset.mem_singleton.mp hp]; exact le_rfl) (fun g u hg => ?_)
  · obtain ⟨ht, hu⟩ := owe_pos hg
    unfold L; rw [if_pos ht, Finset.mem_range]
    unfold iz izc ix ixc at hu; omega
  · obtain ⟨ht, hu⟩ := owe_pos hg
    show i < u
    unfold iz izc ix ixc at *; omega

end Cert.Emb

end
-- ==== Proof.Ops.lean ====
/-
# Waiting on a cell, crediting, and runs of consecutive resources

Rules each step of the body uses: the wait for a whole round of one of the device's cells, the wait for one unit of a
credit cell whose units come in any order, and the splitting of a run of resources indexed by consecutive numbers.
-/
module

public import proofs.«01_k».proof.Proof.Common

@[expose] public section

noncomputable section

namespace Cert.Emb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv slot readerAt released writeTok)
open Idealize.ShloMosaic.Transfers (Flight)

variable {F : FTy → Type} [FloatOps F]

local notation "𝕄" => MT nD τ sig ℕ (Elt F) ℕ UU ℕ

/-! ## Runs -/

theorem Ico_bot {a b : ℕ} (h : a < b) : Finset.Ico a b = insert a (Finset.Ico (a + 1) b) := by
  ext x; simp only [Finset.mem_insert, Finset.mem_Ico]; omega
theorem Ico_top {a b : ℕ} (h : a ≤ b) : Finset.Ico a (b + 1) = insert b (Finset.Ico a b) := by
  ext x; simp only [Finset.mem_insert, Finset.mem_Ico]; omega
/-- The first of a run. -/
theorem run_bot {a b : ℕ} (h : a < b) (Φ : ℕ → sProp 𝕄) :
    bigSep (Finset.Ico a b) Φ = iprop(Φ a ∗ bigSep (Finset.Ico (a + 1) b) Φ) := by
  rw [Ico_bot h, bigSep_insert (by simp)]
  rfl
/-- The last of a run. -/
theorem run_top {a b : ℕ} (h : a ≤ b) (Φ : ℕ → sProp 𝕄) :
    bigSep (Finset.Ico a (b + 1)) Φ = iprop(Φ b ∗ bigSep (Finset.Ico a b) Φ) := by
  rw [Ico_top h, bigSep_insert (by simp)]
  rfl
theorem run_nil {a b : ℕ} (h : b ≤ a) (Φ : ℕ → sProp 𝕄) : bigSep (Finset.Ico a b) Φ = (iprop(emp) : sProp 𝕄) := by
  rw [Finset.Ico_eq_empty (by omega), bigSep_empty]; rfl
/-- A run's member's persistent part, the run kept. -/
theorem run_keep {s : Finset ℕ} {Φ : ℕ → sProp 𝕄} {P : sProp 𝕄} [BI.Persistent P] {j : ℕ} (hj : j ∈ s) (h : Φ j ⊢ P) :
    bigSep s Φ ⊢ iprop(P ∗ bigSep s Φ) :=
  persistent_entails_right ((bigSep_elim hj).trans h)

/-! ## What every step knows -/

/-- The semaphores of the protocol's cells on one device. -/
def csem (i : Fin 13) : SemLoc sig :=
  if i.val = 0 then .reg barSem else if i.val < 4 then .dma (zSend (i.val - 1)) else if i.val < 7 then .dma (zRecv (i.val - 4))
  else if i.val < 9 then .dma (xSend (i.val - 7)) else if i.val < 11 then .dma (xRecv (i.val - 9))
  else if i.val = 11 then .reg zCredit else .reg xCredit
abbrev kcell (x : Dev nD × Fin 13) : GSem nD τ sig := ((x.1 : Thread nD τ), csem x.2)

variable (A : Dev nD → Mat F)

/-- Cell `g` is kept by the schedule. -/
def hasInv (g : GSem nD τ sig) : sProp 𝕄 := iprop(∃ κ, cellInv ER (Rd A) κ g)
instance hasInv_persistent (g : GSem nD τ sig) : BI.Persistent (hasInv A g) := by unfold hasInv; infer_instance
/-- A slot's release record is kept. -/
def hasSlot (k : Key) : sProp 𝕄 := iprop(∃ ι, slotInv ES ι k (slotOf (F := F) k))
instance hasSlot_persistent (k : Key) : BI.Persistent (hasSlot (F := F) k) := by unfold hasSlot; infer_instance

/-- Every cell and every slot is kept, the entry's cells are open, and the levels are known. -/
def ctx : sProp 𝕄 :=
  iprop(bigSep Finset.univ (fun x : Dev nD × Fin 13 => hasInv A (kcell x)) ∗ bigSep Finset.univ (fun k : Key => hasSlot (F := F) k)
    ∗ bigSep Finset.univ (fun d : Dev nD => reached ER (barC d) 0) ∗ levAts L lv)
instance ctx_persistent : BI.Persistent (ctx A) := by unfold ctx; infer_instance

theorem ctx_cell (x : Dev nD × Fin 13) {g : GSem nD τ sig} (h : kcell x = g) : ctx A ⊢ hasInv A g := by
  subst h; unfold ctx
  exact sep_elim_left.trans (bigSep_elim (Finset.mem_univ x))
theorem ctx_slot (k : Key) : ctx A ⊢ hasSlot (F := F) k := by
  unfold ctx
  exact sep_elim_right.trans (sep_elim_left.trans (bigSep_elim (Finset.mem_univ k)))
theorem ctx_lev : ctx A ⊢ (levAts L lv : sProp 𝕄) := by
  unfold ctx; exact sep_elim_right.trans (sep_elim_right.trans sep_elim_right)
theorem ctx_open (d : Dev nD) : ctx A ⊢ (reached ER (barC d) 0 : sProp 𝕄) := by
  unfold ctx; exact sep_elim_right.trans (sep_elim_right.trans (sep_elim_left.trans (bigSep_elim (Finset.mem_univ d))))

theorem ctx_bar (c : Dev nD) : ctx A ⊢ hasInv A (barC c) := ctx_cell A (c, 0) rfl
theorem ctx_zc (c : Dev nD) : ctx A ⊢ hasInv A (zcC c) := ctx_cell A (c, 11) rfl
theorem ctx_xc (c : Dev nD) : ctx A ⊢ hasInv A (xcC c) := ctx_cell A (c, 12) rfl
theorem ctx_zs (c : Dev nD) (j : ℕ) : ctx A ⊢ hasInv A (zsC c j) := ctx_cell A (c, ⟨1 + j % 3, by omega⟩) (by
  unfold kcell csem zsC
  rw [if_neg (by simp), if_pos (by simp; omega)]
  exact congrArg (fun q => ((c : Thread nD τ), SemLoc.dma q)) (sem3_val _ _ _ (by simp)))
theorem ctx_zr (c : Dev nD) (j : ℕ) : ctx A ⊢ hasInv A (zrC c j) := ctx_cell A (c, ⟨4 + j % 3, by omega⟩) (by
  unfold kcell csem zrC
  rw [if_neg (by simp), if_neg (by simp), if_pos (by simp; omega)]
  exact congrArg (fun q => ((c : Thread nD τ), SemLoc.dma q)) (sem3_val _ _ _ (by simp)))
theorem ctx_xs (c : Dev nD) (j : ℕ) : ctx A ⊢ hasInv A (xsC c j) := ctx_cell A (c, ⟨7 + j % 2, by omega⟩) (by
  unfold kcell csem xsC
  rw [if_neg (by simp), if_neg (by simp; omega), if_neg (by simp), if_pos (by simp; omega)]
  exact congrArg (fun q => ((c : Thread nD τ), SemLoc.dma q)) (sem2_val _ _ _ (by simp)))
theorem ctx_xr (c : Dev nD) (j : ℕ) : ctx A ⊢ hasInv A (xrC c j) := ctx_cell A (c, ⟨9 + j % 2, by omega⟩) (by
  unfold kcell csem xrC
  rw [if_neg (by simp), if_neg (by simp; omega), if_neg (by simp; omega), if_neg (by simp), if_pos (by simp; omega)]
  exact congrArg (fun q => ((c : Thread nD τ), SemLoc.dma q)) (sem2_val _ _ _ (by simp)))

/-- Device `c` owes `O`. -/
def oweW (c : Dev nD) (O : CellTallies nD τ sig ℕ) : sProp 𝕄 := iprop(∃ W, owes (c : Thread nD τ) O W)
/-- Device `c` stands at round `R` of its cell `g`. -/
def at_ (g : GSem nD τ sig) (R : ℕ) : sProp 𝕄 := iprop(atPos ER g R ∅ 0 ∗ reached ER g R)

/-- Device `c`'s right to give its `t`-th credit, the cell it goes to being open. -/
def zcTok (c : Dev nD) (t : ℕ) : sProp 𝕄 := iprop(dutyTok ER (zcC (pz c)) 0 t ∗ reached ER (zcC (pz c)) 0)
def xcTok (c : Dev nD) (t : ℕ) : sProp 𝕄 := iprop(dutyTok ER (xcC (px c)) 0 t ∗ reached ER (xcC (px c)) 0)

theorem at_reached (g : GSem nD τ sig) (R : ℕ) : at_ (F := F) g R ⊢ reached ER g R := by unfold at_; exact sep_elim_right

/-- The cell closes once no round is left. -/
theorem close_cell (g : GSem nD τ sig) {R : ℕ} (hR : ∀ r, R ≤ r → (Rd A).duties g r = ∅) :
    iprop(hasInv A g ∗ atPos ER g R ∅ 0) ⊢ (|={Set.univ}=> semVal g 0 : sProp 𝕄) := by
  unfold hasInv
  iintro ⟨⟨%κ, HI⟩, Hat⟩
  iapply (Rounds.cell_close ER (Rd A) (Set.mem_univ κ) (fun h => h) hR)
  isplitl [HI] <;> iassumption

/-- The wait for a round of one duty. -/
theorem wait_cell (c : Dev nD) (q : DmaSem sig) {R ι N : ℕ} {P : sProp 𝕄} (hd : (Rd A).duties ((c : Thread nD τ), .dma q) R = {0})
    (ha : (Rd A).amount ((c : Thread nD τ), .dma q) R 0 = N) (hp : (Rd A).payload ((c : Thread nD τ), .dma q) R 0 = P)
    {O : CellTallies nD τ sig ℕ} {sp sp' : Space} {s s' : Shape} {e e' : EltTy} {srcw : Memref sig .tc sp' s' e'} {dstw : Memref sig .tc sp s e}
    {h1 : srcw.view.WordExact} {h2 : dstw.view.WordExact} (hN : dstw.view.dmaCredit = N) {k : PUnit → PG F} {Q : PUnit → sProp 𝕄} :
    iprop(hasInv A ((c : Thread nD τ), .dma q) ∗ cred (tallyAt ((c : Thread nD τ), .dma q) ι N) ∗ oweW c O
        ∗ MayWait (c : Thread nD τ) (.dma q) ι O ∗ atPos ER ((c : Thread nD τ), .dma q) R ∅ 0)
      ⊢ iprop(((oweW c O ∗ at_ ((c : Thread nD τ), .dma q) (R + 1) ∗ P) -∗ WP c (k ⟨⟩) Q)
          -∗ WP c (.op (.waitDma2 q srcw dstw h1 h2) k) Q) := by
  subst hN
  unfold hasInv oweW at_
  iintro ⟨⟨%κ, HI⟩, Hc, ⟨%W, HO⟩, Hm, Hat⟩ Hk
  iapply (Rounds.wp_wait_rest_token Variants.none ER (Rd A) (c : Thread nD τ) none (κ := κ)
      (wpE_waitDma2_eq Variants.none (c : Thread nD τ) none Set.univ) (Set.mem_univ _) ι (O := O) (W := W) (R := R) (m := 0) (T := ∅)
      (by rw [Nat.zero_add, expect_one A hd ha])) $$ [HI Hc HO Hm Hat]
  · isplitl [HI]; · iexact HI
    isplitl [Hc]; · iexact Hc
    isplitl [HO]; · iexact HO
    isplitl [Hm]; · iexact Hm
    iexact Hat
  iintro ⟨HO, Hat, Hr, Hp⟩
  iapply Hk
  isplitl [HO]; · iexists _; iexact HO
  isplitl [Hat Hr]; · isplitl [Hat] <;> iassumption
  iapply (Entails.of_eq (show bigSep ((Rd A).duties ((c : Thread nD τ), .dma q) R \ ∅) ((Rd A).payload ((c : Thread nD τ), .dma q) R) = P by
    rw [Finset.sdiff_empty, hd, bigSep_singleton, hp])) $$ Hp

/-! ## Credits -/

/-- The owner of a credit cell of `n` units has waited for `m`: it holds what at least `m` of them brought, and the rest of
its units' tokens. -/
def Cr (g : GSem nD τ sig) (n : ℕ) (idx : ℕ → ℕ) (m : ℕ) : sProp 𝕄 :=
  iprop(∃ S : Finset ℕ, ⌜S ⊆ Finset.range n ∧ m ≤ S.card⌝ ∗ (if m < n then atPos ER g 0 S m else atPos ER g 1 ∅ 0)
    ∗ bigSep S (fun k => (Rd A).payload g 0 k) ∗ bigSep (Finset.Ico m n) (fun k => cred (tallyAt g (idx k) 1)))

/-- What a credit cell has brought: the news of some unit no earlier than the last waited for. -/
theorem Cr_pay {g : GSem nD τ sig} {n m : ℕ} {idx : ℕ → ℕ} [∀ k, BI.Persistent ((Rd A).payload g 0 k)] (hm : 0 < m) :
    Cr A g n idx m ⊢ iprop(∃ k, ⌜m ≤ k + 1⌝ ∗ (Rd A).payload g 0 k) := by
  unfold Cr
  iintro ⟨%S, %hS, -, Hp, -⟩
  obtain ⟨k, hk, hmk⟩ : ∃ k ∈ S, m ≤ k + 1 := by
    by_contra hn
    push Not at hn
    have : S ⊆ Finset.range (m - 1) := fun k hk => Finset.mem_range.mpr (by have := hn k hk; omega)
    have := Finset.card_le_card this
    rw [Finset.card_range] at this
    omega
  iexists k
  isplitr; · ipureintro; exact hmk
  iapply (show bigSep S (fun k => (Rd A).payload g 0 k) ⊢ (Rd A).payload g 0 k from bigSep_elim hk) $$ Hp

/-- The wait for one unit. -/
theorem wait_credit (c : Dev nD) (sem : Sem sig) {n m : ℕ} {idx : ℕ → ℕ} [∀ k, BI.Persistent ((Rd A).payload ((c : Thread nD τ), .reg sem) 0 k)]
    (hd : (Rd A).duties ((c : Thread nD τ), .reg sem) 0 = Finset.range n) (ha : ∀ d, (Rd A).amount ((c : Thread nD τ), .reg sem) 0 d = 1)
    (hm : m < n) {O : CellTallies nD τ sig ℕ} {k' : ℤ} (hk : k' = ((1 : ℕ) : ℤ)) {k : PUnit → PG F} {Q : PUnit → sProp 𝕄} :
    iprop(hasInv A ((c : Thread nD τ), .reg sem) ∗ Cr A ((c : Thread nD τ), .reg sem) n idx m ∗ oweW c O
        ∗ MayWait (c : Thread nD τ) (.reg sem) (idx m) O)
      ⊢ iprop(((oweW c O ∗ Cr A ((c : Thread nD τ), .reg sem) n idx (m + 1)) -∗ WP c (k ⟨⟩) Q)
          -∗ WP c (.op (.semWait sem k') k) Q) := by
  subst hk
  have he : (Rd A).expect ((c : Thread nD τ), .reg sem) 0 = n := by rw [expect_unit A ha, hd, Finset.card_range]
  unfold hasInv oweW Cr
  rw [run_bot hm]
  simp only [if_pos hm]
  by_cases hl : m + 1 < n
  · simp only [if_pos hl]
    iintro ⟨⟨%κ, HI⟩, ⟨%S, %hS, Hat, #Hp, Hc, Hcs⟩, ⟨%W, HO⟩, Hm⟩ Hk
    iapply (Rounds.wp_wait Variants.none ER (Rd A) (c : Thread nD τ) none (κ := κ)
        (wpE_semWait_eq Variants.none (c : Thread nD τ) none Set.univ) (Set.mem_univ _) (cr := Finsupp.single (idx m) 1)
        {(SemLoc.reg sem, idx m)} (O := O) (W := W) (R := 0) (m := m) (T := S)
        (by rw [Util.total_single]) (image_single_subset _ _ _)) $$ [HI Hc HO Hm Hat]
    · isplitl [HI]; · iexact HI
      isplitl [Hc]; · iexact Hc
      isplitl [HO]; · iexact HO
      isplitl [Hm]; · iexact Hm
      iexact Hat
    iintro %S' ⟨%hS', HO, Hat, #Hp'⟩
    iapply Hk
    isplitl [HO]; · iexists _; iexact HO
    iexists S'
    isplitr
    · ipureintro
      obtain ⟨h1, h2, h3⟩ := hS'
      rw [hd] at h2 h3
      rw [he, Finset.card_sdiff_of_subset h2, Finset.card_range] at h3
      have := Finset.card_le_card h2
      rw [Finset.card_range] at this
      exact ⟨h2, by omega⟩
    isplitl [Hat]; · iexact Hat
    isplitr
    · have hu : S ∪ (S' \ S) = S' := Finset.union_sdiff_of_subset hS'.1
      iapply (show iprop(bigSep S (fun k => (Rd A).payload ((c : Thread nD τ), .reg sem) 0 k)
          ∗ bigSep (S' \ S) (fun k => (Rd A).payload ((c : Thread nD τ), .reg sem) 0 k)) ⊢ _ from by
        exact Entails.of_eq ((bigSep_union Finset.disjoint_sdiff).symm.trans (congrArg (fun s => bigSep s _) hu)))
      isplitr
      · iexact Hp
      · iexact Hp'
    iexact Hcs
  · simp only [if_neg hl]
    iintro ⟨⟨%κ, HI⟩, ⟨%S, %hS, Hat, #Hp, Hc, Hcs⟩, ⟨%W, HO⟩, Hm⟩ Hk
    iapply (Rounds.wp_wait_rest_token Variants.none ER (Rd A) (c : Thread nD τ) none (κ := κ)
        (wpE_semWait_eq Variants.none (c : Thread nD τ) none Set.univ) (Set.mem_univ _) (idx m) (O := O) (W := W) (R := 0) (m := m) (T := S)
        (by rw [he]; omega)) $$ [HI Hc HO Hm Hat]
    · isplitl [HI]; · iexact HI
      isplitl [Hc]; · iexact Hc
      isplitl [HO]; · iexact HO
      isplitl [Hm]; · iexact Hm
      iexact Hat
    iintro ⟨HO, Hat, -, #Hp'⟩
    iapply Hk
    isplitl [HO]; · iexists _; iexact HO
    iexists (Finset.range n)
    isplitr
    · ipureintro; rw [Finset.card_range]; exact ⟨subset_rfl, by omega⟩
    isplitl [Hat]; · iexact Hat
    isplitr
    · have hu : S ∪ ((Rd A).duties ((c : Thread nD τ), .reg sem) 0 \ S) = Finset.range n := by
        rw [hd]; exact Finset.union_sdiff_of_subset hS.1
      iapply (show iprop(bigSep S (fun k => (Rd A).payload ((c : Thread nD τ), .reg sem) 0 k)
          ∗ bigSep ((Rd A).duties ((c : Thread nD τ), .reg sem) 0 \ S) (fun k => (Rd A).payload ((c : Thread nD τ), .reg sem) 0 k)) ⊢ _ from by
        exact Entails.of_eq ((bigSep_union Finset.disjoint_sdiff).symm.trans (congrArg (fun s => bigSep s _) hu)))
      isplitr
      · iexact Hp
      · iexact Hp'
    iexact Hcs

/-- A credit cell waited out closes. -/
theorem Cr_close {g : GSem nD τ sig} {n : ℕ} {idx : ℕ → ℕ} (hR : ∀ r, 1 ≤ r → (Rd A).duties g r = ∅) :
    iprop(hasInv A g ∗ Cr A g n idx n) ⊢ (|={Set.univ}=> semVal g 0 : sProp 𝕄) := by
  unfold Cr
  simp only [if_neg (Nat.lt_irrefl n)]
  iintro ⟨HI, ⟨%S, -, Hat, -, -⟩⟩
  iapply (close_cell A g hR)
  isplitl [HI] <;> iassumption

/-! ## What a device owes, one piece at a time -/

theorem sum_bot {a b : ℕ} (h : a < b) (f : ℕ → CellTallies nD τ sig ℕ) :
    ∑ j ∈ Finset.Ico a b, f j = f a + ∑ j ∈ Finset.Ico (a + 1) b, f j := by
  rw [Ico_bot h, Finset.sum_insert (by simp)]
theorem owe_a (c : Dev nD) {a : ℕ} (b e f : ℕ) (h : a < 8) : owe c a b e f = owe c (a + 1) b e f + tallyAt (zrC (pz c) a) (iz a) NC := by
  unfold owe; rw [sum_bot h]; ac_rfl
theorem owe_b (c : Dev nD) (a : ℕ) {b : ℕ} (e f : ℕ) (h : b < 5) : owe c a b e f = owe c a (b + 1) e f + tallyAt (zcC (pz c)) (izc b) 1 := by
  unfold owe; rw [sum_bot h]; ac_rfl
theorem owe_e (c : Dev nD) (a b : ℕ) {e : ℕ} (f : ℕ) (h : e < 8) : owe c a b e f = owe c a b (e + 1) f + tallyAt (xrC (px c) e) (ix e) NC := by
  unfold owe; rw [sum_bot h]; ac_rfl
theorem owe_f (c : Dev nD) (a b e : ℕ) {f : ℕ} (h : f < 6) : owe c a b e f = owe c a b e (f + 1) + tallyAt (xcC (px c)) (ixc f) 1 := by
  unfold owe; rw [sum_bot h]; ac_rfl
theorem owe_none (c : Dev nD) : owe c 8 5 8 6 = 0 := by
  unfold owe; simp

end Cert.Emb

end
-- ==== Proof.Local.lean ====
/-
# A device's own copies, and its additions

A copy within the device, started and awaited, by what it leaves; the forming of a chunk's sums.
-/
module

public import proofs.«01_k».proof.Proof.Ops

@[expose] public section

noncomputable section

namespace Cert.Emb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv slot readerAt released writeTok)
open Idealize.ShloMosaic.Transfers (Flight)

variable {F : FTy → Type} [FloatOps F]

local notation "𝕄" => MT nD τ sig ℕ (Elt F) ℕ UU ℕ

/-- The start of a copy whose destination will hold `g`. -/
theorem local_copy (c : Dev nD) {sp sp' : Space} {s : Shape} {e : EltTy} {src : Memref sig .tc sp s e} {dst : Memref sig .tc sp' s e}
    {sm : SemLoc sig} {h1 : src.view.WordExact} {h2 : dst.view.WordExact} {h3 : DmaTarget.Typed (nD := nD) (τ := τ) (p := .tc) sp sm (.here dst)}
    {k : PUnit → PG F} {Q : PUnit → sProp 𝕄} {q : PosShare TreeShare} {fs : Buf (Elt F) (src.view.loc (c : Thread nD τ))}
    {fd g : Buf (Elt F) (dst.view.loc (c : Thread nD τ))} {N : ℕ} (hN : dst.view.amount sm = N) (hN0 : 0 < N)
    (hg : src.view.read (Elt F) fs = dst.view.read (Elt F) g) :
    iprop((src.view.loc (c : Thread nD τ) ↦[src.view.set]{q} fs) ∗ (dst.view.loc (c : Thread nD τ) ↦[dst.view.set]{fullShare} fd)
        ∗ semVal ((c : Thread nD τ), sm) 0)
      ⊢ iprop((Flight EC (c : Thread nD τ) sm 0 N iprop((dst.view.loc (c : Thread nD τ) ↦[dst.view.set]{fullShare} g)
                  ∗ (src.view.loc (c : Thread nD τ) ↦[src.view.set]{q} fs)) -∗ WP c (k ⟨⟩) Q)
          -∗ WP c (.op (.enqueueDma src (.here dst) sm h1 h2 h3) k) Q) := by
  iintro H Hk
  iapply (Transfers.wp_dmaLocal EC Variants.none (c : Thread nD τ) none 0 N hN hN0 (Finset.Subset.refl dst.view.set) (q := q) (fs := fs) (fd := fd)) $$ H
  iintro Hf
  iapply Hk
  iapply (Transfers.Flight_mono EC (c := (c : Thread nD τ)) (sm := sm) (ι := 0) (N := N) ?_) $$ Hf
  refine sep_mono_left (Entails.of_eq (pointsTo_congr fun i hi => ?_))
  have h := write_read dst.view fd g hi
  rw [← hg] at h
  exact h

/-- The wait for a copy within the device. -/
theorem local_wait (c : Dev nD) {sem : DmaSem sig} {sp sp' : Space} {s s' : Shape} {e e' : EltTy} {srcw : Memref sig .tc sp' s' e'}
    {dstw : Memref sig .tc sp s e} {h1 : srcw.view.WordExact} {h2 : dstw.view.WordExact} {k : PUnit → PG F} {Q : PUnit → sProp 𝕄}
    {N : ℕ} (hN : dstw.view.dmaCredit = N) {D : sProp 𝕄} {O : CellTallies nD τ sig ℕ} :
    iprop(Flight EC (c : Thread nD τ) (.dma sem) 0 N D ∗ oweW c O ∗ MayWait (c : Thread nD τ) (.dma sem) 0 O)
      ⊢ iprop(((D ∗ semVal ((c : Thread nD τ), .dma sem) 0 ∗ oweW c O) -∗ WP c (k ⟨⟩) Q)
          -∗ WP c (.op (.waitDma2 sem srcw dstw h1 h2) k) Q) := by
  unfold oweW
  iintro ⟨Hf, ⟨%W, HO⟩, Hm⟩ Hk
  iapply (Transfers.wp_waitLocalO EC Variants.none (c : Thread nD τ) none 0 hN (O := O) (W := W)) $$ [Hf HO Hm]
  · isplitl [Hf]; · iexact Hf
    isplitl [HO] <;> iassumption
  iintro ⟨HD, Hv, HO⟩
  iapply Hk
  isplitl [HD]; · iexact HD
  isplitl [Hv]; · iexact Hv
  iexists _; iexact HO

/-- Waits at index 0 may always be waited. -/
theorem below_zero (a b e f : ℕ) : below 0 a b e f := by unfold below iz izc ix ixc; omega

variable (A : Dev nD → Mat F)

/-- The sums of chunk `j` are formed in their slot. -/
theorem wp_reduce (c : Dev nD) (j : ℕ) {k : PG F} {Q : PUnit → sProp 𝕄} {f : Buf (Elt F) (redL c)} :
    iprop(accP c j qR (A c) ∗ zP c j (zC (A (pz c)) j) ∗ redP c j fullShare f)
      ⊢ iprop(((accP c j qR (A c) ∗ zP c j (zC (A (pz c)) j) ∗ redP c j fullShare (xC (sumv A c) j)) -∗ WP c k Q) -∗ WP c (reduce j k) Q) := by
  have e1 : (accChunk j).view.set = accBuf.view.setOn (accRect j).toLoadRect.set := View.set_slice _ _
  have e2 : (zSlot j).view.set = zBuf.view.setOn (zRect j).toLoadRect.set := (View.set_reshape _ _).trans (View.set_slice _ _)
  have e3 : (redSlot j).view.set = redBuf.view.setOn (xRect j).toLoadRect.set := (View.set_reshape _ _).trans (View.set_slice _ _)
  have e4 : (redSlot j).view.set = (redBuf.access (xRect j)).setOn Finset.univ := View.set_reshape _ _
  unfold accP zP redP reduce
  iintro ⟨Ha, Hz, Hr⟩ Hk
  iapply (wp_load Variants.none (c : Thread nD τ) none Set.univ (m := accBuf) e1.ge) $$ Ha; iintro Ha
  iapply (wp_load Variants.none (c : Thread nD τ) none Set.univ (m := zBuf) e2.ge) $$ Hz; iintro Hz
  iapply (wp_load Variants.none (c : Thread nD τ) none Set.univ (m := redBuf) e3.ge) $$ Hr; iintro Hr
  iapply (wp_store Variants.none (c : Thread nD τ) none Set.univ (m := redBuf) (r := xRect j) (Mk := Finset.univ) e4.ge) $$ Hr; iintro Hr
  iapply Hk
  isplitl [Ha]; · iexact Ha
  isplitl [Hz]; · iexact Hz
  iapply (Entails.of_eq (pointsTo_congr fun i hi => ?_)) $$ Hr
  have h := write_read (redBuf.access (xRect j)) f (xC (sumv A c) j) (i := i) (by rw [e4] at hi; exact hi)
  rw [redStore_val] at h
  rw [sumOf_val]
  exact h

end Cert.Emb

end
-- ==== Proof.ZSteps.lean ====
/-
# The exchange of partial rows

What a device holds of the exchange with the holder of the other half of the table, and one rule per step of it.
-/
module

public import proofs.«01_k».proof.Proof.Ops

@[expose] public section

noncomputable section

namespace Cert.Emb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv slot readerAt released writeTok)
open Idealize.ShloMosaic.Transfers (Flight)

variable {F : FTy → Type} [FloatOps F]

local notation "𝕄" => MT nD τ sig ℕ (Elt F) ℕ UU ℕ

theorem zsC_congr (c : Dev nD) {j j' : ℕ} (h : j % 3 = j' % 3) : zsC c j = zsC c j' :=
  congrArg (fun q => ((c : Thread nD τ), SemLoc.dma q)) (sem3_val _ _ _ h)
theorem zrC_congr (c : Dev nD) {j j' : ℕ} (h : j % 3 = j' % 3) : zrC c j = zrC c j' :=
  congrArg (fun q => ((c : Thread nD τ), SemLoc.dma q)) (sem3_val _ _ _ h)

variable (A : Dev nD → Mat F) (c : Dev nD)

/-- The sending side after `n` chunks sent and `a` of those sends awaited. -/
def Zout (n a : ℕ) : sProp 𝕄 :=
  iprop(bigSep (Finset.Ico n 8) (fun j => iprop(accP c j qL (A c) ∗ dutyTok ER (zsC c j) (j / 3) 0 ∗ dutyTok ER (zrC (pz c) j) (j / 3) 0
      ∗ writeTok ES (zKey (pz c) j) (j / 3 + 1)))
    ∗ bigSep (Finset.Ico a n) (fun j => cred (tallyAt (zsC c j) 0 NC))
    ∗ bigSep (Finset.Ico a (a + 3)) (fun j => at_ (zsC c j) (j / 3))
    ∗ bigSep (Finset.Ico 0 a) (fun j => accP c j qL (A c)))

/-- The receiving side after `r` chunks received and `t` of their slots given back. -/
def Zin (r t : ℕ) : sProp 𝕄 :=
  iprop(bigSep (Finset.Ico r (r + 3)) (fun j => at_ (zrC c j) (j / 3))
    ∗ bigSep (Finset.Ico r 8) (fun j => cred (tallyAt (zrC c j) (iz j) NC))
    ∗ bigSep (Finset.Ico t (t + 3)) (fun j => readerAt ES (zKey c j) (j / 3 + 1))
    ∗ bigSep (Finset.Ico t r) (fun j => zP c j (zC (A (pz c)) j))
    ∗ bigSep (Finset.Ico t 5) (fun k => zcTok c k)
    ∗ bigSep (Finset.range t) (fun i => canZ (F := F) c (i + 3)))

theorem zSlot_amount (j : ℕ) (q : DmaSem sig) : (zSlot j).view.amount (.dma q) = NC := zSlot_credit j
/-- Every two devices are joined. -/
theorem joined (c c' : Dev nD) : τ.routes (c : Thread nD τ) (c' : Thread nD τ) = true := by routes

/-- The send of a chunk of partial rows into an open slot. -/
theorem send_z (d' : Dev nD) (hd : d' = pz c) {j : ℕ} (hj : j < 8) {O₀ O : CellTallies nD τ sig ℕ}
    (hO : O₀ = O + tallyAt (zrC (pz c) j) (iz j) NC) {hsc : (zSlot j : Memref sig (Dev.tc d' : Thread nD τ).2.kind .vmem S256x2048 .f32).view.ref.isScScratch = false}
    {h1 : (accChunk j).view.WordExact} {h2 : (zSlot j).view.WordExact}
    {h3 : DmaTarget.Typed .vmem (.dma (zRecv j)) (.remote (Dev.tc d' : Thread nD τ) (zSlot j) (.dma (zSend j)) hsc)}
    {k : PUnit → PG F} {Q : PUnit → sProp 𝕄} {fd : Buf (Elt F) (zL (pz c))} :
    iprop(hasInv A (zsC c j) ∗ hasInv A (zrC (pz c) j) ∗ accP c j qL (A c) ∗ zP (pz c) j fd ∗ oweW c O₀
        ∗ dutyTok ER (zsC c j) (j / 3) 0 ∗ reached ER (zsC c j) (j / 3)
        ∗ dutyTok ER (zrC (pz c) j) (j / 3) 0 ∗ reached ER (zrC (pz c) j) (j / 3))
      ⊢ iprop(((cred (tallyAt (zsC c j) 0 NC) ∗ oweW c O) -∗ WP c (k ⟨⟩) Q)
          -∗ WP c (.op (.enqueueDma (accChunk j) (.remote (Dev.tc d' : Thread nD τ) (zSlot j) (.dma (zSend j)) hsc) (.dma (zRecv j)) h1 h2 h3) k) Q) := by
  subst hd
  unfold hasInv oweW
  iintro ⟨⟨%κ₁, H1⟩, ⟨%κ₂, H2⟩, Hs, Hd, ⟨%W, HO⟩, Ht1, Hr1, Ht2, Hr2⟩ Hk
  unfold accP zP
  iapply (Rounds.wp_send_pointsTo Variants.none ER (Rd A) (c : Thread nD τ) none (κ₁ := κ₁) (κ₂ := κ₂)
      (r₁ := j / 3) (r₂ := j / 3) (d₁ := 0) (d₂ := 0) (q := qL) (fs := A c) (fd := fd)
      (by rw [duties_zs A c hj]; exact Finset.mem_singleton_self _) (by rw [duties_zr A (pz c) hj]; exact Finset.mem_singleton_self _)
      (iz j) 0 NC (zSlot_amount _ _) (amount_zs A c j _ _) (amount_zr A (pz c) j _ _) O hO (W := W) (hr := joined _ _)
      (by rw [payload_zs]; exact BI.Entails.refl _)
      (by
        rw [payload_zr, pz_pz]; unfold zP
        refine Entails.of_eq (pointsTo_congr fun i hi => ?_)
        have := write_read (zSlot j).view fd (zC (A c) j) hi
        rw [zSlot_read] at this
        exact this)) $$ [H1 H2 Hs Hd HO Ht1 Hr1 Ht2 Hr2]
  · isplitl [H1]; · iexact H1
    isplitl [H2]; · iexact H2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-- A slot known open is taken. -/
theorem take_z {j : ℕ} : iprop(ctx A ∗ canZ (pz c) j ∗ writeTok ES (zKey (pz c) j) (j / 3 + 1))
    ⊢ (|={Set.univ}=> ∃ f, zP (pz c) j f : sProp 𝕄) := by
  unfold canZ
  iintro ⟨#Hctx, ⟨Hrel, -⟩, Hw⟩
  ihave Hs := (ctx_slot A (zKey (pz c) j)) $$ Hctx
  unfold hasSlot
  icases Hs with ⟨%ι, Hs⟩
  imod (Release.slot_take ES (S := slotOf (F := F) (zKey (pz c) j)) (Set.mem_univ ι) (j / 3 + 1)) $$ [Hs Hrel Hw] with H
  · isplitl [Hs]; · iexact Hs
    isplitl [Hrel] <;> iassumption
  imodintro
  iapply (Entails.of_eq (slotOf_z (F := F) (pz c) j)) $$ H

/-- Chunk `n` of the partial rows is sent. -/
theorem wp_zStart {n a : ℕ} (hn : n < 8) (ha : a ≤ n) (hna : n < a + 3) (b e f : ℕ) {k : PG F} {Q : PUnit → sProp 𝕄} :
    iprop(ctx A ∗ canZ (pz c) n ∗ Zout A c n a ∗ oweW c (owe c n b e f))
      ⊢ iprop(((Zout A c (n + 1) a ∗ oweW c (owe c (n + 1) b e f)) -∗ WP c k Q) -∗ WP c (zStart c n k) Q) := by
  unfold Zout zStart
  rw [run_bot (b := 8) hn, run_top (b := n) ha]
  iintro ⟨#Hctx, #Hcan, ⟨⟨⟨Hs, Ht1, Ht2, Hw⟩, Htodo⟩, Hcs, Hat, Hdone⟩, HO⟩ Hk
  imod (take_z A c) $$ [Hw] with ⟨%fd, Hd⟩
  · isplitr; · iexact Hctx
    isplitr; · iexact Hcan
    iexact Hw
  ihave Hat := (run_keep (P := reached ER (zsC c n) (n / 3)) (Finset.mem_Ico.mpr ⟨ha, hna⟩) (at_reached (zsC c n) (n / 3))) $$ Hat
  icases Hat with ⟨#Hr, Hat⟩
  unfold canZ
  icases Hcan with ⟨-, Hr2⟩
  iapply (send_z A c (zDev c) (zDev_eq c) hn (owe_a c b e f hn)) $$ [Hs Hd HO Ht1 Ht2]
  · isplitr; · iapply (ctx_zs A c n) $$ Hctx
    isplitr; · iapply (ctx_zr A (pz c) n) $$ Hctx
    isplitl [Hs]; · iexact Hs
    isplitl [Hd]; · iexact Hd
    isplitl [HO]; · iexact HO
    isplitl [Ht1]; · iexact Ht1
    isplitr; · iexact Hr
    isplitl [Ht2]; · iexact Ht2
    iexact Hr2
  iintro ⟨Hc, HO⟩
  iapply Hk
  isplitr [HO]
  · isplitl [Htodo]; · iexact Htodo
    isplitl [Hc Hcs]; · isplitl [Hc] <;> iassumption
    isplitl [Hat] <;> iassumption
  iexact HO

/-- A send is awaited: its chunk is the device's again. -/
theorem wp_zSendWait {n a j : ℕ} (j' : ℕ) (hj : j % 3 = a % 3) (ha : a < n) (ha8 : a < 8) (x b e f : ℕ) {k : PG F} {Q : PUnit → sProp 𝕄} :
    iprop(ctx A ∗ Zout A c n a ∗ oweW c (owe c x b e f))
      ⊢ iprop(((Zout A c n (a + 1) ∗ oweW c (owe c x b e f)) -∗ WP c k Q) -∗ WP c (zSendWait j j' k) Q) := by
  unfold Zout zSendWait
  have hs : zSend j = zSend a := sem3_val _ _ _ hj
  rw [run_bot (b := n) ha, run_bot (b := a + 3) (by omega), run_top (a := a + 1) (b := a + 3) (by omega), run_top (a := 0) (b := a) (by omega), hs]
  iintro ⟨#Hctx, ⟨Htodo, ⟨Hc, Hcs⟩, ⟨Hat, Hats⟩, Hdone⟩, HO⟩ Hk
  unfold at_
  icases Hat with ⟨Hat, -⟩
  iapply (wait_cell A c (zSend a) (R := a / 3) (ι := 0) (duties_zs A c ha8) (amount_zs A c a _ _) (payload_zs A c a 0) (accChunk_credit j'))
    $$ [Hc HO Hat]
  · isplitr; · iapply (ctx_zs A c a) $$ Hctx
    isplitl [Hc]; · iexact Hc
    isplitl [HO]; · iexact HO
    isplitr
    · iapply (mayWait_of c (.dma (zSend a)) (show below 0 x b e f by unfold below iz izc ix ixc; omega))
      iapply (ctx_lev A) $$ Hctx
    iexact Hat
  iintro ⟨HO, Hat, Hp⟩
  iapply Hk
  isplitr [HO]
  · isplitl [Htodo]; · iexact Htodo
    isplitl [Hcs]; · iexact Hcs
    isplitl [Hat Hats]
    · isplitl [Hat]
      · iapply (Entails.of_eq (show at_ (F := F) (zsC c a) (a / 3 + 1) = iprop(atPos ER (zsC c (a + 3)) ((a + 3) / 3) ∅ 0 ∗ reached ER (zsC c (a + 3)) ((a + 3) / 3)) by
          unfold at_; rw [zsC_congr c (show a % 3 = (a + 3) % 3 by omega), show a / 3 + 1 = (a + 3) / 3 by omega])) $$ Hat
      · iexact Hats
    isplitl [Hp] <;> iassumption
  iexact HO

/-- The other half's chunk `r` has arrived. -/
theorem wp_zRecvWait {r t : ℕ} (hr : r < 8) (htr : t ≤ r) {a b e f : ℕ} (hb : below (iz r) a b e f) {k : PG F} {Q : PUnit → sProp 𝕄} :
    iprop(ctx A ∗ Zin A c r t ∗ oweW c (owe c a b e f))
      ⊢ iprop(((Zin A c (r + 1) t ∗ oweW c (owe c a b e f)) -∗ WP c k Q) -∗ WP c (zRecvWait r k) Q) := by
  unfold Zin zRecvWait
  rw [run_bot (b := 8) hr, run_bot (a := r) (b := r + 3) (by omega), run_top (a := r + 1) (b := r + 3) (by omega), run_top (a := t) (b := r) htr]
  iintro ⟨#Hctx, ⟨⟨Hat, Hats⟩, ⟨Hc, Hcs⟩, Hrd, Hz, Ht, Hf⟩, HO⟩ Hk
  unfold at_
  icases Hat with ⟨Hat, -⟩
  iapply (wait_cell A c (zRecv r) (R := r / 3) (ι := iz r) (duties_zr A c hr) (amount_zr A c r _ _) (payload_zr A c r 0) (zSlot_credit r))
    $$ [Hc HO Hat]
  · isplitr; · iapply (ctx_zr A c r) $$ Hctx
    isplitl [Hc]; · iexact Hc
    isplitl [HO]; · iexact HO
    isplitr
    · iapply (mayWait_of c (.dma (zRecv r)) hb)
      iapply (ctx_lev A) $$ Hctx
    iexact Hat
  iintro ⟨HO, Hat, Hp⟩
  iapply Hk
  isplitr [HO]
  · isplitl [Hat Hats]
    · isplitl [Hat]
      · iapply (Entails.of_eq (show at_ (F := F) (zrC c r) (r / 3 + 1) = iprop(atPos ER (zrC c (r + 3)) ((r + 3) / 3) ∅ 0 ∗ reached ER (zrC c (r + 3)) ((r + 3) / 3)) by
          unfold at_; rw [zrC_congr c (show r % 3 = (r + 3) % 3 by omega), show r / 3 + 1 = (r + 3) / 3 by omega])) $$ Hat
      · iexact Hats
    isplitl [Hcs]; · iexact Hcs
    isplitl [Hrd]; · iexact Hrd
    isplitl [Hp Hz]; · isplitl [Hp] <;> iassumption
    isplitl [Ht] <;> iassumption
  iexact HO

/-- One credit is awaited. -/
theorem wp_zCreditWait {m : ℕ} (hm : m < 5) {a b e f : ℕ} (hb : below (izc m) a b e f) {k : PG F} {Q : PUnit → sProp 𝕄} :
    iprop(ctx A ∗ Cr A (zcC c) 5 izc m ∗ oweW c (owe c a b e f))
      ⊢ iprop(((oweW c (owe c a b e f) ∗ Cr A (zcC c) 5 izc (m + 1)) -∗ WP c k Q) -∗ WP c (zCreditWait k) Q) := by
  unfold zCreditWait
  haveI : ∀ k, BI.Persistent ((Rd A).payload (zcC c) 0 k) := fun k => by rw [payload_zc]; infer_instance
  iintro ⟨#Hctx, HCr, HO⟩ Hk
  iapply (wait_credit A c zCredit (idx := izc) (duties_zc A c) (amount_zc A c 0) hm (by decide)) $$ [HCr HO]
  · isplitr; · iapply (ctx_zc A c) $$ Hctx
    isplitl [HCr]; · iexact HCr
    isplitl [HO]; · iexact HO
    iapply (mayWait_of c (.reg zCredit) hb)
    iapply (ctx_lev A) $$ Hctx
  iexact Hk

/-- The `m`-th credit says the slot of the chunk three later than `m - 1` is open. -/
theorem Cr_canZ {m : ℕ} (hm : 0 < m) : Cr A (zcC c) 5 izc m ⊢ iprop(canZ (F := F) (pz c) (m + 2) ∗ Cr A (zcC c) 5 izc m) := by
  haveI : ∀ k, BI.Persistent ((Rd A).payload (zcC c) 0 k) := fun k => by rw [payload_zc]; infer_instance
  refine persistent_entails_right ((Cr_pay A hm).trans ?_)
  iintro ⟨%k, %hk, Hp⟩
  iapply (show (Rd A).payload (zcC c) 0 k ⊢ canZ (F := F) (pz c) (m + 2) from by
    rw [payload_zc]
    have := bigSep_elim (Φ := fun i => canZ (F := F) (pz c) (i + 3)) (Finset.mem_range.mpr (show m - 1 < k + 1 by omega))
    rwa [show m - 1 + 3 = m + 2 by omega] at this) $$ Hp

/-- A credit is given. -/
theorem signal_z (d' : Dev nD) (hd : d' = pz c) {t : ℕ} (ht : t < 5) (a e f : ℕ) {k : PUnit → PG F} {Q : PUnit → sProp 𝕄} :
    iprop(ctx A ∗ bigSep (Finset.range (t + 1)) (fun i => canZ (F := F) c (i + 3)) ∗ zcTok c t ∗ oweW c (owe c a t e f))
      ⊢ iprop((oweW c (owe c a (t + 1) e f) -∗ WP c (k ⟨⟩) Q) -∗ WP c (.op (.semSignal (d', .tc) zCredit (1#32).toInt) k) Q) := by
  subst hd
  unfold zcTok
  iintro ⟨#Hctx, Hf, ⟨Ht, Hr⟩, HO⟩ Hk
  ihave HI := (ctx_zc A (pz c)) $$ Hctx
  unfold hasInv oweW
  icases HI with ⟨%κ, HI⟩
  icases HO with ⟨%W, HO⟩
  iapply (Rounds.wp_signal Variants.none ER (Rd A) (c : Thread nD τ) none (dst := (pz c : Thread nD τ)) (κ := κ) (r := 0)
      (d := t) (by rw [duties_zc]; exact Finset.mem_range.mpr ht) ((amount_zc A (pz c) 0 t).trans (by decide)) (izc t) (owe c a (t + 1) e f)
      (owe_b c a e f ht) (W := W)) $$ [HI HO Ht Hf Hr]
  · isplitl [HI]; · iexact HI
    isplitl [HO]; · iexact HO
    isplitl [Ht]; · iexact Ht
    isplitl [Hf]
    · iapply (Entails.of_eq (show bigSep (Finset.range (t + 1)) (fun i => canZ (F := F) c (i + 3)) = (Rd A).payload (zcC (pz c)) 0 t by
        rw [payload_zc, pz_pz])) $$ Hf
    iexact Hr
  iintro HO
  iapply Hk
  iexists W; iexact HO

/-- The oldest slot in hand is given back, and the sender told. -/
theorem wp_zCreditSignal {t : ℕ} (ht : t < 5) (a e f : ℕ) {k : PG F} {Q : PUnit → sProp 𝕄} :
    iprop(ctx A ∗ Zin A c (t + 1) t ∗ oweW c (owe c a t e f))
      ⊢ iprop(((Zin A c (t + 1) (t + 1) ∗ oweW c (owe c a (t + 1) e f)) -∗ WP c k Q) -∗ WP c (zCreditSignal c k) Q) := by
  unfold Zin zCreditSignal
  rw [run_bot (a := t) (b := t + 3) (by omega), run_top (a := t + 1) (b := t + 3) (by omega), run_top (a := t + 1) (b := t + 3) (by omega), run_bot (a := t) (b := t + 1) (by omega),
    run_nil (le_refl (t + 1)), run_bot (a := t) (b := 5) ht]
  iintro ⟨#Hctx, ⟨⟨Hat, Hats⟩, Hcs, ⟨Hrd, Hrds⟩, ⟨Hz, -⟩, ⟨Ht, Hts⟩, #Hf⟩, HO⟩ Hk
  ihave Hat := (persistent_entails_right (at_reached (F := F) (zrC c (t + 3)) ((t + 3) / 3))) $$ Hat
  icases Hat with ⟨#Hr, Hat⟩
  ihave Hs := (ctx_slot A (zKey c t)) $$ Hctx
  unfold hasSlot
  icases Hs with ⟨%ι, Hs⟩
  imod (Release.slot_release ES (S := slotOf (F := F) (zKey c t)) (Set.mem_univ ι) (slotOf_excl _) (t / 3 + 1)) $$ [Hs Hrd Hz] with ⟨Hrd, #Hrel⟩
  · isplitl [Hs]; · iexact Hs
    isplitl [Hrd]; · iexact Hrd
    iapply (Entails.of_eq (slotOf_z (F := F) c t).symm)
    iexists _; iexact Hz
  ihave #Hf' : bigSep (Finset.range (t + 1)) (fun i => canZ (F := F) c (i + 3)) $$ []
  · iapply (Entails.of_eq (show iprop(canZ (F := F) c (t + 3) ∗ bigSep (Finset.range t) (fun i => canZ (F := F) c (i + 3)))
        = bigSep (Finset.range (t + 1)) (fun i => canZ (F := F) c (i + 3)) by
      rw [Finset.range_add_one, bigSep_insert Finset.notMem_range_self]; rfl))
    isplitr
    · unfold canZ
      isplitr
      · iapply (Entails.of_eq (show released ES (zKey c t) (t / 3 + 1 + 1) = (released ES (zKey c (t + 3)) ((t + 3) / 3 + 1) : sProp 𝕄) by
          rw [zKey_congr c (show t % 3 = (t + 3) % 3 by omega), show t / 3 + 1 + 1 = (t + 3) / 3 + 1 by omega])) $$ Hrel
      · iexact Hr
    · iexact Hf
  iapply (signal_z A c (zDev c) (zDev_eq c) ht a e f) $$ [Ht HO]
  · isplitr; · iexact Hctx
    isplitr; · iexact Hf'
    isplitl [Ht] <;> iassumption
  iintro HO
  iapply Hk
  isplitr [HO]
  · isplitl [Hat Hats]; · isplitl [Hat] <;> iassumption
    isplitl [Hcs]; · iexact Hcs
    isplitl [Hrd Hrds]
    · isplitl [Hrd]
      · iapply (Entails.of_eq (show readerAt ES (zKey c t) (t / 3 + 1 + 1) = (readerAt ES (zKey c (t + 3)) ((t + 3) / 3 + 1) : sProp 𝕄) by
          rw [zKey_congr c (show t % 3 = (t + 3) % 3 by omega), show t / 3 + 1 + 1 = (t + 3) / 3 + 1 by omega])) $$ Hrd
      · iexact Hrds
    isplitr; · iempintro
    isplitl [Hts]; · iexact Hts
    iexact Hf'
  iexact HO

end Cert.Emb

end
-- ==== Proof.XSteps.lean ====
/-
# The exchange of sums

What a device holds of the exchange with the device of the other half of the result's rows, and one rule per step of it.
-/
module

public import proofs.«01_k».proof.Proof.Local
public import proofs.«01_k».proof.Proof.ZSteps

@[expose] public section

noncomputable section

namespace Cert.Emb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv slot readerAt released writeTok)
open Idealize.ShloMosaic.Transfers (Flight)

variable {F : FTy → Type} [FloatOps F]

local notation "𝕄" => MT nD τ sig ℕ (Elt F) ℕ UU ℕ

theorem xsC_congr (c : Dev nD) {j j' : ℕ} (h : j % 2 = j' % 2) : xsC c j = xsC c j' :=
  congrArg (fun q => ((c : Thread nD τ), SemLoc.dma q)) (sem2_val _ _ _ h)
theorem xrC_congr (c : Dev nD) {j j' : ℕ} (h : j % 2 = j' % 2) : xrC c j = xrC c j' :=
  congrArg (fun q => ((c : Thread nD τ), SemLoc.dma q)) (sem2_val _ _ _ h)

variable (A : Dev nD → Mat F) (c : Dev nD)

/-- The sending side after `n` chunks sent and `a` of those sends awaited. -/
def Xout (n a : ℕ) : sProp 𝕄 :=
  iprop(bigSep (Finset.Ico n 8) (fun j => iprop(dutyTok ER (xsC c j) (j / 2) 0 ∗ dutyTok ER (xrC (px c) j) (j / 2) 0
      ∗ writeTok ES (xKey (px c) j) (j / 2 + 1)))
    ∗ bigSep (Finset.Ico a n) (fun j => cred (tallyAt (xsC c j) 0 NC))
    ∗ bigSep (Finset.Ico a (a + 2)) (fun j => at_ (xsC c j) (j / 2)))

/-- The receiving side after `r` chunks received and `t` of their slots given back. -/
def Xin (r t : ℕ) : sProp 𝕄 :=
  iprop(bigSep (Finset.Ico r (r + 2)) (fun j => at_ (xrC c j) (j / 2))
    ∗ bigSep (Finset.Ico r 8) (fun j => cred (tallyAt (xrC c j) (ix j) NC))
    ∗ bigSep (Finset.Ico t (t + 2)) (fun j => readerAt ES (xKey c j) (j / 2 + 1))
    ∗ bigSep (Finset.Ico t r) (fun j => xP c j (xC (sumv A (px c)) j))
    ∗ bigSep (Finset.Ico t 6) (fun k => xcTok c k)
    ∗ bigSep (Finset.range t) (fun i => canX (F := F) c (i + 2)))

theorem xSlot_amount (j : ℕ) (q : DmaSem sig) : (xSlot j).view.amount (.dma q) = NC := xSlot_credit j

/-- The send of a chunk of sums into an open slot. -/
theorem send_x (d' : Dev nD) (hd : d' = px c) {j : ℕ} (hj : j < 8) {O₀ O : CellTallies nD τ sig ℕ}
    (hO : O₀ = O + tallyAt (xrC (px c) j) (ix j) NC) {hsc : (xSlot j : Memref sig (Dev.tc d' : Thread nD τ).2.kind .vmem S256x2048 .f32).view.ref.isScScratch = false}
    {h1 : (redSlot j).view.WordExact} {h2 : (xSlot j).view.WordExact}
    {h3 : DmaTarget.Typed .vmem (.dma (xRecv j)) (.remote (Dev.tc d' : Thread nD τ) (xSlot j) (.dma (xSend j)) hsc)}
    {k : PUnit → PG F} {Q : PUnit → sProp 𝕄} {fd : Buf (Elt F) (xL (px c))} :
    iprop(hasInv A (xsC c j) ∗ hasInv A (xrC (px c) j) ∗ redP c j qL (xC (sumv A c) j) ∗ xP (px c) j fd ∗ oweW c O₀
        ∗ dutyTok ER (xsC c j) (j / 2) 0 ∗ reached ER (xsC c j) (j / 2)
        ∗ dutyTok ER (xrC (px c) j) (j / 2) 0 ∗ reached ER (xrC (px c) j) (j / 2))
      ⊢ iprop(((cred (tallyAt (xsC c j) 0 NC) ∗ oweW c O) -∗ WP c (k ⟨⟩) Q)
          -∗ WP c (.op (.enqueueDma (redSlot j) (.remote (Dev.tc d' : Thread nD τ) (xSlot j) (.dma (xSend j)) hsc) (.dma (xRecv j)) h1 h2 h3) k) Q) := by
  subst hd
  unfold hasInv oweW
  iintro ⟨⟨%κ₁, H1⟩, ⟨%κ₂, H2⟩, Hs, Hd, ⟨%W, HO⟩, Ht1, Hr1, Ht2, Hr2⟩ Hk
  unfold redP xP
  iapply (Rounds.wp_send_pointsTo Variants.none ER (Rd A) (c : Thread nD τ) none (κ₁ := κ₁) (κ₂ := κ₂)
      (r₁ := j / 2) (r₂ := j / 2) (d₁ := 0) (d₂ := 0) (q := qL) (fs := xC (sumv A c) j) (fd := fd)
      (by rw [duties_xs A c hj]; exact Finset.mem_singleton_self _) (by rw [duties_xr A (px c) hj]; exact Finset.mem_singleton_self _)
      (ix j) 0 NC (xSlot_amount _ _) (amount_xs A c j _ _) (amount_xr A (px c) j _ _) O hO (W := W) (hr := joined _ _)
      (by rw [payload_xs]; unfold redP; exact BI.Entails.refl _)
      (by
        rw [payload_xr, px_px]; unfold xP
        refine Entails.of_eq (pointsTo_congr fun i hi => ?_)
        have := write_read (xSlot j).view fd (xC (sumv A c) j) hi
        rw [xSlot_read] at this
        rw [redSlot_read]
        exact this)) $$ [H1 H2 Hs Hd HO Ht1 Hr1 Ht2 Hr2]
  · isplitl [H1]; · iexact H1
    isplitl [H2]; · iexact H2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-- A slot known open is taken. -/
theorem take_x {j : ℕ} : iprop(ctx A ∗ canX (px c) j ∗ writeTok ES (xKey (px c) j) (j / 2 + 1))
    ⊢ (|={Set.univ}=> ∃ f, xP (px c) j f : sProp 𝕄) := by
  unfold canX
  iintro ⟨#Hctx, ⟨Hrel, -⟩, Hw⟩
  ihave Hs := (ctx_slot A (xKey (px c) j)) $$ Hctx
  unfold hasSlot
  icases Hs with ⟨%ι, Hs⟩
  imod (Release.slot_take ES (S := slotOf (F := F) (xKey (px c) j)) (Set.mem_univ ι) (j / 2 + 1)) $$ [Hs Hrel Hw] with H
  · isplitl [Hs]; · iexact Hs
    isplitl [Hrel] <;> iassumption
  imodintro
  iapply (Entails.of_eq (slotOf_x (F := F) (px c) j)) $$ H

/-- Chunk `n` of the sums is sent. -/
theorem wp_xStart {n a : ℕ} (hn : n < 8) (ha : a ≤ n) (hna : n < a + 2) (b e f : ℕ) {k : PG F} {Q : PUnit → sProp 𝕄} :
    iprop(ctx A ∗ canX (px c) n ∗ redP c n qL (xC (sumv A c) n) ∗ Xout c n a ∗ oweW c (owe c b e n f))
      ⊢ iprop(((Xout c (n + 1) a ∗ oweW c (owe c b e (n + 1) f)) -∗ WP c k Q) -∗ WP c (xStart c n k) Q) := by
  unfold Xout xStart
  rw [run_bot (b := 8) hn, run_top (b := n) ha]
  iintro ⟨#Hctx, #Hcan, Hs, ⟨⟨⟨Ht1, Ht2, Hw⟩, Htodo⟩, Hcs, Hat⟩, HO⟩ Hk
  imod (take_x A c) $$ [Hw] with ⟨%fd, Hd⟩
  · isplitr; · iexact Hctx
    isplitr; · iexact Hcan
    iexact Hw
  ihave Hat := (run_keep (P := reached ER (xsC c n) (n / 2)) (Finset.mem_Ico.mpr ⟨ha, hna⟩) (at_reached (xsC c n) (n / 2))) $$ Hat
  icases Hat with ⟨#Hr, Hat⟩
  unfold canX
  icases Hcan with ⟨-, Hr2⟩
  iapply (send_x A c (xDev c) (xDev_eq c) hn (owe_e c b e f hn)) $$ [Hs Hd HO Ht1 Ht2]
  · isplitr; · iapply (ctx_xs A c n) $$ Hctx
    isplitr; · iapply (ctx_xr A (px c) n) $$ Hctx
    isplitl [Hs]; · iexact Hs
    isplitl [Hd]; · iexact Hd
    isplitl [HO]; · iexact HO
    isplitl [Ht1]; · iexact Ht1
    isplitr; · iexact Hr
    isplitl [Ht2]; · iexact Ht2
    iexact Hr2
  iintro ⟨Hc, HO⟩
  iapply Hk
  isplitr [HO]
  · isplitl [Htodo]; · iexact Htodo
    isplitl [Hc Hcs]; · isplitl [Hc] <;> iassumption
    iexact Hat
  iexact HO

/-- A send is awaited: its share of the chunk is the device's again. -/
theorem wp_xSendWait {n a j : ℕ} (hj : j % 2 = a % 2) (ha : a < n) (ha8 : a < 8) (x b e f : ℕ) {k : PG F} {Q : PUnit → sProp 𝕄} :
    iprop(ctx A ∗ Xout c n a ∗ oweW c (owe c x b e f))
      ⊢ iprop(((Xout c n (a + 1) ∗ redP c a qL (xC (sumv A c) a) ∗ oweW c (owe c x b e f)) -∗ WP c k Q) -∗ WP c (xSendWait j k) Q) := by
  unfold Xout xSendWait
  have hs : xSend j = xSend a := sem2_val _ _ _ hj
  rw [run_bot (b := n) ha, run_bot (b := a + 2) (by omega), run_top (a := a + 1) (b := a + 2) (by omega), hs]
  iintro ⟨#Hctx, ⟨Htodo, ⟨Hc, Hcs⟩, ⟨Hat, Hats⟩⟩, HO⟩ Hk
  unfold at_
  icases Hat with ⟨Hat, -⟩
  iapply (wait_cell A c (xSend a) (R := a / 2) (ι := 0) (duties_xs A c ha8) (amount_xs A c a _ _) (payload_xs A c a 0) (redSlot_credit j))
    $$ [Hc HO Hat]
  · isplitr; · iapply (ctx_xs A c a) $$ Hctx
    isplitl [Hc]; · iexact Hc
    isplitl [HO]; · iexact HO
    isplitr
    · iapply (mayWait_of c (.dma (xSend a)) (below_zero x b e f))
      iapply (ctx_lev A) $$ Hctx
    iexact Hat
  iintro ⟨HO, Hat, Hp⟩
  iapply Hk
  isplitr [HO Hp]
  · isplitl [Htodo]; · iexact Htodo
    isplitl [Hcs]; · iexact Hcs
    isplitl [Hat]
    · iapply (Entails.of_eq (show at_ (F := F) (xsC c a) (a / 2 + 1) = iprop(atPos ER (xsC c (a + 2)) ((a + 2) / 2) ∅ 0 ∗ reached ER (xsC c (a + 2)) ((a + 2) / 2)) by
          unfold at_; rw [xsC_congr c (show a % 2 = (a + 2) % 2 by omega), show a / 2 + 1 = (a + 2) / 2 by omega])) $$ Hat
    · iexact Hats
  isplitl [Hp] <;> iassumption

/-- The other rows' chunk `r` has arrived. -/
theorem wp_xRecvWait {r t : ℕ} (hr : r < 8) (htr : t ≤ r) {a b e f : ℕ} (hb : below (ix r) a b e f) {k : PG F} {Q : PUnit → sProp 𝕄} :
    iprop(ctx A ∗ Xin A c r t ∗ oweW c (owe c a b e f))
      ⊢ iprop(((Xin A c (r + 1) t ∗ oweW c (owe c a b e f)) -∗ WP c k Q) -∗ WP c (xRecvWait r k) Q) := by
  unfold Xin xRecvWait
  rw [run_bot (b := 8) hr, run_bot (a := r) (b := r + 2) (by omega), run_top (a := r + 1) (b := r + 2) (by omega), run_top (a := t) (b := r) htr]
  iintro ⟨#Hctx, ⟨⟨Hat, Hats⟩, ⟨Hc, Hcs⟩, Hrd, Hz, Ht, Hf⟩, HO⟩ Hk
  unfold at_
  icases Hat with ⟨Hat, -⟩
  iapply (wait_cell A c (xRecv r) (R := r / 2) (ι := ix r) (duties_xr A c hr) (amount_xr A c r _ _) (payload_xr A c r 0) (xSlot_credit r))
    $$ [Hc HO Hat]
  · isplitr; · iapply (ctx_xr A c r) $$ Hctx
    isplitl [Hc]; · iexact Hc
    isplitl [HO]; · iexact HO
    isplitr
    · iapply (mayWait_of c (.dma (xRecv r)) hb)
      iapply (ctx_lev A) $$ Hctx
    iexact Hat
  iintro ⟨HO, Hat, Hp⟩
  iapply Hk
  isplitr [HO]
  · isplitl [Hat Hats]
    · isplitl [Hat]
      · iapply (Entails.of_eq (show at_ (F := F) (xrC c r) (r / 2 + 1) = iprop(atPos ER (xrC c (r + 2)) ((r + 2) / 2) ∅ 0 ∗ reached ER (xrC c (r + 2)) ((r + 2) / 2)) by
          unfold at_; rw [xrC_congr c (show r % 2 = (r + 2) % 2 by omega), show r / 2 + 1 = (r + 2) / 2 by omega])) $$ Hat
      · iexact Hats
    isplitl [Hcs]; · iexact Hcs
    isplitl [Hrd]; · iexact Hrd
    isplitl [Hp Hz]; · isplitl [Hp] <;> iassumption
    isplitl [Ht] <;> iassumption
  iexact HO

/-- One credit is awaited. -/
theorem wp_xCreditWait {m : ℕ} (hm : m < 6) {a b e f : ℕ} (hb : below (ixc m) a b e f) {k : PG F} {Q : PUnit → sProp 𝕄} :
    iprop(ctx A ∗ Cr A (xcC c) 6 ixc m ∗ oweW c (owe c a b e f))
      ⊢ iprop(((oweW c (owe c a b e f) ∗ Cr A (xcC c) 6 ixc (m + 1)) -∗ WP c k Q) -∗ WP c (xCreditWait k) Q) := by
  unfold xCreditWait
  haveI : ∀ k, BI.Persistent ((Rd A).payload (xcC c) 0 k) := fun k => by rw [payload_xc]; infer_instance
  iintro ⟨#Hctx, HCr, HO⟩ Hk
  iapply (wait_credit A c xCredit (idx := ixc) (duties_xc A c) (amount_xc A c 0) hm (by decide)) $$ [HCr HO]
  · isplitr; · iapply (ctx_xc A c) $$ Hctx
    isplitl [HCr]; · iexact HCr
    isplitl [HO]; · iexact HO
    iapply (mayWait_of c (.reg xCredit) hb)
    iapply (ctx_lev A) $$ Hctx
  iexact Hk

/-- The `m`-th credit says the slot of the chunk two later than `m - 1` is open. -/
theorem Cr_canX {m : ℕ} (hm : 0 < m) : Cr A (xcC c) 6 ixc m ⊢ iprop(canX (F := F) (px c) (m + 1) ∗ Cr A (xcC c) 6 ixc m) := by
  haveI : ∀ k, BI.Persistent ((Rd A).payload (xcC c) 0 k) := fun k => by rw [payload_xc]; infer_instance
  refine persistent_entails_right ((Cr_pay A hm).trans ?_)
  iintro ⟨%k, %hk, Hp⟩
  iapply (show (Rd A).payload (xcC c) 0 k ⊢ canX (F := F) (px c) (m + 1) from by
    rw [payload_xc]
    have := bigSep_elim (Φ := fun i => canX (F := F) (px c) (i + 2)) (Finset.mem_range.mpr (show m - 1 < k + 1 by omega))
    rwa [show m - 1 + 2 = m + 1 by omega] at this) $$ Hp

/-- A credit is given. -/
theorem signal_x (d' : Dev nD) (hd : d' = px c) {t : ℕ} (ht : t < 6) (a e f : ℕ) {k : PUnit → PG F} {Q : PUnit → sProp 𝕄} :
    iprop(ctx A ∗ bigSep (Finset.range (t + 1)) (fun i => canX (F := F) c (i + 2)) ∗ xcTok c t ∗ oweW c (owe c a e f t))
      ⊢ iprop((oweW c (owe c a e f (t + 1)) -∗ WP c (k ⟨⟩) Q) -∗ WP c (.op (.semSignal (d', .tc) xCredit (1#32).toInt) k) Q) := by
  subst hd
  unfold xcTok
  iintro ⟨#Hctx, Hf, ⟨Ht, Hr⟩, HO⟩ Hk
  ihave HI := (ctx_xc A (px c)) $$ Hctx
  unfold hasInv oweW
  icases HI with ⟨%κ, HI⟩
  icases HO with ⟨%W, HO⟩
  iapply (Rounds.wp_signal Variants.none ER (Rd A) (c : Thread nD τ) none (dst := (px c : Thread nD τ)) (κ := κ) (r := 0)
      (d := t) (by rw [duties_xc]; exact Finset.mem_range.mpr ht) ((amount_xc A (px c) 0 t).trans (by decide)) (ixc t) (owe c a e f (t + 1))
      (owe_f c a e f ht) (W := W)) $$ [HI HO Ht Hf Hr]
  · isplitl [HI]; · iexact HI
    isplitl [HO]; · iexact HO
    isplitl [Ht]; · iexact Ht
    isplitl [Hf]
    · iapply (Entails.of_eq (show bigSep (Finset.range (t + 1)) (fun i => canX (F := F) c (i + 2)) = (Rd A).payload (xcC (px c)) 0 t by
        rw [payload_xc, px_px])) $$ Hf
    iexact Hr
  iintro HO
  iapply Hk
  iexists W; iexact HO

/-- The oldest slot in hand is given back, and the sender told. -/
theorem wp_xCreditSignal {t : ℕ} (ht : t < 6) (a e f : ℕ) {k : PG F} {Q : PUnit → sProp 𝕄} :
    iprop(ctx A ∗ Xin A c (t + 1) t ∗ oweW c (owe c a e f t))
      ⊢ iprop(((Xin A c (t + 1) (t + 1) ∗ oweW c (owe c a e f (t + 1))) -∗ WP c k Q) -∗ WP c (xCreditSignal c k) Q) := by
  unfold Xin xCreditSignal
  rw [run_bot (a := t) (b := t + 2) (by omega), run_top (a := t + 1) (b := t + 2) (by omega), run_top (a := t + 1) (b := t + 2) (by omega), run_bot (a := t) (b := t + 1) (by omega),
    run_nil (le_refl (t + 1)), run_bot (a := t) (b := 6) ht]
  iintro ⟨#Hctx, ⟨⟨Hat, Hats⟩, Hcs, ⟨Hrd, Hrds⟩, ⟨Hz, -⟩, ⟨Ht, Hts⟩, #Hf⟩, HO⟩ Hk
  ihave Hat := (persistent_entails_right (at_reached (F := F) (xrC c (t + 2)) ((t + 2) / 2))) $$ Hat
  icases Hat with ⟨#Hr, Hat⟩
  ihave Hs := (ctx_slot A (xKey c t)) $$ Hctx
  unfold hasSlot
  icases Hs with ⟨%ι, Hs⟩
  imod (Release.slot_release ES (S := slotOf (F := F) (xKey c t)) (Set.mem_univ ι) (slotOf_excl _) (t / 2 + 1)) $$ [Hs Hrd Hz] with ⟨Hrd, #Hrel⟩
  · isplitl [Hs]; · iexact Hs
    isplitl [Hrd]; · iexact Hrd
    iapply (Entails.of_eq (slotOf_x (F := F) c t).symm)
    iexists _; iexact Hz
  ihave #Hf' : bigSep (Finset.range (t + 1)) (fun i => canX (F := F) c (i + 2)) $$ []
  · iapply (Entails.of_eq (show iprop(canX (F := F) c (t + 2) ∗ bigSep (Finset.range t) (fun i => canX (F := F) c (i + 2)))
        = bigSep (Finset.range (t + 1)) (fun i => canX (F := F) c (i + 2)) by
      rw [Finset.range_add_one, bigSep_insert Finset.notMem_range_self]; rfl))
    isplitr
    · unfold canX
      isplitr
      · iapply (Entails.of_eq (show released ES (xKey c t) (t / 2 + 1 + 1) = (released ES (xKey c (t + 2)) ((t + 2) / 2 + 1) : sProp 𝕄) by
          rw [xKey_congr c (show t % 2 = (t + 2) % 2 by omega), show t / 2 + 1 + 1 = (t + 2) / 2 + 1 by omega])) $$ Hrel
      · iexact Hr
    · iexact Hf
  iapply (signal_x A c (xDev c) (xDev_eq c) ht a e f) $$ [Ht HO]
  · isplitr; · iexact Hctx
    isplitr; · iexact Hf'
    isplitl [Ht] <;> iassumption
  iintro HO
  iapply Hk
  isplitr [HO]
  · isplitl [Hat Hats]; · isplitl [Hat] <;> iassumption
    isplitl [Hcs]; · iexact Hcs
    isplitl [Hrd Hrds]
    · isplitl [Hrd]
      · iapply (Entails.of_eq (show readerAt ES (xKey c t) (t / 2 + 1 + 1) = (readerAt ES (xKey c (t + 2)) ((t + 2) / 2 + 1) : sProp 𝕄) by
          rw [xKey_congr c (show t % 2 = (t + 2) % 2 by omega), show t / 2 + 1 + 1 = (t + 2) / 2 + 1 by omega])) $$ Hrd
      · iexact Hrds
    isplitr; · iempintro
    isplitl [Hts]; · iexact Hts
    iexact Hf'
  iexact HO

end Cert.Emb

end
-- ==== Proof.OutSteps.lean ====
/-
# The slots of sums and the rows of the result

What a device holds of its slots of sums and of its rows of the result, and one rule per step that moves them.
-/
module

public import proofs.«01_k».proof.Proof.XSteps

@[expose] public section

noncomputable section

namespace Cert.Emb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv slot readerAt released writeTok)
open Idealize.ShloMosaic.Transfers (Flight)

variable {F : FTy → Type} [FloatOps F]

local notation "𝕄" => MT nD τ sig ℕ (Elt F) ℕ UU ℕ

variable (A : Dev nD → Mat F) (c : Dev nD)

/-- A landed chunk of partial rows, borrowed. -/
theorem Zin_slot {r t : ℕ} (h : t ≤ r) :
    Zin A c (r + 1) t ⊢ iprop(zP c r (zC (A (pz c)) r) ∗ (zP c r (zC (A (pz c)) r) -∗ Zin A c (r + 1) t)) := by
  unfold Zin
  rw [run_top (a := t) (b := r) h]
  iintro ⟨H1, H2, H3, ⟨Hz, H4⟩, H5, H6⟩
  isplitl [Hz]; · iexact Hz
  iintro Hz
  isplitl [H1]; · iexact H1
  isplitl [H2]; · iexact H2
  isplitl [H3]; · iexact H3
  isplitl [Hz H4]; · isplitl [Hz] <;> iassumption
  isplitl [H5] <;> iassumption

/-- A landed chunk of sums, borrowed. -/
theorem Xin_slot {r t : ℕ} (h : t ≤ r) :
    Xin A c (r + 1) t ⊢ iprop(xP c r (xC (sumv A (px c)) r) ∗ (xP c r (xC (sumv A (px c)) r) -∗ Xin A c (r + 1) t)) := by
  unfold Xin
  rw [run_top (a := t) (b := r) h]
  iintro ⟨H1, H2, H3, ⟨Hz, H4⟩, H5, H6⟩
  isplitl [Hz]; · iexact Hz
  iintro Hz
  isplitl [H1]; · iexact H1
  isplitl [H2]; · iexact H2
  isplitl [H3]; · iexact H3
  isplitl [Hz H4]; · isplitl [Hz] <;> iassumption
  isplitl [H5] <;> iassumption

/-- The free slots of sums, `n` chunks formed and `s` of their copies out awaited. -/
def RedFree (n s : ℕ) : sProp 𝕄 :=
  bigSep (Finset.Ico n (s + 2)) (fun j => iprop((∃ f, redP (F := F) c j fullShare f) ∗ semVal ((c : Thread nD τ), .dma (stSem j)) 0))

/-- The device's own rows of the result, `n` copies out started and `s` awaited. -/
def Own (n s : ℕ) : sProp 𝕄 :=
  iprop(bigSep (Finset.Ico s n) (fun j => Flight EC (c : Thread nD τ) (.dma (stSem j)) 0 NC
      iprop(ownP c j (outv A c) ∗ redP c j qR (xC (sumv A c) j)))
    ∗ bigSep (Finset.Ico n 8) (fun j => iprop(∃ f, ownP (F := F) c j f))
    ∗ bigSep (Finset.Ico 0 s) (fun j => ownP c j (outv A c)))

/-- The other rows of the result, `r` chunks copied out. -/
def Other (r : ℕ) : sProp 𝕄 :=
  iprop(bigSep (Finset.Ico r 8) (fun j => iprop(∃ f, otherP (F := F) c j f)) ∗ bigSep (Finset.Ico 0 r) (fun j => otherP c j (outv A c))
    ∗ semVal ((c : Thread nD τ), .dma st2Sem) 0)

theorem own_amount (j : ℕ) (q : DmaSem sig) : (outOwn c j).view.amount (.dma q) = NC := outOwn_credit c j
theorem other_amount (j : ℕ) (q : DmaSem sig) : (outOther c j).view.amount (.dma q) = NC := outOther_credit c j

/-- The copy of chunk `n`'s sums to the device's own rows starts. -/
theorem wp_stStart {n s : ℕ} (hn : n < 8) (hs : s ≤ n) {k : PG F} {Q : PUnit → sProp 𝕄} :
    iprop(Own A c n s ∗ redP c n qR (xC (sumv A c) n) ∗ semVal ((c : Thread nD τ), .dma (stSem n)) 0)
      ⊢ iprop((Own A c (n + 1) s -∗ WP c k Q) -∗ WP c (stStart c n k) Q) := by
  unfold Own stStart
  rw [run_bot (b := 8) hn, run_top (b := n) hs]
  iintro ⟨⟨Hfl, ⟨⟨%f, Ho⟩, Htodo⟩, Hdone⟩, Hr, Hv⟩ Hk
  unfold ownP redP
  iapply (local_copy c (src := redSlot n) (dst := outOwn c n) (sm := .dma (stSem n)) (q := qR) (fs := xC (sumv A c) n) (fd := f) (g := outv A c)
    (own_amount c n _) NC_pos ((redSlot_read (sumv A c) n).trans (outOwn_read c (sumv A c) (sumv A (px c)) n).symm)) $$ [Hr Ho Hv]
  · isplitl [Hr]; · iexact Hr
    isplitl [Ho] <;> iassumption
  iintro Hf
  iapply Hk
  isplitl [Hf Hfl]; · isplitl [Hf] <;> iassumption
  isplitl [Htodo] <;> iassumption

/-- The copy of chunk `s`'s sums is awaited: its rows hold them, and the slot is free for the chunk two later. -/
theorem wp_stWait {n s : ℕ} (hs : s < n) (hn : n ≤ s + 2) (a b e f : ℕ) {k : PG F} {Q : PUnit → sProp 𝕄} :
    iprop(ctx A ∗ Own A c n s ∗ redP c s qL (xC (sumv A c) s) ∗ RedFree (F := F) c n s ∗ oweW c (owe c a b e f))
      ⊢ iprop(((Own A c n (s + 1) ∗ RedFree (F := F) c n (s + 1) ∗ oweW c (owe c a b e f)) -∗ WP c k Q) -∗ WP c (stWait c s k) Q) := by
  unfold Own RedFree stWait
  rw [run_bot (b := n) hs, run_top (a := 0) (b := s) (by omega), run_top (a := n) (b := s + 2) hn]
  iintro ⟨#Hctx, ⟨⟨Hf, Hfl⟩, Htodo, Hdone⟩, HrL, Hfree, HO⟩ Hk
  iapply (local_wait c (outOwn_credit c s)) $$ [Hf HO]
  · isplitl [Hf]; · iexact Hf
    isplitl [HO]; · iexact HO
    iapply (mayWait_of c (.dma (stSem s)) (below_zero a b e f))
    iapply (ctx_lev A) $$ Hctx
  iintro ⟨⟨Ho, HrR⟩, Hv, HO⟩
  iapply Hk
  isplitl [Hfl Htodo Hdone Ho]
  · isplitl [Hfl]; · iexact Hfl
    isplitl [Htodo]; · iexact Htodo
    isplitl [Ho] <;> iassumption
  isplitr [HO]
  · isplitl [HrL HrR Hv]
    · isplitl [HrL HrR]
      · iexists (xC (sumv A c) s)
        iapply (Entails.of_eq (redP_congr (F := F) c (show s % 2 = (s + 2) % 2 by omega) fullShare (xC (sumv A c) s)))
        iapply (redP_halves (F := F) c s (xC (sumv A c) s)).2
        isplitl [HrL] <;> iassumption
      · iapply (Entails.of_eq (congrArg (fun q => (semVal ((c : Thread nD τ), SemLoc.dma q) 0 : sProp 𝕄)) (sem2_val cc0_scratch6 s (s + 2) (by omega)))) $$ Hv
    · iexact Hfree
  iexact HO

/-- Chunk `r` of the other rows' sums is copied to its rows of the result. -/
theorem wp_st2 {r : ℕ} (hr : r < 8) (a b e f : ℕ) {k : PG F} {Q : PUnit → sProp 𝕄} :
    iprop(ctx A ∗ xP c r (xC (sumv A (px c)) r) ∗ Other A c r ∗ oweW c (owe c a b e f))
      ⊢ iprop(((xP c r (xC (sumv A (px c)) r) ∗ Other A c (r + 1) ∗ oweW c (owe c a b e f)) -∗ WP c k Q) -∗ WP c (st2 c r k) Q) := by
  unfold Other st2
  rw [run_bot (b := 8) hr, run_top (a := 0) (b := r) (by omega)]
  iintro ⟨#Hctx, Hx, ⟨⟨⟨%g, Ho⟩, Htodo⟩, Hdone, Hv⟩, HO⟩ Hk
  unfold otherP xP
  iapply (local_copy c (src := xSlot r) (dst := outOther c r) (sm := .dma st2Sem) (q := fullShare) (fs := xC (sumv A (px c)) r) (fd := g) (g := outv A c)
    (other_amount c r _) NC_pos ((xSlot_read (sumv A (px c)) r).trans (outOther_read c (sumv A c) (sumv A (px c)) r).symm)) $$ [Hx Ho Hv]
  · isplitl [Hx]; · iexact Hx
    isplitl [Ho] <;> iassumption
  iintro Hf
  iapply (local_wait c (outOther_credit c r)) $$ [Hf HO]
  · isplitl [Hf]; · iexact Hf
    isplitl [HO]; · iexact HO
    iapply (mayWait_of c (.dma st2Sem) (below_zero a b e f))
    iapply (ctx_lev A) $$ Hctx
  iintro ⟨⟨Ho, Hx⟩, Hv, HO⟩
  iapply Hk
  isplitl [Hx]; · iexact Hx
  isplitr [HO]
  · isplitl [Htodo]; · iexact Htodo
    isplitr [Hv]
    · isplitl [Ho] <;> iassumption
    · iexact Hv
  iexact HO

end Cert.Emb

end
-- ==== Proof.Chunks.lean ====
/-
# One iteration of the exchange

The state between two iterations, and the iteration that takes one to the next.
-/
module

public import proofs.«01_k».proof.Proof.OutSteps

@[expose] public section

noncomputable section

namespace Cert.Emb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv slot readerAt released writeTok)
open Idealize.ShloMosaic.Transfers (Flight)

variable {F : FTy → Type} [FloatOps F]

local notation "𝕄" => MT nD τ sig ℕ (Elt F) ℕ UU ℕ

variable (A : Dev nD → Mat F) (c : Dev nD)

/-- What both neighbours told at the entry. -/
def opened : sProp 𝕄 := iprop(toldZ (F := F) (pz c) ∗ toldX (F := F) (px c))
instance opened_persistent : BI.Persistent (opened (F := F) c) := by unfold opened; infer_instance

theorem opened_z {j : ℕ} (hj : j < 3) : opened (F := F) c ⊢ canZ (pz c) j := by
  unfold opened toldZ
  exact sep_elim_left.trans (sep_elim_left.trans (bigSep_elim (Φ := fun j => canZ (F := F) (pz c) j) (Finset.mem_range.mpr hj)))
theorem opened_x {j : ℕ} (hj : j < 2) : opened (F := F) c ⊢ canX (px c) j := by
  unfold opened toldX
  exact sep_elim_right.trans (sep_elim_left.trans (bigSep_elim (Φ := fun j => canX (F := F) (px c) j) (Finset.mem_range.mpr hj)))
theorem opened_zc : opened (F := F) c ⊢ (reached ER (zcC (pz c)) 0 : sProp 𝕄) := by
  unfold opened toldZ; exact sep_elim_left.trans sep_elim_right
theorem opened_xc : opened (F := F) c ⊢ (reached ER (xcC (px c)) 0 : sProp 𝕄) := by
  unfold opened toldX; exact sep_elim_right.trans sep_elim_right

/-- The second share of the partial rows, from which the sums are formed. -/
def accR : sProp 𝕄 := bigSep (Finset.range 8) (fun j => accP c j qR (A c))

theorem accR_take {j : ℕ} (hj : j < 8) : accR A c ⊢ iprop(accP c j qR (A c) ∗ (accP c j qR (A c) -∗ accR A c)) := by
  unfold accR
  have e : bigSep (Finset.range 8) (fun j => accP c j qR (A c))
      = iprop(accP c j qR (A c) ∗ bigSep ((Finset.range 8).erase j) (fun j => accP c j qR (A c))) := bigSep_erase (Finset.mem_range.mpr hj)
  rw [e]
  iintro ⟨H, Hr⟩
  isplitl [H]; · iexact H
  iintro H
  isplitl [H] <;> iassumption

/-- The first part of iteration `i`. -/
theorem wp_sendAhead {i : ℕ} (hi : i < 8) {k : PG F} {Q : PUnit → sProp 𝕄} :
    iprop(ctx A ∗ opened (F := F) c ∗ Zout A c (min (i + 2) 8) (min (i - 1) 5) ∗ Cr A (zcC c) 5 izc (min (i - 1) 5)
        ∗ oweW c (owe c (min (i + 2) 8) (min i 5) i (min (i - 1) 6)))
      ⊢ iprop(((Zout A c (min (i + 3) 8) (min i 5) ∗ Cr A (zcC c) 5 izc (min i 5)
          ∗ oweW c (owe c (min (i + 3) 8) (min i 5) i (min (i - 1) 6))) -∗ WP c k Q) -∗ WP c (sendAhead c i k) Q) := by
  unfold sendAhead when
  by_cases h : i + 2 < 8
  · rw [if_pos h, show min (i + 2) 8 = i + 2 by omega, show min (i + 3) 8 = i + 2 + 1 by omega]
    by_cases h1 : 1 ≤ i
    · dsimp only
      rw [if_pos h1, show min (i - 1) 5 = i - 1 by omega, show min i 5 = i - 1 + 1 by omega]
      iintro ⟨#Hctx, #Hop, HZ, HC, HO⟩ Hk
      iapply (wp_zSendWait A c (n := i + 2) (a := i - 1) (j := i + 2) (i + 2) (by omega) (by omega) (by omega)) $$ [HZ HO]
      · isplitr; · iexact Hctx
        isplitl [HZ]; · iexact HZ
        iexact HO
      iintro ⟨HZ, HO⟩
      iapply (wp_zCreditWait A c (m := i - 1) (by omega) (a := i + 2) (b := i - 1 + 1) (e := i) (f := min (i - 1) 6) (by unfold below iz izc ix ixc; omega)) $$ [HC HO]
      · isplitr; · iexact Hctx
        isplitl [HC]; · iexact HC
        iexact HO
      iintro ⟨HO, HC⟩
      ihave HC := (Cr_canZ A c (m := i - 1 + 1) (by omega)) $$ HC
      icases HC with ⟨#Hcan, HC⟩
      iapply (wp_zStart A c (n := i + 2) (a := i - 1 + 1) (by omega) (by omega) (by omega)) $$ [HZ HO]
      · isplitr; · iexact Hctx
        isplitr
        · iapply (Entails.of_eq (congrArg (canZ (F := F) (pz c)) (show i - 1 + 1 + 2 = i + 2 by omega))) $$ Hcan
        isplitl [HZ]; · iexact HZ
        iexact HO
      iintro ⟨HZ, HO⟩
      iapply Hk
      isplitl [HZ]; · iexact HZ
      isplitl [HC] <;> iassumption
    · obtain rfl : i = 0 := by omega
      dsimp only
      rw [if_neg h1]
      iintro ⟨#Hctx, #Hop, HZ, HC, HO⟩ Hk
      iapply (wp_zStart A c (n := 0 + 2) (a := min (0 - 1) 5) (by omega) (by omega) (by omega)) $$ [HZ HO]
      · isplitr; · iexact Hctx
        isplitr
        · iapply (opened_z (F := F) c (j := 0 + 2) (by omega)) $$ Hop
        isplitl [HZ]; · iexact HZ
        iexact HO
      iintro ⟨HZ, HO⟩
      iapply Hk
      isplitl [HZ]; · iexact HZ
      isplitl [HC] <;> iassumption
  · rw [if_neg h, show min (i + 2) 8 = 8 by omega, show min (i + 3) 8 = 8 by omega, show min (i - 1) 5 = 5 by omega, show min i 5 = 5 by omega]
    iintro ⟨-, -, HZ, HC, HO⟩ Hk
    iapply Hk
    isplitl [HZ]; · iexact HZ
    isplitl [HC] <;> iassumption

/-- The slot of sums chunk `i` takes is freed: the copies of the chunk two earlier are awaited, when there is one. -/
theorem wp_freeSlot {i : ℕ} (hi : i < 8) (a b e f : ℕ) {k : PG F} {Q : PUnit → sProp 𝕄} :
    iprop(ctx A ∗ Xout (F := F) c i (i - 2) ∗ Own A c i (i - 2) ∗ RedFree (F := F) c i (i - 2) ∗ oweW c (owe c a b e f))
      ⊢ iprop(((Xout (F := F) c i (i - 1) ∗ Own A c i (i - 1) ∗ RedFree (F := F) c i (i - 1) ∗ oweW c (owe c a b e f)) -∗ WP c k Q)
          -∗ WP c (when (2 ≤ i) (fun k => xSendWait i <| stWait c (i - 2) k) k) Q) := by
  unfold when
  by_cases h : 2 ≤ i
  · rw [if_pos h, show i - 1 = i - 2 + 1 by omega]
    iintro ⟨#Hctx, HX, HOwn, HF, HO⟩ Hk
    iapply (wp_xSendWait A c (n := i) (a := i - 2) (j := i) (by omega) (by omega) (by omega)) $$ [HX HO]
    · isplitr; · iexact Hctx
      isplitl [HX]; · iexact HX
      iexact HO
    iintro ⟨HX, Hr, HO⟩
    iapply (wp_stWait A c (n := i) (s := i - 2) (by omega) (by omega)) $$ [HOwn HF Hr HO]
    · isplitr; · iexact Hctx
      isplitl [HOwn]; · iexact HOwn
      isplitl [Hr]; · iexact Hr
      isplitl [HF]; · iexact HF
      iexact HO
    iintro ⟨HOwn, HF, HO⟩
    iapply Hk
    isplitl [HX]; · iexact HX
    isplitl [HOwn]; · iexact HOwn
    isplitl [HF] <;> iassumption
  · rw [if_neg h, show i - 2 = 0 by omega, show i - 1 = 0 by omega]
    iintro ⟨-, H⟩ Hk
    iapply Hk $$ H

/-- The credit for chunk `i`'s landing slot, when it is wanted again. -/
theorem wp_giveZ {i : ℕ} (a e f : ℕ) {k : PG F} {Q : PUnit → sProp 𝕄} :
    iprop(ctx A ∗ Zin A c (i + 1) (min i 5) ∗ oweW c (owe c a (min i 5) e f))
      ⊢ iprop(((Zin A c (i + 1) (min (i + 1) 5) ∗ oweW c (owe c a (min (i + 1) 5) e f)) -∗ WP c k Q) -∗ WP c (when (i < 5) (zCreditSignal c) k) Q) := by
  unfold when
  by_cases h : i < 5
  · rw [if_pos h, show min i 5 = i by omega, show min (i + 1) 5 = i + 1 by omega]
    exact wp_zCreditSignal A c h a e f
  · rw [if_neg h, show min i 5 = 5 by omega, show min (i + 1) 5 = 5 by omega]
    iintro ⟨-, H⟩ Hk
    iapply Hk $$ H

/-- The credit for chunk `j`'s landing slot of sums, when it is wanted again. -/
theorem wp_giveX {j : ℕ} (a b e : ℕ) {k : PG F} {Q : PUnit → sProp 𝕄} :
    iprop(ctx A ∗ Xin A c (j + 1) (min j 6) ∗ oweW c (owe c a b e (min j 6)))
      ⊢ iprop(((Xin A c (j + 1) (min (j + 1) 6) ∗ oweW c (owe c a b e (min (j + 1) 6))) -∗ WP c k Q) -∗ WP c (when (j < 6) (xCreditSignal c) k) Q) := by
  unfold when
  by_cases h : j < 6
  · rw [if_pos h, show min j 6 = j by omega, show min (j + 1) 6 = j + 1 by omega]
    exact wp_xCreditSignal A c h a b e
  · rw [if_neg h, show min j 6 = 6 by omega, show min (j + 1) 6 = 6 by omega]
    iintro ⟨-, H⟩ Hk
    iapply Hk $$ H

/-- The second part of iteration `i`. -/
theorem wp_recvReduce {i : ℕ} (hi : i < 8) {k : PG F} {Q : PUnit → sProp 𝕄} :
    iprop(ctx A ∗ accR A c ∗ Zin A c i (min i 5) ∗ Xout (F := F) c i (i - 2) ∗ Own A c i (i - 2) ∗ RedFree (F := F) c i (i - 2)
        ∗ oweW c (owe c (min (i + 3) 8) (min i 5) i (min (i - 1) 6)))
      ⊢ iprop(((accR A c ∗ Zin A c (i + 1) (min (i + 1) 5) ∗ Xout (F := F) c i (i - 1) ∗ Own A c i (i - 1) ∗ RedFree (F := F) c (i + 1) (i - 1)
          ∗ redP c i fullShare (xC (sumv A c) i) ∗ semVal ((c : Thread nD τ), .dma (stSem i)) 0
          ∗ oweW c (owe c (min (i + 3) 8) (min (i + 1) 5) i (min (i - 1) 6))) -∗ WP c k Q) -∗ WP c (recvReduce c i k) Q) := by
  unfold recvReduce
  iintro ⟨#Hctx, HA, HZ, HX, HOwn, HF, HO⟩ Hk
  iapply (wp_zRecvWait A c (r := i) (t := min i 5) hi (by omega) (a := min (i + 3) 8) (b := min i 5) (e := i) (f := min (i - 1) 6) (by unfold below iz izc ix ixc; omega)) $$ [HZ HO]
  · isplitr; · iexact Hctx
    isplitl [HZ]; · iexact HZ
    iexact HO
  iintro ⟨HZ, HO⟩
  iapply (wp_freeSlot A c hi) $$ [HX HOwn HF HO]
  · isplitr; · iexact Hctx
    isplitl [HX]; · iexact HX
    isplitl [HOwn]; · iexact HOwn
    isplitl [HF]; · iexact HF
    iexact HO
  iintro ⟨HX, HOwn, HF, HO⟩
  ihave HF := (show RedFree (F := F) c i (i - 1) ⊢ iprop(((∃ f, redP (F := F) c i fullShare f) ∗ semVal ((c : Thread nD τ), .dma (stSem i)) 0)
      ∗ RedFree (F := F) c (i + 1) (i - 1)) from Entails.of_eq (run_bot (by omega) _)) $$ HF
  icases HF with ⟨⟨⟨%f, Hr⟩, Hv⟩, HF⟩
  ihave HA := (accR_take A c hi) $$ HA
  icases HA with ⟨Ha, HA⟩
  ihave HZ := (Zin_slot A c (r := i) (t := min i 5) (by omega)) $$ HZ
  icases HZ with ⟨Hz, HZ⟩
  iapply (wp_reduce A c i (f := f)) $$ [Ha Hz Hr]
  · isplitl [Ha]; · iexact Ha
    isplitl [Hz] <;> iassumption
  iintro ⟨Ha, Hz, Hr⟩
  ihave HA := HA $$ Ha
  ihave HZ := HZ $$ Hz
  iapply (wp_giveZ A c) $$ [HZ HO]
  · isplitr; · iexact Hctx
    isplitl [HZ]; · iexact HZ
    iexact HO
  iintro ⟨HZ, HO⟩
  iapply Hk
  isplitl [HA]; · iexact HA
  isplitl [HZ]; · iexact HZ
  isplitl [HX]; · iexact HX
  isplitl [HOwn]; · iexact HOwn
  isplitl [HF]; · iexact HF
  isplitl [Hr]; · iexact Hr
  isplitl [Hv] <;> iassumption

/-- The leave to send chunk `i`'s sums. -/
theorem wp_leaveX {i : ℕ} (hi : i < 8) {k : PG F} {Q : PUnit → sProp 𝕄} :
    iprop(ctx A ∗ opened (F := F) c ∗ Cr A (xcC c) 6 ixc (i - 2) ∗ oweW c (owe c (min (i + 3) 8) (min (i + 1) 5) i (min (i - 1) 6)))
      ⊢ iprop(((canX (F := F) (px c) i ∗ Cr A (xcC c) 6 ixc (i - 1) ∗ oweW c (owe c (min (i + 3) 8) (min (i + 1) 5) i (min (i - 1) 6))) -∗ WP c k Q)
          -∗ WP c (when (2 ≤ i) xCreditWait k) Q) := by
  unfold when
  by_cases h : 2 ≤ i
  · rw [if_pos h, show Cr A (xcC c) 6 ixc (i - 1) = Cr A (xcC c) 6 ixc (i - 2 + 1) by rw [show i - 1 = i - 2 + 1 by omega]]
    iintro ⟨#Hctx, #Hop, HC, HO⟩ Hk
    iapply (wp_xCreditWait A c (m := i - 2) (by omega) (a := min (i + 3) 8) (b := min (i + 1) 5) (e := i) (f := min (i - 1) 6) (by unfold below iz izc ix ixc; omega)) $$ [HC HO]
    · isplitr; · iexact Hctx
      isplitl [HC]; · iexact HC
      iexact HO
    iintro ⟨HO, HC⟩
    ihave HC := (Cr_canX A c (m := i - 2 + 1) (by omega)) $$ HC
    icases HC with ⟨#Hcan, HC⟩
    iapply Hk
    isplitr
    · iapply (Entails.of_eq (congrArg (canX (F := F) (px c)) (show i - 2 + 1 + 1 = i by omega))) $$ Hcan
    isplitl [HC] <;> iassumption
  · rw [if_neg h, show i - 2 = i - 1 by omega]
    iintro ⟨#Hctx, #Hop, HC, HO⟩ Hk
    iapply Hk
    isplitr
    · iapply (opened_x (F := F) c (j := i) (by omega)) $$ Hop
    isplitl [HC] <;> iassumption

/-- The third part of iteration `i`. -/
theorem wp_sendSums {i : ℕ} (hi : i < 8) {k : PG F} {Q : PUnit → sProp 𝕄} :
    iprop(ctx A ∗ opened (F := F) c ∗ Cr A (xcC c) 6 ixc (i - 2) ∗ Xout (F := F) c i (i - 1) ∗ Own A c i (i - 1)
        ∗ redP c i fullShare (xC (sumv A c) i) ∗ semVal ((c : Thread nD τ), .dma (stSem i)) 0
        ∗ oweW c (owe c (min (i + 3) 8) (min (i + 1) 5) i (min (i - 1) 6)))
      ⊢ iprop(((Cr A (xcC c) 6 ixc (i - 1) ∗ Xout (F := F) c (i + 1) (i - 1) ∗ Own A c (i + 1) (i - 1)
          ∗ oweW c (owe c (min (i + 3) 8) (min (i + 1) 5) (i + 1) (min (i - 1) 6))) -∗ WP c k Q) -∗ WP c (sendSums c i k) Q) := by
  unfold sendSums
  iintro ⟨#Hctx, #Hop, HC, HX, HOwn, Hr, Hv, HO⟩ Hk
  iapply (wp_leaveX A c hi) $$ [HC HO]
  · isplitr; · iexact Hctx
    isplitr; · iexact Hop
    isplitl [HC]; · iexact HC
    iexact HO
  iintro ⟨#Hcan, HC, HO⟩
  ihave Hr := (redP_halves (F := F) c i (xC (sumv A c) i)).1 $$ Hr
  icases Hr with ⟨HrL, HrR⟩
  iapply (wp_xStart A c (n := i) (a := i - 1) hi (by omega) (by omega)) $$ [HX HrL HO]
  · isplitr; · iexact Hctx
    isplitr; · iexact Hcan
    isplitl [HrL]; · iexact HrL
    isplitl [HX]; · iexact HX
    iexact HO
  iintro ⟨HX, HO⟩
  iapply (wp_stStart A c (n := i) (s := i - 1) hi (by omega)) $$ [HOwn HrR Hv]
  · isplitl [HOwn]; · iexact HOwn
    isplitl [HrR] <;> iassumption
  iintro HOwn
  iapply Hk
  isplitl [HC]; · iexact HC
  isplitl [HX]; · iexact HX
  isplitl [HOwn] <;> iassumption

/-- Chunk `j` of the other rows is taken in and copied out. -/
theorem wp_takeSums {j : ℕ} (hj : j < 8) {a b e : ℕ} (hb : below (ix j) a b e (min j 6)) {k : PG F} {Q : PUnit → sProp 𝕄} :
    iprop(ctx A ∗ Xin A c j (min j 6) ∗ Other A c j ∗ oweW c (owe c a b e (min j 6)))
      ⊢ iprop(((Xin A c (j + 1) (min (j + 1) 6) ∗ Other A c (j + 1) ∗ oweW c (owe c a b e (min (j + 1) 6))) -∗ WP c k Q)
          -∗ WP c (takeSums c j k) Q) := by
  unfold takeSums
  iintro ⟨#Hctx, HX, HOt, HO⟩ Hk
  iapply (wp_xRecvWait A c (r := j) (t := min j 6) hj (by omega) hb) $$ [HX HO]
  · isplitr; · iexact Hctx
    isplitl [HX]; · iexact HX
    iexact HO
  iintro ⟨HX, HO⟩
  ihave HX := (Xin_slot A c (r := j) (t := min j 6) (by omega)) $$ HX
  icases HX with ⟨Hx, HX⟩
  iapply (wp_st2 A c hj) $$ [Hx HOt HO]
  · isplitr; · iexact Hctx
    isplitl [Hx]; · iexact Hx
    isplitl [HOt]; · iexact HOt
    iexact HO
  iintro ⟨Hx, HOt, HO⟩
  ihave HX := HX $$ Hx
  iapply (wp_giveX A c) $$ [HX HO]
  · isplitr; · iexact Hctx
    isplitl [HX]; · iexact HX
    iexact HO
  iintro ⟨HX, HO⟩
  iapply Hk
  isplitl [HX]; · iexact HX
  isplitl [HOt] <;> iassumption

/-- The last part of iteration `i`: the chunk before it, when there is one. -/
theorem wp_takeLast {i : ℕ} (hi : i < 8) {k : PG F} {Q : PUnit → sProp 𝕄} :
    iprop(ctx A ∗ Xin A c (i - 1) (min (i - 1) 6) ∗ Other A c (i - 1)
        ∗ oweW c (owe c (min (i + 3) 8) (min (i + 1) 5) (i + 1) (min (i - 1) 6)))
      ⊢ iprop(((Xin A c i (min i 6) ∗ Other A c i ∗ oweW c (owe c (min (i + 3) 8) (min (i + 1) 5) (i + 1) (min i 6))) -∗ WP c k Q)
          -∗ WP c (when (1 ≤ i) (takeSums c (i - 1)) k) Q) := by
  unfold when
  by_cases h : 1 ≤ i
  · rw [if_pos h]
    obtain ⟨j, rfl⟩ : ∃ j, i = j + 1 := ⟨i - 1, by omega⟩
    exact wp_takeSums A c (j := j) (by omega) (by unfold below iz izc ix ixc; omega)
  · obtain rfl : i = 0 := by omega
    rw [if_neg h]
    iintro ⟨-, H⟩ Hk
    iapply Hk $$ H

/-- What device `c` holds before iteration `i`. -/
def St (i : ℕ) : sProp 𝕄 :=
  iprop(accR A c ∗ Zout A c (min (i + 2) 8) (min (i - 1) 5) ∗ Zin A c i (min i 5) ∗ Cr A (zcC c) 5 izc (min (i - 1) 5)
    ∗ Xout (F := F) c i (i - 2) ∗ Xin A c (i - 1) (min (i - 1) 6) ∗ Cr A (xcC c) 6 ixc (i - 2)
    ∗ Own A c i (i - 2) ∗ RedFree (F := F) c i (i - 2) ∗ Other A c (i - 1)
    ∗ oweW c (owe c (min (i + 2) 8) (min i 5) i (min (i - 1) 6)))

/-- Iteration `i`. -/
theorem wp_chunkStep {i : ℕ} (hi : i < 8) {k : PG F} {Q : PUnit → sProp 𝕄} :
    iprop(ctx A ∗ opened (F := F) c ∗ St A c i) ⊢ iprop((St A c (i + 1) -∗ WP c k Q) -∗ WP c (chunkStep c i k) Q) := by
  unfold St chunkStep
  rw [show i + 1 - 1 = i by omega, show i + 1 - 2 = i - 1 by omega, show i + 1 + 2 = i + 3 by omega]
  iintro ⟨#Hctx, #Hop, HA, HZo, HZi, HCz, HXo, HXi, HCx, HOwn, HF, HOt, HO⟩ Hk
  iapply (wp_sendAhead A c hi) $$ [HZo HCz HO]
  · isplitr; · iexact Hctx
    isplitr; · iexact Hop
    isplitl [HZo]; · iexact HZo
    isplitl [HCz]; · iexact HCz
    iexact HO
  iintro ⟨HZo, HCz, HO⟩
  iapply (wp_recvReduce A c hi) $$ [HA HZi HXo HOwn HF HO]
  · isplitr; · iexact Hctx
    isplitl [HA]; · iexact HA
    isplitl [HZi]; · iexact HZi
    isplitl [HXo]; · iexact HXo
    isplitl [HOwn]; · iexact HOwn
    isplitl [HF]; · iexact HF
    iexact HO
  iintro ⟨HA, HZi, HXo, HOwn, HF, Hr, Hv, HO⟩
  iapply (wp_sendSums A c hi) $$ [HCx HXo HOwn Hr Hv HO]
  · isplitr; · iexact Hctx
    isplitr; · iexact Hop
    isplitl [HCx]; · iexact HCx
    isplitl [HXo]; · iexact HXo
    isplitl [HOwn]; · iexact HOwn
    isplitl [Hr]; · iexact Hr
    isplitl [Hv]; · iexact Hv
    iexact HO
  iintro ⟨HCx, HXo, HOwn, HO⟩
  iapply (wp_takeLast A c hi) $$ [HXi HOt HO]
  · isplitr; · iexact Hctx
    isplitl [HXi]; · iexact HXi
    isplitl [HOt]; · iexact HOt
    iexact HO
  iintro ⟨HXi, HOt, HO⟩
  iapply Hk
  isplitl [HA]; · iexact HA
  isplitl [HZo]; · iexact HZo
  isplitl [HZi]; · iexact HZi
  isplitl [HCz]; · iexact HCz
  isplitl [HXo]; · iexact HXo
  isplitl [HXi]; · iexact HXi
  isplitl [HCx]; · iexact HCx
  isplitl [HOwn]; · iexact HOwn
  isplitl [HF]; · iexact HF
  isplitl [HOt] <;> iassumption

/-- Steps that each take `I i` to `I (i + 1)` take `I i` to `I (i + n)`. -/
theorem wp_steps {f : ℕ → PG F → PG F} {P : sProp 𝕄} [BI.Persistent P] {I : ℕ → sProp 𝕄} {N : ℕ} {Q : PUnit → sProp 𝕄}
    (h : ∀ i, i < N → ∀ k, iprop(P ∗ I i) ⊢ iprop((I (i + 1) -∗ WP c k Q) -∗ WP c (f i k) Q)) :
    ∀ (n i : ℕ), i + n ≤ N → ∀ k, iprop(P ∗ I i) ⊢ iprop((I (i + n) -∗ WP c k Q) -∗ WP c (steps f i n k) Q)
  | 0, i, _, k => by
    iintro ⟨-, H⟩ Hk
    unfold steps
    iapply Hk $$ H
  | n + 1, i, hn, k => by
    unfold steps
    rw [show i + (n + 1) = i + 1 + n by omega]
    iintro ⟨#HP, H⟩ Hk
    iapply (h i (by omega) (steps f (i + 1) n k)) $$ [H]
    · isplitr; · iexact HP
      iexact H
    iintro H
    iapply (wp_steps h n (i + 1) (by omega) k) $$ [H]
    · isplitr; · iexact HP
      iexact H
    iexact Hk

/-- The eight iterations. -/
theorem wp_chunks {k : PG F} {Q : PUnit → sProp 𝕄} :
    iprop((ctx A ∗ opened (F := F) c) ∗ St A c 0) ⊢ iprop((St A c 8 -∗ WP c k Q) -∗ WP c (steps (chunkStep c) 0 8 k) Q) :=
  wp_steps c (P := iprop(ctx A ∗ opened (F := F) c)) (I := St A c) (N := 8)
    (fun i hi k => by
      iintro ⟨⟨#H1, #H2⟩, H⟩
      iapply (wp_chunkStep A c hi)
      isplitr; · iexact H1
      isplitr; · iexact H2
      iexact H) 8 0 (by omega) k

/-- What device `c` holds once everything is awaited. -/
def Fin' : sProp 𝕄 :=
  iprop(accR A c ∗ Zout A c 8 8 ∗ Zin A c 8 5 ∗ Cr A (zcC c) 5 izc 5 ∗ Xout (F := F) c 8 8 ∗ Xin A c 8 6 ∗ Cr A (xcC c) 6 ixc 6
    ∗ Own A c 8 8 ∗ RedFree (F := F) c 8 8 ∗ Other A c 8 ∗ oweW c 0)

/-- The waits after the iterations. -/
theorem wp_lastWaits {k : PG F} {Q : PUnit → sProp 𝕄} :
    iprop(ctx A ∗ St A c 8) ⊢ iprop((Fin' A c -∗ WP c k Q) -∗ WP c (lastWaits c k) Q) := by
  unfold St Fin' lastWaits
  iintro ⟨#Hctx, HA, HZo, HZi, HCz, HXo, HXi, HCx, HOwn, HF, HOt, HO⟩ Hk
  iapply (wp_takeSums A c (j := 7) (a := 8) (b := 5) (e := 8) (by omega) (by unfold below iz izc ix ixc; omega)) $$ [HXi HOt HO]
  · isplitr; · iexact Hctx
    isplitl [HXi]; · iexact HXi
    isplitl [HOt]; · iexact HOt
    iexact HO
  iintro ⟨HXi, HOt, HO⟩
  iapply (wp_zSendWait A c (n := 8) (a := 5) (j := 5) 5 rfl (by omega) (by omega) 8 5 8 6) $$ [HZo HO]
  · isplitr; · iexact Hctx
    isplitl [HZo]; · iexact HZo
    iexact HO
  iintro ⟨HZo, HO⟩
  iapply (wp_zSendWait A c (n := 8) (a := 6) (j := 6) 6 rfl (by omega) (by omega) 8 5 8 6) $$ [HZo HO]
  · isplitr; · iexact Hctx
    isplitl [HZo]; · iexact HZo
    iexact HO
  iintro ⟨HZo, HO⟩
  iapply (wp_zSendWait A c (n := 8) (a := 7) (j := 7) 7 rfl (by omega) (by omega) 8 5 8 6) $$ [HZo HO]
  · isplitr; · iexact Hctx
    isplitl [HZo]; · iexact HZo
    iexact HO
  iintro ⟨HZo, HO⟩
  iapply (wp_xSendWait A c (n := 8) (a := 6) (j := 6) rfl (by omega) (by omega) 8 5 8 6) $$ [HXo HO]
  · isplitr; · iexact Hctx
    isplitl [HXo]; · iexact HXo
    iexact HO
  iintro ⟨HXo, Hr6, HO⟩
  iapply (wp_xSendWait A c (n := 8) (a := 7) (j := 7) rfl (by omega) (by omega) 8 5 8 6) $$ [HXo HO]
  · isplitr; · iexact Hctx
    isplitl [HXo]; · iexact HXo
    iexact HO
  iintro ⟨HXo, Hr7, HO⟩
  iapply (wp_stWait A c (n := 8) (s := 6) (by omega) (by omega) 8 5 8 6) $$ [HOwn HF Hr6 HO]
  · isplitr; · iexact Hctx
    isplitl [HOwn]; · iexact HOwn
    isplitl [Hr6]; · iexact Hr6
    isplitl [HF]; · iexact HF
    iexact HO
  iintro ⟨HOwn, HF, HO⟩
  iapply (wp_stWait A c (n := 8) (s := 7) (by omega) (by omega) 8 5 8 6) $$ [HOwn HF Hr7 HO]
  · isplitr; · iexact Hctx
    isplitl [HOwn]; · iexact HOwn
    isplitl [Hr7]; · iexact Hr7
    isplitl [HF]; · iexact HF
    iexact HO
  iintro ⟨HOwn, HF, HO⟩
  iapply Hk
  isplitl [HA]; · iexact HA
  isplitl [HZo]; · iexact HZo
  isplitl [HZi]; · iexact HZi
  isplitl [HCz]; · iexact HCz
  isplitl [HXo]; · iexact HXo
  isplitl [HXi]; · iexact HXi
  isplitl [HCx]; · iexact HCx
  isplitl [HOwn]; · iexact HOwn
  isplitl [HF]; · iexact HF
  isplitl [HOt]; · iexact HOt
  iapply (Entails.of_eq (congrArg (oweW (F := F) c) (owe_none c))) $$ HO

end Cert.Emb

end
-- ==== Proof.ESteps.lean ====
/-
# The partial rows

The table read block by block through two staging slots, each block adding the rows it holds.
-/
module

public import proofs.«01_k».proof.Proof.Chunks

@[expose] public section

noncomputable section

namespace Cert.Emb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv slot readerAt released writeTok)
open Idealize.ShloMosaic.Transfers (Flight)

variable {F : FTy → Type} [FloatOps F]

local notation "𝕄" => MT nD τ sig ℕ (Elt F) ℕ UU ℕ

/-! ## The partial rows -/

/-- The device's row numbers, of the array of all of them. -/
def idsOf (c : Dev nD) (I : S4096x1.Idx → Elt F .i32) : IVec S2048x1 32 :=
  shapeCast S2048x1 (idsBuf.view.readAt (Elt F) (Rect.unit (s := S4096x1) (k0_off1 c) S2048x1.size (k0_off1_inb c)).toLoadRect I)
    shapeCasts_S2048x1_S2048x1

/-- Block `b` of a table, as read from its staging slot. -/
def blockAt (T : S8192x2048.Idx → Elt F .f32) (b : ℕ) : Vec F S1x512x2048 .f32 :=
  eBuf.view.readAt (Elt F) (eRect b).toLoadRect (eC T b)

/-- The partial rows after blocks `0` to `b`. -/
def accAt (c : Dev nD) (ids : IVec S2048x1 32) (T : S8192x2048.Idx → Elt F .f32) : ℕ → Mat F
  | 0 => accFirst c ids (blockAt T 0)
  | b + 1 => accNext c (b + 1) ids (blockAt T (b + 1)) (accAt c ids T b)

/-! ## Its steps -/

variable (c : Dev nD)

abbrev eL : Loc nD τ sig := (c : Thread nD τ).loc cc0_scratch0
abbrev tabL : Loc nD τ sig := (c : Thread nD τ).loc main_arg1
/-- Block `b`'s staging slot. -/
def eP (b : ℕ) (f : Buf (Elt F) (eL c)) : sProp 𝕄 := eL c ↦[(eSlot b).view.set]{fullShare} f
/-- The device's half of the table. -/
def tabP (T : S8192x2048.Idx → Elt F .f32) : sProp 𝕄 := tabL c ↦[Finset.univ]{fullShare} T
/-- Block `b`'s rows of it, and the others. -/
def tabRows (T : S8192x2048.Idx → Elt F .f32) (b : ℕ) : sProp 𝕄 := tabL c ↦[(eRows b).view.set]{fullShare} T
def tabRest (T : S8192x2048.Idx → Elt F .f32) (b : ℕ) : sProp 𝕄 := tabL c ↦[Finset.univ \ (eRows b).view.set]{fullShare} T
/-- All partial rows. -/
def accW (f : Mat F) : sProp 𝕄 := accL c ↦[Finset.univ]{fullShare} f

theorem tab_split (T : S8192x2048.Idx → Elt F .f32) (b : ℕ) : tabP (F := F) c T ⊣⊢ iprop(tabRows c T b ∗ tabRest c T b) :=
  pointsTo_split_subset (Finset.subset_univ _)

theorem eP_congr {j j' : ℕ} (h : j % 2 = j' % 2) (f) : eP (F := F) c j f = eP c j' f := by
  unfold eP
  rw [show (eSlot j).view.set = (eSlot j').view.set by ext i; exact mem_eSlot.trans (Eq.to_iff (by rw [h]) |>.trans mem_eSlot.symm)]

/-- Block `b`'s staging slot, free. -/
def eFree (b : ℕ) : sProp 𝕄 := iprop((∃ f, eP (F := F) c b f) ∗ semVal ((c : Thread nD τ), .dma (eSem b)) 0)
theorem eFree_congr {j j' : ℕ} (h : j % 2 = j' % 2) : eFree (F := F) c j = eFree c j' := by
  unfold eFree
  have hs : eSem j = eSem j' := sem2_val _ _ _ h
  rw [hs]; simp only [eP_congr c h]

/-- Block `b`'s rows on their way into the slot. -/
def eFly (T : S8192x2048.Idx → Elt F .f32) (b : ℕ) : sProp 𝕄 :=
  iprop(Flight EC (c : Thread nD τ) (.dma (eSem b)) 0 NB iprop(eP c b (eC T b) ∗ tabRows c T b) ∗ tabRest c T b)
/-- Block `b` asked for; past the last block nothing is. -/
def eNext (T : S8192x2048.Idx → Elt F .f32) (b : ℕ) : sProp 𝕄 := if b < 16 then eFly c T b else iprop(tabP c T ∗ eFree (F := F) c b)

theorem eSlot_amount (j : ℕ) (q : DmaSem sig) : (eSlot j).view.amount (.dma q) = NB := eSlot_credit j

theorem wp_eStart (T : S8192x2048.Idx → Elt F .f32) (b : ℕ) {k : PG F} {Q : PUnit → sProp 𝕄} :
    iprop(tabP c T ∗ eFree (F := F) c b) ⊢ iprop((eFly c T b -∗ WP c k Q) -∗ WP c (eStart b k) Q) := by
  unfold eFree eFly eStart
  iintro ⟨HT, ⟨%f, He⟩, Hv⟩ Hk
  ihave HT := (tab_split (F := F) c T b).1 $$ HT
  icases HT with ⟨HT, Hrest⟩
  unfold tabRows eP
  iapply (local_copy c (src := eRows b) (dst := eSlot b) (sm := .dma (eSem b)) (q := fullShare) (fs := T) (fd := f) (g := eC T b)
    (eSlot_amount b _) NB_pos (eSlot_read T b).symm) $$ [HT He Hv]
  · isplitl [HT]; · iexact HT
    isplitl [He] <;> iassumption
  iintro Hf
  iapply Hk
  isplitl [Hf] <;> iassumption

theorem wp_eNext (T : S8192x2048.Idx → Elt F .f32) (b : ℕ) {k : PG F} {Q : PUnit → sProp 𝕄} :
    iprop(tabP c T ∗ eFree (F := F) c b) ⊢ iprop((eNext c T b -∗ WP c k Q) -∗ WP c ((if b < 16 then eStart b else id) k) Q) := by
  unfold eNext
  by_cases h : b < 16
  · rw [if_pos h, if_pos h]; exact wp_eStart c T b
  · rw [if_neg h, if_neg h]
    iintro H Hk
    iapply Hk $$ H

theorem wp_eWait {A : Dev nD → Mat F} (T : S8192x2048.Idx → Elt F .f32) (b : ℕ) {k : PG F} {Q : PUnit → sProp 𝕄} :
    iprop(ctx A ∗ eFly c T b ∗ oweW (F := F) c (owe c 0 0 0 0))
      ⊢ iprop(((tabP c T ∗ eP c b (eC T b) ∗ semVal ((c : Thread nD τ), .dma (eSem b)) 0 ∗ oweW (F := F) c (owe c 0 0 0 0)) -∗ WP c k Q)
          -∗ WP c (eWait b k) Q) := by
  unfold eFly eWait
  iintro ⟨#Hctx, ⟨Hf, Hrest⟩, HO⟩ Hk
  iapply (local_wait c (eSlot_credit b)) $$ [Hf HO]
  · isplitl [Hf]; · iexact Hf
    isplitl [HO]; · iexact HO
    iapply (mayWait_of c (.dma (eSem b)) (below_zero 0 0 0 0))
    iapply (ctx_lev A) $$ Hctx
  iintro ⟨⟨He, HT⟩, Hv, HO⟩
  iapply Hk
  isplitl [HT Hrest]
  · iapply (tab_split (F := F) c T b).2
    isplitl [HT] <;> iassumption
  isplitl [He]; · iexact He
  isplitl [Hv] <;> iassumption

theorem wp_eLoad (T : S8192x2048.Idx → Elt F .f32) (b : ℕ) {k : Vec F S1x512x2048 .f32 → PG F} {Q : PUnit → sProp 𝕄} :
    iprop(eP c b (eC T b)) ⊢ iprop((eP c b (eC T b) -∗ WP c (k (blockAt T b)) Q) -∗ WP c (eLoad b k) Q) := by
  have e : (eSlot b).view.set = eBuf.view.setOn (eRect b).toLoadRect.set := (View.set_reshape _ _).trans (View.set_slice _ _)
  unfold eP eLoad blockAt
  iintro He Hk
  iapply (wp_load Variants.none (c : Thread nD τ) none Set.univ (m := eBuf) e.ge) $$ He; iintro He
  iapply Hk $$ He

theorem acc_off : (![0, 0] : Fin 2 → ℕ) = fun _ => 0 := by funext a; fin_cases a <;> rfl

theorem wp_accLoad (f : Mat F) {k : Vec F S2048x2048 .f32 → PG F} {Q : PUnit → sProp 𝕄} :
    accW c f ⊢ iprop((accW c f -∗ WP c (k f) Q) -∗ WP c (accLoad k) Q) := by
  have e : accBuf.view.readAt (Elt F) accAll.toLoadRect f = f := Memref.readAt_unit_zero (Elt F) cc0_scratch1 acc_off _ f
  unfold accW accLoad
  iintro He Hk
  iapply (wp_load Variants.none (c : Thread nD τ) none Set.univ (m := accBuf) (Finset.subset_univ _)) $$ He; iintro He
  iapply (Entails.of_eq (congrArg (fun v => WP c (k v) Q) e.symm))
  iapply Hk $$ He

theorem wp_accStore (f w : Mat F) {k : PG F} {Q : PUnit → sProp 𝕄} :
    accW c f ⊢ iprop((accW c w -∗ WP c k Q) -∗ WP c (accStore w k) Q) := by
  have e : (accBuf.access accAll).write (Elt F) f w Finset.univ = w := Memref.write_access_unit_zero_univ (Elt F) cc0_scratch1 acc_off _ f w
  unfold accW accStore
  iintro He Hk
  iapply (wp_store Variants.none (c : Thread nD τ) none Set.univ (m := accBuf) (r := accAll) (Mk := Finset.univ) (Finset.subset_univ _)) $$ He; iintro He
  iapply Hk
  iapply (Entails.of_eq (congrArg (fun v => (accL c ↦[Finset.univ]{fullShare} v : sProp 𝕄)) e)) $$ He

/-- What device `c` holds before block `b`, the partial rows holding `f`. -/
def Es (T : S8192x2048.Idx → Elt F .f32) (b : ℕ) (f : Mat F) : sProp 𝕄 :=
  iprop(eNext c T b ∗ eFree (F := F) c (b + 1) ∗ accW c f ∗ oweW (F := F) c (owe c 0 0 0 0))

theorem wp_eFirst {A : Dev nD → Mat F} (ids : IVec S2048x1 32) (T : S8192x2048.Idx → Elt F .f32) (f : Mat F) {k : PG F} {Q : PUnit → sProp 𝕄} :
    iprop(ctx A ∗ Es c T 0 f) ⊢ iprop((Es c T 1 (accAt c ids T 0) -∗ WP c k Q) -∗ WP c (eFirst c ids k) Q) := by
  unfold Es eFirst
  rw [show eNext (F := F) c T 0 = eFly c T 0 from if_pos (by decide), show eNext (F := F) c T 1 = eFly c T 1 from if_pos (by decide)]
  iintro ⟨#Hctx, Hfl, Hfr, Hacc, HO⟩ Hk
  iapply (wp_eWait c (A := A) T 0) $$ [Hfl HO]
  · isplitr; · iexact Hctx
    isplitl [Hfl] <;> iassumption
  iintro ⟨HT, He, Hv, HO⟩
  iapply (wp_eStart c T 1) $$ [HT Hfr]
  · isplitl [HT]; · iexact HT
    iexact Hfr
  iintro Hn
  iapply (wp_eLoad c T 0) $$ He
  iintro He
  iapply (wp_accLoad c f) $$ Hacc
  iintro Hacc
  iapply (wp_accStore c f (accFirst c ids (blockAt T 0))) $$ Hacc
  iintro Hacc
  iapply Hk
  isplitl [Hn]; · iexact Hn
  isplitl [He Hv]
  · iapply (Entails.of_eq (eFree_congr (F := F) c (j := 0) (j' := 1 + 1) (by omega)))
    unfold eFree
    isplitl [He]; · iexists _; iexact He
    iexact Hv
  isplitl [Hacc]; · iexact Hacc
  iexact HO

theorem wp_eStep {A : Dev nD → Mat F} (ids : IVec S2048x1 32) (T : S8192x2048.Idx → Elt F .f32) {b : ℕ} (hb : b + 1 < 16) {k : PG F} {Q : PUnit → sProp 𝕄} :
    iprop(ctx A ∗ Es c T (b + 1) (accAt c ids T b))
      ⊢ iprop((Es c T (b + 2) (accAt c ids T (b + 1)) -∗ WP c k Q) -∗ WP c (eStep c ids (b + 1) k) Q) := by
  unfold Es eStep
  rw [show eNext (F := F) c T (b + 1) = eFly c T (b + 1) from if_pos hb]
  iintro ⟨#Hctx, Hfl, Hfr, Hacc, HO⟩ Hk
  iapply (wp_eWait c (A := A) T (b + 1)) $$ [Hfl HO]
  · isplitr; · iexact Hctx
    isplitl [Hfl] <;> iassumption
  iintro ⟨HT, He, Hv, HO⟩
  iapply (wp_eNext c T (b + 2)) $$ [HT Hfr]
  · isplitl [HT]; · iexact HT
    iexact Hfr
  iintro Hn
  iapply (wp_eLoad c T (b + 1)) $$ He
  iintro He
  iapply (wp_accLoad c (accAt c ids T b)) $$ Hacc
  iintro Hacc
  iapply (wp_accLoad c (accAt c ids T b)) $$ Hacc
  iintro Hacc
  iapply (wp_accStore c (accAt c ids T b) (accNext c (b + 1) ids (blockAt T (b + 1)) (accAt c ids T b))) $$ Hacc
  iintro Hacc
  iapply Hk
  isplitl [Hn]; · iexact Hn
  isplitl [He Hv]
  · iapply (Entails.of_eq (eFree_congr (F := F) c (j := b + 1) (j' := b + 2 + 1) (by omega)))
    unfold eFree
    isplitl [He]; · iexists _; iexact He
    iexact Hv
  isplitl [Hacc]; · iexact Hacc
  iexact HO

theorem wp_eSteps {A : Dev nD → Mat F} (ids : IVec S2048x1 32) (T : S8192x2048.Idx → Elt F .f32) {Q : PUnit → sProp 𝕄} :
    ∀ (n b : ℕ), b + n ≤ 15 → ∀ k : PG F, iprop(ctx A ∗ Es c T (b + 1) (accAt c ids T b))
      ⊢ iprop((Es c T (b + n + 1) (accAt c ids T (b + n)) -∗ WP c k Q) -∗ WP c (steps (eStep c ids) (b + 1) n k) Q)
  | 0, b, _, k => by
    iintro ⟨-, H⟩ Hk
    unfold steps
    iapply Hk $$ H
  | n + 1, b, hn, k => by
    unfold steps
    rw [show b + (n + 1) = b + 1 + n by omega]
    iintro ⟨#HP, H⟩ Hk
    iapply (wp_eStep c (A := A) ids T (b := b) (by omega) (k := steps (eStep c ids) (b + 1 + 1) n k)) $$ [H]
    · isplitr; · iexact HP
      iexact H
    iintro H
    iapply (wp_eSteps (A := A) ids T n (b + 1) (by omega) k) $$ [H]
    · isplitr; · iexact HP
      iexact H
    iexact Hk

/-- The partial rows of device `c`, its row numbers being in `I` and its half of the table `T`. -/
def partialRows (c : Dev nD) (I : S4096x1.Idx → Elt F .i32) (T : S8192x2048.Idx → Elt F .f32) : Mat F := accAt c (idsOf c I) T 15

/-- The partial rows are formed. -/
theorem wp_table {A : Dev nD → Mat F} (I : S4096x1.Idx → Elt F .i32) (T : S8192x2048.Idx → Elt F .f32) (f : Mat F) {k : PG F} {Q : PUnit → sProp 𝕄} :
    iprop(ctx A ∗ tabP c T ∗ eFree (F := F) c 0 ∗ eFree (F := F) c 1 ∗ accW c f ∗ oweW (F := F) c (owe c 0 0 0 0))
      ⊢ iprop(((tabP c T ∗ eFree (F := F) c 0 ∗ eFree (F := F) c 1 ∗ accW c (partialRows c I T) ∗ oweW (F := F) c (owe c 0 0 0 0)) -∗ WP c k Q)
          -∗ WP c (eStart 0 <| eFirst c (idsOf c I) <| steps (eStep c (idsOf c I)) 1 15 k) Q) := by
  iintro ⟨#Hctx, HT, H0, H1, Hacc, HO⟩ Hk
  iapply (wp_eStart c T 0) $$ [HT H0]
  · isplitl [HT] <;> iassumption
  iintro Hn
  iapply (wp_eFirst c (A := A) (idsOf c I) T f) $$ [Hn H1 Hacc HO]
  · isplitr; · iexact Hctx
    unfold Es
    isplitl [Hn]
    · iapply (Entails.of_eq (show eFly (F := F) c T 0 = eNext c T 0 from (if_pos (by decide)).symm)) $$ Hn
    isplitl [H1]; · iexact H1
    isplitl [Hacc] <;> iassumption
  iintro H
  iapply (wp_eSteps c (A := A) (idsOf c I) T 15 0 (by omega) k) $$ [H]
  · isplitr; · iexact Hctx
    iexact H
  iintro H
  iapply Hk
  ihave H := (show Es c T (0 + 15 + 1) (accAt c (idsOf c I) T (0 + 15)) ⊢ iprop((tabP c T ∗ eFree (F := F) c 16) ∗ eFree (F := F) c 17
      ∗ accW c (partialRows c I T) ∗ oweW (F := F) c (owe c 0 0 0 0)) from by
    unfold Es
    rw [show eNext (F := F) c T (0 + 15 + 1) = iprop(tabP c T ∗ eFree (F := F) c 16) from if_neg (by decide)]
    exact .rfl) $$ H
  icases H with ⟨⟨HT, H0⟩, H1, Hacc, HO⟩
  isplitl [HT]; · iexact HT
  isplitl [H0]; · iapply (Entails.of_eq (eFree_congr (F := F) c (j := 16) (j' := 0) (by omega))) $$ H0
  isplitl [H1]; · iapply (Entails.of_eq (eFree_congr (F := F) c (j := 17) (j' := 1) (by omega))) $$ H1
  isplitl [Hacc] <;> iassumption

end Cert.Emb

end
-- ==== Proof.Entry.lean ====
/-
# The entry

Every landing slot is opened, both neighbours are told and awaited, and the row numbers are read.
-/
module

public import proofs.«01_k».proof.Proof.ESteps

@[expose] public section

noncomputable section

namespace Cert.Emb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv slot readerAt released writeTok)
open Idealize.ShloMosaic.Transfers (Flight)

variable {F : FTy → Type} [FloatOps F]

local notation "𝕄" => MT nD τ sig ℕ (Elt F) ℕ UU ℕ

/-- Members taken one by one across an update, a persistent fact being known. -/
theorem run_update {s : Finset ℕ} {P : sProp 𝕄} [BI.Persistent P] {Φ Ψ : ℕ → sProp 𝕄} (h : ∀ j ∈ s, iprop(P ∗ Φ j) ⊢ (|={Set.univ}=> Ψ j : sProp 𝕄)) :
    iprop(P ∗ bigSep s Φ) ⊢ (|={Set.univ}=> bigSep s Ψ : sProp 𝕄) :=
  (sep_mono_left (BI.bigSep_of_persistent s P)).trans ((by rw [← bigSep_sep']; exact bigSep_mono h : _ ⊢ bigSep s fun j => iprop(|={Set.univ}=> Ψ j)).trans (bigSep_fupd _ _))

variable (A : Dev nD → Mat F) (c : Dev nD)

/-- A landing slot for the other half's rows is opened. -/
theorem open_z {j : ℕ} (hj : j < 3) :
    iprop(ctx A ∗ at_ (zrC c j) (j / 3) ∗ readerAt ES (zKey c j) 0 ∗ ∃ f, zP (F := F) c j f)
      ⊢ (|={Set.univ}=> iprop(at_ (zrC c j) (j / 3) ∗ readerAt ES (zKey c j) (j / 3 + 1) ∗ canZ c j) : sProp 𝕄) := by
  have h0 : j / 3 = 0 := by omega
  unfold canZ
  rw [h0]
  iintro ⟨#Hctx, Hat, Hrd, Hz⟩
  ihave Hat := (persistent_entails_right (at_reached (F := F) (zrC c j) 0)) $$ Hat
  icases Hat with ⟨#Hr, Hat⟩
  ihave Hs := (ctx_slot A (zKey c j)) $$ Hctx
  unfold hasSlot
  icases Hs with ⟨%ι, Hs⟩
  imod (Release.slot_release ES (S := slotOf (F := F) (zKey c j)) (Set.mem_univ ι) (slotOf_excl _) 0) $$ [Hs Hrd Hz] with ⟨Hrd, #Hrel⟩
  · isplitl [Hs]; · iexact Hs
    isplitl [Hrd]; · iexact Hrd
    iapply (Entails.of_eq (slotOf_z (F := F) c j).symm)
    iexact Hz
  imodintro
  isplitl [Hat]; · iexact Hat
  isplitl [Hrd]; · iexact Hrd
  isplitr; · iexact Hrel
  iexact Hr

/-- A landing slot for the other rows' sums is opened. -/
theorem open_x {j : ℕ} (hj : j < 2) :
    iprop(ctx A ∗ at_ (xrC c j) (j / 2) ∗ readerAt ES (xKey c j) 0 ∗ ∃ f, xP (F := F) c j f)
      ⊢ (|={Set.univ}=> iprop(at_ (xrC c j) (j / 2) ∗ readerAt ES (xKey c j) (j / 2 + 1) ∗ canX c j) : sProp 𝕄) := by
  have h0 : j / 2 = 0 := by omega
  unfold canX
  rw [h0]
  iintro ⟨#Hctx, Hat, Hrd, Hz⟩
  ihave Hat := (persistent_entails_right (at_reached (F := F) (xrC c j) 0)) $$ Hat
  icases Hat with ⟨#Hr, Hat⟩
  ihave Hs := (ctx_slot A (xKey c j)) $$ Hctx
  unfold hasSlot
  icases Hs with ⟨%ι, Hs⟩
  imod (Release.slot_release ES (S := slotOf (F := F) (xKey c j)) (Set.mem_univ ι) (slotOf_excl _) 0) $$ [Hs Hrd Hz] with ⟨Hrd, #Hrel⟩
  · isplitl [Hs]; · iexact Hs
    isplitl [Hrd]; · iexact Hrd
    iapply (Entails.of_eq (slotOf_x (F := F) c j).symm)
    iexact Hz
  imodintro
  isplitl [Hat]; · iexact Hat
  isplitl [Hrd]; · iexact Hrd
  isplitr; · iexact Hrel
  iexact Hr

/-- The landing slots a device starts with, with the record of their releases. -/
def slots0 : sProp 𝕄 :=
  iprop(bigSep (Finset.Ico 0 3) (fun j => iprop(at_ (F := F) (zrC c j) (j / 3) ∗ readerAt ES (zKey c j) 0 ∗ ∃ f, zP (F := F) c j f))
    ∗ bigSep (Finset.Ico 0 2) (fun j => iprop(at_ (F := F) (xrC c j) (j / 2) ∗ readerAt ES (xKey c j) 0 ∗ ∃ f, xP (F := F) c j f))
    ∗ reached ER (zcC c) 0 ∗ reached ER (xcC c) 0)
/-- The same, the slots given. -/
def slots1 : sProp 𝕄 :=
  iprop((bigSep (Finset.Ico 0 3) (fun j => at_ (F := F) (zrC c j) (j / 3)) ∗ bigSep (Finset.Ico 0 3) (fun j => readerAt ES (zKey c j) (j / 3 + 1)))
    ∗ (bigSep (Finset.Ico 0 2) (fun j => at_ (F := F) (xrC c j) (j / 2)) ∗ bigSep (Finset.Ico 0 2) (fun j => readerAt ES (xKey c j) (j / 2 + 1))))

/-- All landing slots are opened. -/
theorem open_all : iprop(ctx A ∗ slots0 (F := F) c)
    ⊢ (|={Set.univ}=> iprop(slots1 (F := F) c ∗ toldZ (F := F) c ∗ toldX (F := F) c) : sProp 𝕄) := by
  unfold slots0 slots1 toldZ toldX
  iintro ⟨#Hctx, HZ, HX, Hzc, Hxc⟩
  imod (run_update (P := ctx A) (s := Finset.Ico 0 3) (fun j hj => open_z A c (Finset.mem_Ico.mp hj).2)) $$ [HZ] with HZ
  · isplitr; · iexact Hctx
    iexact HZ
  imod (run_update (P := ctx A) (s := Finset.Ico 0 2) (fun j hj => open_x A c (Finset.mem_Ico.mp hj).2)) $$ [HX] with HX
  · isplitr; · iexact Hctx
    iexact HX
  imodintro
  ihave HZ := (show bigSep (Finset.Ico 0 3) (fun j => iprop(at_ (F := F) (zrC c j) (j / 3) ∗ readerAt ES (zKey c j) (j / 3 + 1) ∗ canZ c j))
      ⊢ iprop(bigSep (Finset.Ico 0 3) (fun j => at_ (F := F) (zrC c j) (j / 3)) ∗ bigSep (Finset.Ico 0 3) (fun j => readerAt ES (zKey c j) (j / 3 + 1))
        ∗ bigSep (Finset.range 3) (fun j => canZ (F := F) c j)) from by rw [bigSep_sep', bigSep_sep', Finset.range_eq_Ico]) $$ HZ
  ihave HX := (show bigSep (Finset.Ico 0 2) (fun j => iprop(at_ (F := F) (xrC c j) (j / 2) ∗ readerAt ES (xKey c j) (j / 2 + 1) ∗ canX c j))
      ⊢ iprop(bigSep (Finset.Ico 0 2) (fun j => at_ (F := F) (xrC c j) (j / 2)) ∗ bigSep (Finset.Ico 0 2) (fun j => readerAt ES (xKey c j) (j / 2 + 1))
        ∗ bigSep (Finset.range 2) (fun j => canX (F := F) c j)) from by rw [bigSep_sep', bigSep_sep', Finset.range_eq_Ico]) $$ HX
  icases HZ with ⟨HZ1, HZ2, HZ3⟩
  icases HX with ⟨HX1, HX2, HX3⟩
  isplitr [HZ3 HX3 Hzc Hxc]
  · isplitl [HZ1 HZ2]
    · isplitl [HZ1] <;> iassumption
    isplitl [HX1] <;> iassumption
  isplitl [HZ3 Hzc]
  · isplitl [HZ3] <;> iassumption
  isplitl [HX3] <;> iassumption

/-- A neighbour is told. -/
theorem signal_bar (d' d : Dev nD) (hd : d' = d) {t : ℕ} (ht : t ∈ ({0, 1} : Finset ℕ)) (O : CellTallies nD τ sig ℕ) {k : PUnit → PG F} {Q : PUnit → sProp 𝕄} :
    iprop(ctx A ∗ (Rd A).payload (barC d) 0 t ∗ dutyTok ER (barC d) 0 t ∗ oweW c (O + tallyAt (barC d) 1 1))
      ⊢ iprop((oweW c O -∗ WP c (k ⟨⟩) Q) -∗ WP c (.op (.semSignal (d', .tc) barSem (1#32).toInt) k) Q) := by
  subst hd
  iintro ⟨#Hctx, Hf, Ht, HO⟩ Hk
  ihave HI := (ctx_bar A d') $$ Hctx
  ihave Hr := (ctx_open A d') $$ Hctx
  unfold hasInv oweW
  icases HI with ⟨%κ, HI⟩
  icases HO with ⟨%W, HO⟩
  iapply (Rounds.wp_signal Variants.none ER (Rd A) (c : Thread nD τ) none (dst := (d' : Thread nD τ)) (κ := κ) (r := 0)
      (d := t) (by rw [duties_bar]; exact ht) ((amount_bar A d' 0 t).trans (by decide)) 1 O rfl (W := W) (hr := joined c d')) $$ [HI HO Ht Hf Hr]
  · isplitl [HI]; · iexact HI
    isplitl [HO]; · iexact HO
    isplitl [Ht]; · iexact Ht
    isplitl [Hf]; · iexact Hf
    iexact Hr
  iintro HO
  iapply Hk
  iexists W; iexact HO

/-- What device `c` owes at the start. -/
def O₀ : CellTallies nD τ sig ℕ := (owe c 0 0 0 0 + tallyAt (barC (px c)) 1 1) + tallyAt (barC (pz c)) 1 1

/-- Both neighbours are awaited. -/
theorem wait_bar {k : PUnit → PG F} {Q : PUnit → sProp 𝕄} :
    iprop(ctx A ∗ cred (tallyAt (barC c) 1 2) ∗ atPos ER (barC c) 0 ∅ 0 ∗ oweW c (owe c 0 0 0 0))
      ⊢ iprop(((opened (F := F) c ∗ atPos ER (barC c) 1 ∅ 0 ∗ oweW c (owe c 0 0 0 0)) -∗ WP c (k ⟨⟩) Q)
          -∗ WP c (.op (.semWait barSem (2#32).toInt) k) Q) := by
  have hk : (2#32).toInt = ((2 : ℕ) : ℤ) := by decide
  rw [hk]
  iintro ⟨#Hctx, Hc, Hat, HO⟩ Hk
  ihave HI := (ctx_bar A c) $$ Hctx
  unfold hasInv oweW
  icases HI with ⟨%κ, HI⟩
  icases HO with ⟨%W, HO⟩
  iapply (Rounds.wp_wait_rest_token Variants.none ER (Rd A) (c : Thread nD τ) none (κ := κ) (wpE_semWait_eq Variants.none (c : Thread nD τ) none Set.univ)
      (Set.mem_univ _) 1 (O := owe c 0 0 0 0) (W := W) (R := 0) (m := 0) (T := ∅)
      (by rw [expect_unit A (fun d => amount_bar A c 0 d), duties_bar]; decide)) $$ [HI Hc HO Hat]
  · isplitl [HI]; · iexact HI
    isplitl [Hc]; · iexact Hc
    isplitl [HO]; · iexact HO
    isplitr
    · iapply (mayWait_of c (.reg barSem) (show below 1 0 0 0 0 by unfold below iz izc ix ixc; omega))
      iapply (ctx_lev A) $$ Hctx
    iexact Hat
  iintro ⟨HO, Hat, -, Hp⟩
  ihave Hp := (show bigSep ((Rd A).duties (barC c) 0 \ ∅) (fun d => (Rd A).payload (barC c) 0 d) ⊢ opened (F := F) c from Entails.of_eq (by
    unfold opened
    rw [duties_bar, Finset.sdiff_empty, bigSep_insert (by decide), bigSep_singleton, payload_bar0, payload_bar1]; rfl)) $$ Hp
  iapply Hk
  isplitl [Hp]; · iexact Hp
  isplitl [Hat]; · iexact Hat
  iexists _; iexact HO

abbrev idsL : Loc nD τ sig := (c : Thread nD τ).loc cc0_stg0_0
/-- All row numbers, staged. -/
def idsP (I : S4096x1.Idx → Elt F .i32) : sProp 𝕄 := idsL c ↦[Finset.univ]{fullShare} I

/-- The entry. -/
theorem wp_entry (I : S4096x1.Idx → Elt F .i32) {k : IVec S2048x1 32 → PG F} {Q : PUnit → sProp 𝕄} :
    iprop(ctx A ∗ slots0 (F := F) c ∗ dutyTok ER (barC (pz c)) 0 0 ∗ dutyTok ER (barC (px c)) 0 1 ∗ cred (tallyAt (barC c) 1 2) ∗ atPos ER (barC c) 0 ∅ 0
        ∗ idsP c I ∗ oweW c (O₀ c))
      ⊢ iprop(((slots1 (F := F) c ∗ opened (F := F) c ∗ atPos ER (barC c) 1 ∅ 0 ∗ idsP c I ∗ oweW c (owe c 0 0 0 0)) -∗ WP c (k (idsOf c I)) Q)
          -∗ WP c (entry c k) Q) := by
  unfold entry O₀ idsOf
  iintro ⟨#Hctx, Hs, Ht0, Ht1, Hc, Hat, HI, HO⟩ Hk
  imod (open_all A c) $$ [Hs] with ⟨Hs, HZ, HX⟩
  · isplitr; · iexact Hctx
    iexact Hs
  iapply (signal_bar A c (zDev c) (pz c) (zDev_eq c) (t := 0) (by decide) (owe c 0 0 0 0 + tallyAt (barC (px c)) 1 1)) $$ [HZ Ht0 HO]
  · isplitr; · iexact Hctx
    isplitl [HZ]
    · iapply (Entails.of_eq (show toldZ (F := F) c = (Rd A).payload (barC (pz c)) 0 0 by rw [payload_bar0, pz_pz])) $$ HZ
    isplitl [Ht0] <;> iassumption
  iintro HO
  iapply (signal_bar A c (xDev c) (px c) (xDev_eq c) (t := 1) (by decide) (owe c 0 0 0 0)) $$ [HX Ht1 HO]
  · isplitr; · iexact Hctx
    isplitl [HX]
    · iapply (Entails.of_eq (show toldX (F := F) c = (Rd A).payload (barC (px c)) 0 1 by rw [payload_bar1, px_px])) $$ HX
    isplitl [Ht1] <;> iassumption
  iintro HO
  iapply (wait_bar A c) $$ [Hc Hat HO]
  · isplitr; · iexact Hctx
    isplitl [Hc]; · iexact Hc
    isplitl [Hat] <;> iassumption
  iintro ⟨Hop, Hat, HO⟩
  unfold idsP
  iapply (wp_load Variants.none (c : Thread nD τ) none Set.univ (m := idsBuf) (Finset.subset_univ _)) $$ HI
  iintro HI
  iapply Hk
  isplitl [Hs]; · iexact Hs
  isplitl [Hop]; · iexact Hop
  isplitl [Hat]; · iexact Hat
  isplitl [HI] <;> iassumption

end Cert.Emb

end
-- ==== Proof.Split.lean ====
/-
A buffer whole and its pieces: a run of as many consecutive chunk numbers as there are pieces.
-/
module

public import proofs.«01_k».proof.Proof.Entry

@[expose] public section

noncomputable section

namespace Cert.Emb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv slot readerAt released writeTok)
open Idealize.ShloMosaic.Transfers (Flight)

variable {F : FTy → Type} [FloatOps F]

local notation "𝕄" => MT nD τ sig ℕ (Elt F) ℕ UU ℕ

/-- A buffer's pieces, numbered by a key taken modulo their number, over any run of that many numbers. -/
theorem whole_run {ℓ : Loc nD τ sig} {q : PosShare TreeShare} {m : ℕ} (K : ℕ → Finset (Idx ℓ)) (key : Idx ℓ → ℕ)
    (hK : ∀ j i, i ∈ K j ↔ key i = j % m) (hkey : ∀ i, key i < m) (a : ℕ) :
    (Finset.Ico a (a + m)).biUnion K = Finset.univ
      ∧ ∀ t ∈ Finset.Ico a (a + m), ∀ t' ∈ Finset.Ico a (a + m), t ≠ t' → Disjoint (K t) (K t') := by
  constructor
  · ext i
    simp only [Finset.mem_biUnion, Finset.mem_univ, iff_true, Finset.mem_Ico, hK]
    have h1 := Nat.div_add_mod a m
    have h2 := hkey i
    have h3 : a % m < m := Nat.mod_lt _ (by omega)
    by_cases h : a % m ≤ key i
    · refine ⟨m * (a / m) + key i, by omega, ?_⟩
      rw [Nat.mul_add_mod, Nat.mod_eq_of_lt h2]
    · refine ⟨m * (a / m + 1) + key i, ?_, ?_⟩
      · rw [Nat.mul_add]; omega
      · rw [Nat.mul_add_mod, Nat.mod_eq_of_lt h2]
  · intro t ht t' ht' hne
    rw [Finset.disjoint_left]
    intro i hi hi'
    have he : t % m = t' % m := ((hK t i).mp hi).symm.trans ((hK t' i).mp hi')
    rw [Finset.mem_Ico] at ht ht'
    apply hne
    have e1 := Nat.div_add_mod t m
    have e2 := Nat.div_add_mod t' m
    rcases Nat.lt_trichotomy (t / m) (t' / m) with h | h | h
    · have := Nat.mul_le_mul_left m (Nat.succ_le_of_lt h); rw [Nat.succ_eq_add_one, Nat.mul_add] at this; omega
    · rw [h] at e1; omega
    · have := Nat.mul_le_mul_left m (Nat.succ_le_of_lt h); rw [Nat.succ_eq_add_one, Nat.mul_add] at this; omega

/-- The whole at some contents, split into its pieces. -/
theorem whole_split {ℓ : Loc nD τ sig} {q : PosShare TreeShare} {m : ℕ} (K : ℕ → Finset (Idx ℓ)) (key : Idx ℓ → ℕ)
    (hK : ∀ j i, i ∈ K j ↔ key i = j % m) (hkey : ∀ i, key i < m) (a : ℕ) (f : Buf (Elt F) ℓ) :
    (ℓ ↦[Finset.univ]{q} f : sProp 𝕄) = bigSep (Finset.Ico a (a + m)) fun j => ℓ ↦[K j]{q} f := by
  obtain ⟨h1, h2⟩ := whole_run (q := q) K key hK hkey a
  rw [← h1]; exact pointsTo_biUnion _ _ h2

/-- The pieces at any contents make the whole at some. -/
theorem whole_join {ℓ : Loc nD τ sig} {q : PosShare TreeShare} {m : ℕ} (K : ℕ → Finset (Idx ℓ)) (key : Idx ℓ → ℕ)
    (hK : ∀ j i, i ∈ K j ↔ key i = j % m) (hkey : ∀ i, key i < m) (a : ℕ) :
    bigSep (Finset.Ico a (a + m)) (fun j => iprop(∃ f : Buf (Elt F) ℓ, ℓ ↦[K j]{q} f))
      ⊢ (iprop(∃ f, ℓ ↦[Finset.univ]{q} f) : sProp 𝕄) := by
  obtain ⟨h1, h2⟩ := whole_run (q := q) K key hK hkey a
  refine (BI.bigSep_exists_pi _ _).trans ?_
  iintro ⟨%fs, H⟩
  ihave H := (pointsTo_biUnion_join (Finset.Ico a (a + m)) K fs (fs a) h2) $$ H
  rw [h1]
  icases H with ⟨%g, -, H⟩
  iexists g; iexact H

variable (c : Dev nD)

/-- The partial rows, chunk by chunk. -/
theorem acc_split (q : PosShare TreeShare) (B : Mat F) :
    (accL c ↦[Finset.univ]{q} B : sProp 𝕄) = bigSep (Finset.Ico 0 8) fun j => accP c j q B :=
  whole_split (ℓ := accL c) (m := 8) (fun j => (accChunk j).view.set) (fun i : S2048x2048.Idx => (i 0).val / 256)
    (fun _ _ => mem_accChunk) (fun i => by have : (i 0).val < 2048 := (i 0).isLt; omega) 0 B

theorem z_split (f : Buf (Elt F) (zL c)) :
    (zL c ↦[Finset.univ]{fullShare} f : sProp 𝕄) = bigSep (Finset.Ico 0 3) fun j => zP c j f :=
  whole_split (ℓ := zL c) (m := 3) (fun j => (zSlot j).view.set) (fun i : S3x256x2048.Idx => (i 0).val)
    (fun _ _ => mem_zSlot) (fun i => (i 0).isLt) 0 f
theorem z_join (a : ℕ) : bigSep (Finset.Ico a (a + 3)) (fun j => iprop(∃ f, zP (F := F) c j f))
    ⊢ (iprop(∃ f, zL c ↦[Finset.univ]{fullShare} f) : sProp 𝕄) :=
  whole_join (ℓ := zL c) (m := 3) (fun j => (zSlot j).view.set) (fun i : S3x256x2048.Idx => (i 0).val)
    (fun _ _ => mem_zSlot) (fun i => (i 0).isLt) a

theorem red_split (f : Buf (Elt F) (redL c)) :
    (redL c ↦[Finset.univ]{fullShare} f : sProp 𝕄) = bigSep (Finset.Ico 0 2) fun j => redP c j fullShare f :=
  whole_split (ℓ := redL c) (m := 2) (fun j => (redSlot j).view.set) (fun i : S2x256x2048.Idx => (i 0).val)
    (fun _ _ => mem_redSlot) (fun i => (i 0).isLt) 0 f
theorem red_join (a : ℕ) : bigSep (Finset.Ico a (a + 2)) (fun j => iprop(∃ f, redP (F := F) c j fullShare f))
    ⊢ (iprop(∃ f, redL c ↦[Finset.univ]{fullShare} f) : sProp 𝕄) :=
  whole_join (ℓ := redL c) (m := 2) (fun j => (redSlot j).view.set) (fun i : S2x256x2048.Idx => (i 0).val)
    (fun _ _ => mem_redSlot) (fun i => (i 0).isLt) a

theorem x_split (f : Buf (Elt F) (xL c)) :
    (xL c ↦[Finset.univ]{fullShare} f : sProp 𝕄) = bigSep (Finset.Ico 0 2) fun j => xP c j f :=
  whole_split (ℓ := xL c) (m := 2) (fun j => (xSlot j).view.set) (fun i : S2x256x2048.Idx => (i 0).val)
    (fun _ _ => mem_xSlot) (fun i => (i 0).isLt) 0 f
theorem x_join (a : ℕ) : bigSep (Finset.Ico a (a + 2)) (fun j => iprop(∃ f, xP (F := F) c j f))
    ⊢ (iprop(∃ f, xL c ↦[Finset.univ]{fullShare} f) : sProp 𝕄) :=
  whole_join (ℓ := xL c) (m := 2) (fun j => (xSlot j).view.set) (fun i : S2x256x2048.Idx => (i 0).val)
    (fun _ _ => mem_xSlot) (fun i => (i 0).isLt) a

theorem e_split (f : Buf (Elt F) (eL c)) :
    (eL c ↦[Finset.univ]{fullShare} f : sProp 𝕄) = bigSep (Finset.Ico 0 2) fun j => eP c j f :=
  whole_split (ℓ := eL c) (m := 2) (fun j => (eSlot j).view.set) (fun i : S2x512x2048.Idx => (i 0).val)
    (fun _ _ => mem_eSlot) (fun i => (i 0).isLt) 0 f
theorem e_join (a : ℕ) : bigSep (Finset.Ico a (a + 2)) (fun j => iprop(∃ f, eP (F := F) c j f))
    ⊢ (iprop(∃ f, eL c ↦[Finset.univ]{fullShare} f) : sProp 𝕄) :=
  whole_join (ℓ := eL c) (m := 2) (fun j => (eSlot j).view.set) (fun i : S2x512x2048.Idx => (i 0).val)
    (fun _ _ => mem_eSlot) (fun i => (i 0).isLt) a

/-- The result, its own chunks and the others. -/
theorem out_split (f : Buf (Elt F) (outL c)) :
    (outL c ↦[Finset.univ]{fullShare} f : sProp 𝕄)
      ⊣⊢ iprop(bigSep (Finset.Ico 0 8) (fun j => ownP c j f) ∗ bigSep (Finset.Ico 0 8) (fun j => otherP c j f)) := by
  have hc : c.val / 4 < 2 := by have : c.val < 8 := c.isLt; omega
  have e1 : (bigSep (Finset.Ico 0 8) (fun j => ownP c j f) : sProp 𝕄)
      = outL c ↦[(Finset.Ico 0 8).biUnion fun j => (outOwn c j).view.set]{fullShare} f :=
    (pointsTo_biUnion (ℓ := outL c) _ (fun j => (outOwn c j).view.set) fun t ht t' ht' hne => by
      rw [Finset.disjoint_left]
      intro i hi hi'
      have h1 := mem_outOwn.mp hi; have h2 := mem_outOwn.mp hi'
      rw [Finset.mem_Ico] at ht ht'; omega).symm
  have e2 : (bigSep (Finset.Ico 0 8) (fun j => otherP c j f) : sProp 𝕄)
      = outL c ↦[Finset.univ \ (Finset.Ico 0 8).biUnion fun j => (outOwn c j).view.set]{fullShare} f := by
    have hu : ((Finset.univ \ (Finset.Ico 0 8).biUnion fun j => (outOwn c j).view.set) : Finset S4096x2048.Idx)
        = ((Finset.Ico 0 8).biUnion fun j => (outOther c j).view.set : Finset S4096x2048.Idx) := by
      ext i
      have hi : (i 0).val < 4096 := (i 0).isLt
      rw [Finset.mem_sdiff, Finset.mem_biUnion, Finset.mem_biUnion]
      constructor
      · rintro ⟨-, h⟩
        refine ⟨(i 0).val / 256 % 8, Finset.mem_Ico.mpr (by omega), mem_outOther.mpr ?_⟩
        by_contra h'
        exact h ⟨(i 0).val / 256 % 8, Finset.mem_Ico.mpr (by omega), mem_outOwn.mpr (by omega)⟩
      · rintro ⟨j, hj, h⟩
        refine ⟨Finset.mem_univ _, ?_⟩
        rintro ⟨j', hj', h'⟩
        have h1 := mem_outOther.mp h; have h2 := mem_outOwn.mp h'
        omega
    rw [hu]
    exact (pointsTo_biUnion (ℓ := outL c) _ (fun j => (outOther c j).view.set) fun t ht t' ht' hne => by
      rw [Finset.disjoint_left]
      intro i hi hi'
      have h1 := mem_outOther.mp hi; have h2 := mem_outOther.mp hi'
      rw [Finset.mem_Ico] at ht ht'; omega).symm
  rw [e1, e2]
  exact pointsTo_split_subset (Finset.subset_univ _)

end Cert.Emb

end
-- ==== Proof.Body.lean ====
/-
# The kernel's body on one device

From everything a device is dealt to the result's rows, every cell closed and every buffer whole again.
-/
module

public import proofs.«01_k».proof.Proof.Split

@[expose] public section

noncomputable section

namespace Cert.Emb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv slot readerAt released writeTok)
open Idealize.ShloMosaic.Transfers (Flight)

variable {F : FTy → Type} [FloatOps F]

local notation "𝕄" => MT nD τ sig ℕ (Elt F) ℕ UU ℕ

variable (A : Dev nD → Mat F) (c : Dev nD)

/-! ## What a device starts from -/

/-- Its cells, open. -/
def ready : sProp 𝕄 :=
  iprop(bigSep (Finset.Ico 0 3) (fun j => at_ (F := F) (zsC c j) (j / 3)) ∗ bigSep (Finset.Ico 0 3) (fun j => at_ (F := F) (zrC c j) (j / 3))
    ∗ bigSep (Finset.Ico 0 2) (fun j => at_ (F := F) (xsC c j) (j / 2)) ∗ bigSep (Finset.Ico 0 2) (fun j => at_ (F := F) (xrC c j) (j / 2))
    ∗ at_ (F := F) (zcC c) 0 ∗ at_ (F := F) (xcC c) 0)
/-- Its rights to signal and to write. -/
def toks : sProp 𝕄 :=
  iprop(dutyTok ER (barC (pz c)) 0 0 ∗ dutyTok ER (barC (px c)) 0 1
    ∗ bigSep (Finset.Ico 0 8) (fun j => iprop(dutyTok ER (zsC c j) (j / 3) 0 ∗ dutyTok ER (zrC (pz c) j) (j / 3) 0 ∗ writeTok ES (zKey (pz c) j) (j / 3 + 1)))
    ∗ bigSep (Finset.Ico 0 8) (fun j => iprop(dutyTok ER (xsC c j) (j / 2) 0 ∗ dutyTok ER (xrC (px c) j) (j / 2) 0 ∗ writeTok ES (xKey (px c) j) (j / 2 + 1)))
    ∗ bigSep (Finset.Ico 0 5) (fun k => dutyTok ER (zcC (pz c)) 0 k) ∗ bigSep (Finset.Ico 0 6) (fun k => dutyTok ER (xcC (px c)) 0 k))
/-- The record of its landing slots' releases. -/
def readers : sProp 𝕄 :=
  iprop(bigSep (Finset.Ico 0 3) (fun j => readerAt ES (zKey c j) 0) ∗ bigSep (Finset.Ico 0 2) (fun j => readerAt ES (xKey c j) 0))
/-- What is owed to it. -/
def creds : sProp 𝕄 :=
  iprop(cred (tallyAt (barC c) 1 2)
    ∗ bigSep (Finset.Ico 0 8) (fun j => cred (tallyAt (zrC c j) (iz j) NC)) ∗ bigSep (Finset.Ico 0 8) (fun j => cred (tallyAt (xrC c j) (ix j) NC))
    ∗ bigSep (Finset.Ico 0 5) (fun k => cred (tallyAt (zcC c) (izc k) 1)) ∗ bigSep (Finset.Ico 0 6) (fun k => cred (tallyAt (xcC c) (ixc k) 1)))
/-- The semaphores of its local copies. -/
def locals : sProp 𝕄 :=
  iprop(semVal ((c : Thread nD τ), .dma (eSem 0)) 0 ∗ semVal ((c : Thread nD τ), .dma (eSem 1)) 0
    ∗ semVal ((c : Thread nD τ), .dma (stSem 0)) 0 ∗ semVal ((c : Thread nD τ), .dma (stSem 1)) 0 ∗ semVal ((c : Thread nD τ), .dma st2Sem) 0)
/-- The semaphores of its cells, at zero. -/
def cells : sProp 𝕄 :=
  iprop(bigSep (Finset.Ico 0 3) (fun j => semVal (zsC c j) 0) ∗ bigSep (Finset.Ico 0 3) (fun j => semVal (zrC c j) 0)
    ∗ bigSep (Finset.Ico 0 2) (fun j => semVal (xsC c j) 0) ∗ bigSep (Finset.Ico 0 2) (fun j => semVal (xrC c j) 0)
    ∗ semVal (zcC c) 0 ∗ semVal (xcC c) 0)
/-- Its buffers of the region. -/
def scratch : sProp 𝕄 :=
  iprop((∃ f, eL c ↦[Finset.univ]{fullShare} f) ∗ (∃ f, accL c ↦[Finset.univ]{fullShare} f) ∗ (∃ f, zL c ↦[Finset.univ]{fullShare} f)
    ∗ (∃ f, redL c ↦[Finset.univ]{fullShare} f) ∗ (∃ f, xL c ↦[Finset.univ]{fullShare} f))

/-- What a device enters the body with: `I` all row numbers, `T` its half of the table. -/
def Start (I : S4096x1.Idx → Elt F .i32) (T : S8192x2048.Idx → Elt F .f32) : sProp 𝕄 :=
  iprop(ctx A ∗ (ready (F := F) c ∗ toks (F := F) c ∗ readers (F := F) c ∗ creds (F := F) c ∗ atPos ER (barC c) 0 ∅ 0 ∗ locals (F := F) c ∗ scratch (F := F) c)
    ∗ idsP c I ∗ tabP c T ∗ (∃ f, outL c ↦[Finset.univ]{fullShare} f) ∗ oweW c (O₀ c))
/-- What it leaves it with. -/
def Done (I : S4096x1.Idx → Elt F .i32) (T : S8192x2048.Idx → Elt F .f32) : sProp 𝕄 :=
  iprop(idsP c I ∗ tabP c T ∗ (outL c ↦[Finset.univ]{fullShare} outv A c) ∗ semVal (barC c) 0 ∗ cells (F := F) c ∗ locals (F := F) c ∗ scratch (F := F) c
    ∗ oweW c 0)

/-! ## Its end -/

theorem run3 (Φ : ℕ → sProp 𝕄) (h : ∀ j j', j % 3 = j' % 3 → Φ j = Φ j') : bigSep (Finset.Ico 8 11) Φ ⊢ bigSep (Finset.Ico 0 3) Φ := by
  rw [run_bot (a := 8) (by omega), run_bot (a := 9) (by omega), run_bot (a := 10) (by omega), run_nil (a := 11) (by omega),
    run_bot (a := 0) (by omega), run_bot (a := 1) (by omega), run_bot (a := 2) (by omega), run_nil (a := 3) (by omega),
    h 8 2 rfl, h 9 0 rfl, h 10 1 rfl]
  iintro ⟨H2, H0, H1, -⟩
  isplitl [H0]; · iexact H0
  isplitl [H1]; · iexact H1
  isplitl [H2]; · iexact H2
  iempintro
theorem run2 (Φ : ℕ → sProp 𝕄) (h : ∀ j j', j % 2 = j' % 2 → Φ j = Φ j') : bigSep (Finset.Ico 8 10) Φ ⊢ bigSep (Finset.Ico 0 2) Φ := by
  rw [run_bot (a := 8) (by omega), run_bot (a := 9) (by omega), run_nil (a := 10) (by omega),
    run_bot (a := 0) (by omega), run_bot (a := 1) (by omega), run_nil (a := 2) (by omega), h 8 0 rfl, h 9 1 rfl]

/-- A run of cells without duties left is closed. -/
theorem close_run (g : ℕ → GSem nD τ sig) (R : ℕ → ℕ) {a b : ℕ} (hg : ∀ j, ctx A ⊢ hasInv A (g j))
    (hn : ∀ j, a ≤ j → ∀ r, R j ≤ r → (Rd A).duties (g j) r = ∅) :
    iprop(ctx A ∗ bigSep (Finset.Ico a b) (fun j => at_ (F := F) (g j) (R j))) ⊢ (|={Set.univ}=> bigSep (Finset.Ico a b) (fun j => semVal (g j) 0) : sProp 𝕄) :=
  run_update (P := ctx A) (s := Finset.Ico a b) (fun j hj => by
    unfold at_
    iintro ⟨Hctx, ⟨Hat, -⟩⟩
    ihave Hc := (hg j) $$ Hctx
    iapply (close_cell A (g j) (hn j (Finset.mem_Ico.mp hj).1))
    isplitl [Hc] <;> iassumption)

/-- The cells are closed, what they hold is the device's. -/
theorem close_all :
    iprop(ctx A ∗ bigSep (Finset.Ico 8 11) (fun j => at_ (F := F) (zsC c j) (j / 3)) ∗ bigSep (Finset.Ico 8 11) (fun j => at_ (F := F) (zrC c j) (j / 3))
        ∗ bigSep (Finset.Ico 8 10) (fun j => at_ (F := F) (xsC c j) (j / 2)) ∗ bigSep (Finset.Ico 8 10) (fun j => at_ (F := F) (xrC c j) (j / 2))
        ∗ Cr A (zcC c) 5 izc 5 ∗ Cr A (xcC c) 6 ixc 6 ∗ atPos ER (barC c) 1 ∅ 0)
      ⊢ (|={Set.univ}=> iprop(semVal (barC c) 0 ∗ cells (F := F) c) : sProp 𝕄) := by
  unfold cells
  iintro ⟨#Hctx, H1, H2, H3, H4, H5, H6, H7⟩
  imod (close_run A (zsC c) (fun j => j / 3) (ctx_zs A c) (fun j hj => none_zs A c hj)) $$ [H1] with H1
  · isplitr; · iexact Hctx
    iexact H1
  imod (close_run A (zrC c) (fun j => j / 3) (ctx_zr A c) (fun j hj => none_zr A c hj)) $$ [H2] with H2
  · isplitr; · iexact Hctx
    iexact H2
  imod (close_run A (xsC c) (fun j => j / 2) (ctx_xs A c) (fun j hj => none_xs A c hj)) $$ [H3] with H3
  · isplitr; · iexact Hctx
    iexact H3
  imod (close_run A (xrC c) (fun j => j / 2) (ctx_xr A c) (fun j hj => none_xr A c hj)) $$ [H4] with H4
  · isplitr; · iexact Hctx
    iexact H4
  imod (Cr_close A (g := zcC c) (n := 5) (idx := izc) (none_zc A c)) $$ [H5] with H5
  · isplitr; · iapply (ctx_zc A c) $$ Hctx
    iexact H5
  imod (Cr_close A (g := xcC c) (n := 6) (idx := ixc) (none_xc A c)) $$ [H6] with H6
  · isplitr; · iapply (ctx_xc A c) $$ Hctx
    iexact H6
  imod (close_cell A (barC c) (none_bar A c)) $$ [H7] with H7
  · isplitr; · iapply (ctx_bar A c) $$ Hctx
    iexact H7
  imodintro
  isplitl [H7]; · iexact H7
  isplitl [H1]; · iapply (run3 (F := F) (fun j => semVal (zsC c j) 0) (fun j j' h => by rw [zsC_congr c h])) $$ H1
  isplitl [H2]; · iapply (run3 (F := F) (fun j => semVal (zrC c j) 0) (fun j j' h => by rw [zrC_congr c h])) $$ H2
  isplitl [H3]; · iapply (run2 (F := F) (fun j => semVal (xsC c j) 0) (fun j j' h => by rw [xsC_congr c h])) $$ H3
  isplitl [H4]; · iapply (run2 (F := F) (fun j => semVal (xrC c j) 0) (fun j j' h => by rw [xrC_congr c h])) $$ H4
  isplitl [H5] <;> iassumption

/-- The partial rows' shares are the whole again. -/
theorem acc_back : iprop(accR A c ∗ bigSep (Finset.Ico 0 8) (fun j => accP c j qL (A c))) ⊢ (accL c ↦[Finset.univ]{fullShare} A c : sProp 𝕄) := by
  unfold accR
  rw [Finset.range_eq_Ico, ← bigSep_sep', acc_split]
  exact bigSep_mono fun j _ => sep_comm.1.trans (accP_halves c j (A c)).2
theorem acc_out : (accL c ↦[Finset.univ]{fullShare} A c : sProp 𝕄) ⊢ (iprop(accR A c ∗ bigSep (Finset.Ico 0 8) (fun j => accP c j qL (A c))) : sProp 𝕄) := by
  unfold accR
  rw [Finset.range_eq_Ico, ← bigSep_sep', acc_split]
  exact bigSep_mono fun j _ => (accP_halves c j (A c)).1.trans sep_comm.1

/-- A run of pieces with contents, as pieces at some contents. -/
theorem run_some {β : Type} {s : Finset ℕ} (Φ : ℕ → β → sProp 𝕄) (f : ℕ → β) : bigSep s (fun j => Φ j (f j)) ⊢ bigSep s (fun j => iprop(∃ g, Φ j g)) :=
  bigSep_mono fun j _ => by
    show Φ j (f j) ⊢ iprop(∃ g, Φ j g)
    iintro H
    iexists (f j); iexact H

/-- Everything awaited, the cells are closed and the buffers whole. -/
theorem finish (I : S4096x1.Idx → Elt F .i32) (T : S8192x2048.Idx → Elt F .f32) :
    iprop(ctx A ∗ Fin' A c ∗ atPos ER (barC c) 1 ∅ 0 ∗ idsP c I ∗ tabP c T ∗ eFree (F := F) c 0 ∗ eFree (F := F) c 1)
      ⊢ (|={Set.univ}=> Done A c I T : sProp 𝕄) := by
  unfold Fin' Zout Zin Xout Xin Own RedFree Other Done locals scratch eFree
  rw [show 8 + 3 = 11 from rfl, show 8 + 2 = 10 from rfl]
  iintro ⟨#Hctx, ⟨HA, ⟨-, -, HZs, HL⟩, ⟨HZr, -, -, Hz, -, -⟩, HCz, ⟨-, -, HXs⟩, ⟨HXr, -, -, Hx, -, -⟩, HCx, ⟨-, -, Hown⟩, Hred, ⟨-, Hoth, Hst2⟩, HO⟩, Hbar, HI, HT, ⟨He0, Hv0⟩, ⟨He1, Hv1⟩⟩
  imod (close_all A c) $$ [HZs HZr HXs HXr HCz HCx Hbar] with ⟨Hbar, Hcells⟩
  · isplitr; · iexact Hctx
    isplitl [HZs]; · iexact HZs
    isplitl [HZr]; · iexact HZr
    isplitl [HXs]; · iexact HXs
    isplitl [HXr]; · iexact HXr
    isplitl [HCz]; · iexact HCz
    isplitl [HCx]; · iexact HCx
    iexact Hbar
  imodintro
  ihave Hred := (Entails.of_eq (bigSep_sep' (s := Finset.Ico 8 10) (Φ := fun j => iprop(∃ f, redP (F := F) c j fullShare f))
    (Ψ := fun j => semVal ((c : Thread nD τ), .dma (stSem j)) 0))) $$ Hred
  icases Hred with ⟨Hred, Hsv⟩
  ihave Hsv := (run2 (F := F) (fun j => semVal ((c : Thread nD τ), .dma (stSem j)) 0) (fun j j' h => by
    have hs : stSem j = stSem j' := sem2_val _ _ _ h
    rw [hs])) $$ Hsv
  ihave Hsv := (show bigSep (Finset.Ico 0 2) (fun j => semVal ((c : Thread nD τ), .dma (stSem j)) 0)
      ⊢ iprop(semVal ((c : Thread nD τ), .dma (stSem 0)) 0 ∗ semVal ((c : Thread nD τ), .dma (stSem 1)) 0 ∗ emp : sProp 𝕄) from by
    rw [run_bot (a := 0) (by omega), run_bot (a := 1) (by omega), run_nil (a := 2) (by omega)]) $$ Hsv
  icases Hsv with ⟨Hs0, Hs1, -⟩
  isplitl [HI]; · iexact HI
  isplitl [HT]; · iexact HT
  isplitl [Hown Hoth]
  · iapply (out_split c (outv A c)).2
    isplitl [Hown] <;> iassumption
  isplitl [Hbar]; · iexact Hbar
  isplitl [Hcells]; · iexact Hcells
  isplitl [Hv0 Hv1 Hs0 Hs1 Hst2]
  · isplitl [Hv0]; · iexact Hv0
    isplitl [Hv1]; · iexact Hv1
    isplitl [Hs0]; · iexact Hs0
    isplitl [Hs1] <;> iassumption
  isplitr [HO]
  · isplitl [He0 He1]
    · iapply (e_join (F := F) c 0)
      rw [show 0 + 2 = 2 from rfl, run_bot (a := 0) (by omega), run_bot (a := 1) (by omega), run_nil (a := 2) (by omega)]
      isplitl [He0]; · iexact He0
      isplitl [He1]; · iexact He1
      iempintro
    isplitl [HA HL]
    · iexists (A c)
      iapply (acc_back A c)
      isplitl [HA] <;> iassumption
    isplitl [Hz]
    · iapply (z_join (F := F) c 5)
      iapply (run_some (F := F) (s := Finset.Ico 5 8) (fun j f => zP c j f) (fun j => zC (A (pz c)) j)) $$ Hz
    isplitl [Hred]
    · iapply (red_join (F := F) c 8) $$ Hred
    · iapply (x_join (F := F) c 6)
      iapply (run_some (F := F) (s := Finset.Ico 6 8) (fun j f => xP c j f) (fun j => xC (sumv A (px c)) j)) $$ Hx
  iexact HO

/-! ## From the start to the end -/

/-- The credit cell before any wait. -/
theorem Cr_start {g : GSem nD τ sig} {n : ℕ} {idx : ℕ → ℕ} (hn : 0 < n) :
    iprop(at_ (F := F) g 0 ∗ bigSep (Finset.Ico 0 n) (fun k => cred (tallyAt g (idx k) 1))) ⊢ Cr A g n idx 0 := by
  unfold Cr at_
  simp only [if_pos hn]
  iintro ⟨⟨Hat, -⟩, Hc⟩
  iexists ∅
  isplitr
  · ipureintro; exact ⟨Finset.empty_subset _, Nat.zero_le _⟩
  isplitl [Hat]; · iexact Hat
  isplitr
  · rw [bigSep_empty]; iempintro
  iexact Hc

/-- Tokens of cells known open. -/
theorem run_open {n : ℕ} (g : GSem nD τ sig) :
    iprop(reached ER g 0 ∗ bigSep (Finset.Ico 0 n) (fun k => dutyTok ER g 0 k))
      ⊢ (bigSep (Finset.Ico 0 n) (fun k => iprop(dutyTok ER g 0 k ∗ reached ER g 0)) : sProp 𝕄) :=
  bigSep_with_persistent fun k _ => sep_comm.1

/-- Before the first iteration. -/
theorem start_loop :
    iprop(accR A c ∗ Zout A c 2 0 ∗ Zin A c 0 0 ∗ Cr A (zcC c) 5 izc 0 ∗ Xout (F := F) c 0 0 ∗ Xin A c 0 0 ∗ Cr A (xcC c) 6 ixc 0
        ∗ Own A c 0 0 ∗ RedFree (F := F) c 0 0 ∗ Other A c 0 ∗ oweW c (owe c 2 0 0 0)) ⊢ St A c 0 := by
  unfold St
  rfl

/-- The landing slots and the cells they need. -/
theorem start_slots :
    iprop(bigSep (Finset.Ico 0 3) (fun j => at_ (F := F) (zrC c j) (j / 3)) ∗ bigSep (Finset.Ico 0 2) (fun j => at_ (F := F) (xrC c j) (j / 2))
        ∗ readers (F := F) c ∗ (∃ f, zL c ↦[Finset.univ]{fullShare} f) ∗ (∃ f, xL c ↦[Finset.univ]{fullShare} f)
        ∗ reached ER (zcC c) 0 ∗ reached ER (xcC c) 0) ⊢ slots0 (F := F) c := by
  unfold readers slots0
  rw [bigSep_sep', bigSep_sep', bigSep_sep', bigSep_sep']
  iintro ⟨H1, H2, ⟨H3, H4⟩, ⟨%fz, Hz⟩, ⟨%fx, Hx⟩, H5, H6⟩
  isplitl [H1 H3 Hz]
  · isplitl [H1]; · iexact H1
    isplitl [H3]; · iexact H3
    iapply (run_some (F := F) (s := Finset.Ico 0 3) (fun j f => zP c j f) (fun _ => fz))
    iapply (Entails.of_eq (z_split c fz)) $$ Hz
  isplitl [H2 H4 Hx]
  · isplitl [H2]; · iexact H2
    isplitl [H4]; · iexact H4
    iapply (run_some (F := F) (s := Finset.Ico 0 2) (fun j f => xP c j f) (fun _ => fx))
    iapply (Entails.of_eq (x_split c fx)) $$ Hx
  isplitl [H5] <;> iassumption

/-- The staging slots of the table's blocks, free. -/
theorem start_e : iprop((∃ f, eL c ↦[Finset.univ]{fullShare} f) ∗ semVal ((c : Thread nD τ), .dma (eSem 0)) 0 ∗ semVal ((c : Thread nD τ), .dma (eSem 1)) 0)
    ⊢ iprop(eFree (F := F) c 0 ∗ eFree (F := F) c 1) := by
  unfold eFree
  iintro ⟨⟨%f, He⟩, H0, H1⟩
  ihave He := (show (eL c ↦[Finset.univ]{fullShare} f : sProp 𝕄) ⊢ iprop(eP c 0 f ∗ eP c 1 f ∗ emp) from by
    rw [e_split, run_bot (a := 0) (by omega), run_bot (a := 1) (by omega), run_nil (a := 2) (by omega)]) $$ He
  icases He with ⟨He0, He1, -⟩
  isplitl [He0 H0]
  · isplitl [He0]; · iexists f; iexact He0
    iexact H0
  · isplitl [He1]; · iexists f; iexact He1
    iexact H1

/-- The slots of sums, free. -/
theorem start_red : iprop((∃ f, redL c ↦[Finset.univ]{fullShare} f) ∗ semVal ((c : Thread nD τ), .dma (stSem 0)) 0 ∗ semVal ((c : Thread nD τ), .dma (stSem 1)) 0)
    ⊢ RedFree (F := F) c 0 0 := by
  unfold RedFree
  rw [show 0 + 2 = 2 from rfl]
  iintro ⟨⟨%f, He⟩, H0, H1⟩
  ihave He := (show (redL c ↦[Finset.univ]{fullShare} f : sProp 𝕄) ⊢ iprop(redP c 0 fullShare f ∗ redP c 1 fullShare f ∗ emp) from by
    rw [red_split, run_bot (a := 0) (by omega), run_bot (a := 1) (by omega), run_nil (a := 2) (by omega)]) $$ He
  icases He with ⟨He0, He1, -⟩
  rw [run_bot (a := 0) (by omega), run_bot (a := 1) (by omega), run_nil (a := 2) (by omega)]
  isplitl [He0 H0]
  · isplitl [He0]; · iexists f; iexact He0
    iexact H0
  isplitl [He1 H1]
  · isplitl [He1]; · iexists f; iexact He1
    iexact H1
  iempintro

/-- The rows of the result, at any contents. -/
theorem start_out : iprop((∃ f, outL c ↦[Finset.univ]{fullShare} f) ∗ semVal ((c : Thread nD τ), .dma st2Sem) 0)
    ⊢ iprop(Own A c 0 0 ∗ Other A c 0) := by
  unfold Own Other
  rw [run_nil (a := 0) (b := 0) (by omega), run_nil (a := 0) (b := 0) (by omega), run_nil (a := 0) (b := 0) (by omega)]
  iintro ⟨⟨%f, H⟩, Hv⟩
  ihave H := (out_split c f).1 $$ H
  icases H with ⟨H1, H2⟩
  isplitl [H1]
  · isplitr; · iempintro
    isplitl [H1]
    · iapply (run_some (F := F) (s := Finset.Ico 0 8) (fun j f => ownP c j f) (fun _ => f)) $$ H1
    iempintro
  · isplitl [H2]
    · iapply (run_some (F := F) (s := Finset.Ico 0 8) (fun j f => otherP c j f) (fun _ => f)) $$ H2
    isplitr; · iempintro
    iexact Hv

/-- The runs of the loop, at its start. -/
theorem start_runs :
    iprop(opened (F := F) c ∗ slots1 (F := F) c
        ∗ (bigSep (Finset.Ico 0 3) (fun j => at_ (F := F) (zsC c j) (j / 3)) ∗ bigSep (Finset.Ico 0 2) (fun j => at_ (F := F) (xsC c j) (j / 2)))
        ∗ bigSep (Finset.Ico 0 8) (fun j => iprop(dutyTok ER (zsC c j) (j / 3) 0 ∗ dutyTok ER (zrC (pz c) j) (j / 3) 0 ∗ writeTok ES (zKey (pz c) j) (j / 3 + 1)))
        ∗ bigSep (Finset.Ico 0 8) (fun j => iprop(dutyTok ER (xsC c j) (j / 2) 0 ∗ dutyTok ER (xrC (px c) j) (j / 2) 0 ∗ writeTok ES (xKey (px c) j) (j / 2 + 1)))
        ∗ (bigSep (Finset.Ico 0 5) (fun k => dutyTok ER (zcC (pz c)) 0 k) ∗ bigSep (Finset.Ico 0 6) (fun k => dutyTok ER (xcC (px c)) 0 k))
        ∗ (bigSep (Finset.Ico 0 8) (fun j => cred (tallyAt (zrC c j) (iz j) NC)) ∗ bigSep (Finset.Ico 0 8) (fun j => cred (tallyAt (xrC c j) (ix j) NC)))
        ∗ bigSep (Finset.Ico 0 8) (fun j => accP c j qL (A c)))
      ⊢ iprop(Zout A c 0 0 ∗ Zin A c 0 0 ∗ Xout (F := F) c 0 0 ∗ Xin A c 0 0) := by
  unfold Zout Zin Xout Xin slots1
  simp only [run_nil (a := 0) (b := 0) (Nat.le_refl 0), Finset.range_zero, bigSep_empty, Nat.zero_add]
  rw [bigSep_sep' (Φ := fun j => accP c j qL (A c))]
  iintro ⟨#Hop, ⟨⟨Hzr, Hzk⟩, Hxr, Hxk⟩, ⟨Hzs, Hxs⟩, Htz, Htx, ⟨Htzc, Htxc⟩, ⟨Hcz, Hcx⟩, HA⟩
  ihave Htzc := (run_open (F := F) (n := 5) (zcC (pz c))) $$ [Htzc]
  · isplitr; · iapply (opened_zc (F := F) c) $$ Hop
    iexact Htzc
  ihave Htxc := (run_open (F := F) (n := 6) (xcC (px c))) $$ [Htxc]
  · isplitr; · iapply (opened_xc (F := F) c) $$ Hop
    iexact Htxc
  isplitl [HA Htz Hzs]
  · isplitl [HA Htz]; · isplitl [HA] <;> iassumption
    isplitr; · iempintro
    isplitl [Hzs]; · iexact Hzs
    iempintro
  isplitl [Hzr Hcz Hzk Htzc]
  · isplitl [Hzr]; · iexact Hzr
    isplitl [Hcz]; · iexact Hcz
    isplitl [Hzk]; · iexact Hzk
    isplitr; · iempintro
    isplitl [Htzc]; · iexact Htzc
    iempintro
  isplitl [Htx Hxs]
  · isplitl [Htx]; · iexact Htx
    isplitr; · iempintro
    iexact Hxs
  · isplitl [Hxr]; · iexact Hxr
    isplitl [Hcx]; · iexact Hcx
    isplitl [Hxk]; · iexact Hxk
    isplitr; · iempintro
    isplitl [Htxc]; · iexact Htxc
    iempintro

/-- The device's own number. -/
theorem WP_deviceId {k : Dev nD → PG F} {Q : PUnit → sProp 𝕄} : WP c (.op .deviceId k) Q = WP c (k c) Q :=
  wp_deviceId Variants.none (c : Thread nD τ) none Set.univ

/-- The body, from what the device is dealt to what it leaves: the result is `outv A c`, `A c` being the partial rows of each device. -/
theorem wp_body (I : S4096x1.Idx → Elt F .i32) (T : S8192x2048.Idx → Elt F .f32) (hA : A c = partialRows c I T) :
    Start A c I T ⊢ WP c (body (F := F)) (fun _ => Done A c I T) := by
  unfold Start ready toks creds locals scratch body
  rw [WP_deviceId]
  iintro ⟨#Hctx, ⟨⟨Hzs, Hzr, Hxs, Hxr, Hzc, Hxc⟩, ⟨Hb0, Hb1, Htz, Htx, Htzc, Htxc⟩, Hrd, ⟨Hcb, Hcz, Hcx, Hczc, Hcxc⟩, Hbar, ⟨He0, He1, Hs0, Hs1, Hst2⟩, ⟨He, ⟨%fa, Ha⟩, Hz, Hred, Hx⟩⟩, HI, HT, Hout, HO⟩
  ihave Hzc := (persistent_entails_right (at_reached (F := F) (zcC c) 0)) $$ Hzc
  icases Hzc with ⟨#Hzc', Hzc⟩
  ihave Hxc := (persistent_entails_right (at_reached (F := F) (xcC c) 0)) $$ Hxc
  icases Hxc with ⟨#Hxc', Hxc⟩
  ihave Hsl := (start_slots (F := F) c) $$ [Hzr Hxr Hrd Hz Hx]
  · isplitl [Hzr]; · iexact Hzr
    isplitl [Hxr]; · iexact Hxr
    isplitl [Hrd]; · iexact Hrd
    isplitl [Hz]; · iexact Hz
    isplitl [Hx]; · iexact Hx
    isplitr <;> iassumption
  iapply (wp_entry A c I) $$ [Hsl Hb0 Hb1 Hcb Hbar HI HO]
  · isplitr; · iexact Hctx
    isplitl [Hsl]; · iexact Hsl
    isplitl [Hb0]; · iexact Hb0
    isplitl [Hb1]; · iexact Hb1
    isplitl [Hcb]; · iexact Hcb
    isplitl [Hbar]; · iexact Hbar
    isplitl [HI] <;> iassumption
  iintro ⟨Hsl, #Hop, Hbar, HI, HO⟩
  ihave He := (start_e (F := F) c) $$ [He He0 He1]
  · isplitl [He]; · iexact He
    isplitl [He0] <;> iassumption
  icases He with ⟨He0, He1⟩
  iapply (wp_table (F := F) c (A := A) I T fa) $$ [HT He0 He1 Ha HO]
  · isplitr; · iexact Hctx
    isplitl [HT]; · iexact HT
    isplitl [He0]; · iexact He0
    isplitl [He1]; · iexact He1
    isplitl [Ha]; · iapply (show (accL c ↦[Finset.univ]{fullShare} fa : sProp 𝕄) ⊢ accW c fa from Entails.rfl) $$ Ha
    iexact HO
  iintro ⟨HT, He0, He1, Ha, HO⟩
  ihave Ha := (show accW c (partialRows c I T) ⊢ iprop(accR A c ∗ bigSep (Finset.Ico 0 8) (fun j => accP c j qL (A c))) from by
    rw [← hA]; exact acc_out A c) $$ Ha
  icases Ha with ⟨HaR, HaL⟩
  ihave Hruns := (start_runs A c) $$ [Hsl Hzs Hxs Htz Htx Htzc Htxc Hcz Hcx HaL]
  · isplitr; · iexact Hop
    isplitl [Hsl]; · iexact Hsl
    isplitl [Hzs Hxs]; · isplitl [Hzs] <;> iassumption
    isplitl [Htz]; · iexact Htz
    isplitl [Htx]; · iexact Htx
    isplitl [Htzc Htxc]; · isplitl [Htzc] <;> iassumption
    isplitl [Hcz Hcx]; · isplitl [Hcz] <;> iassumption
    iexact HaL
  icases Hruns with ⟨HZo, HZi, HXo, HXi⟩
  iapply (wp_zStart A c (n := 0) (a := 0) (by omega) (by omega) (by omega) 0 0 0) $$ [HZo HO]
  · isplitr; · iexact Hctx
    isplitr; · iapply (opened_z (F := F) c (j := 0) (by omega)) $$ Hop
    isplitl [HZo]; · iexact HZo
    iexact HO
  iintro ⟨HZo, HO⟩
  iapply (wp_zStart A c (n := 1) (a := 0) (by omega) (by omega) (by omega) 0 0 0) $$ [HZo HO]
  · isplitr; · iexact Hctx
    isplitr; · iapply (opened_z (F := F) c (j := 1) (by omega)) $$ Hop
    isplitl [HZo]; · iexact HZo
    iexact HO
  iintro ⟨HZo, HO⟩
  ihave Hred := (start_red (F := F) c) $$ [Hred Hs0 Hs1]
  · isplitl [Hred]; · iexact Hred
    isplitl [Hs0] <;> iassumption
  ihave Hout := (start_out A c) $$ [Hout Hst2]
  · isplitl [Hout] <;> iassumption
  icases Hout with ⟨Hown, Hoth⟩
  ihave Hzc := (Cr_start A (g := zcC c) (n := 5) (idx := izc) (by omega)) $$ [Hzc Hczc]
  · isplitl [Hzc] <;> iassumption
  ihave Hxc := (Cr_start A (g := xcC c) (n := 6) (idx := ixc) (by omega)) $$ [Hxc Hcxc]
  · isplitl [Hxc] <;> iassumption
  iapply (wp_chunks A c) $$ [HaR HZo HZi Hzc HXo HXi Hxc Hown Hred Hoth HO]
  · isplitr
    · isplitr; · iexact Hctx
      iexact Hop
    iapply (start_loop A c)
    isplitl [HaR]; · iexact HaR
    isplitl [HZo]; · iexact HZo
    isplitl [HZi]; · iexact HZi
    isplitl [Hzc]; · iexact Hzc
    isplitl [HXo]; · iexact HXo
    isplitl [HXi]; · iexact HXi
    isplitl [Hxc]; · iexact Hxc
    isplitl [Hown]; · iexact Hown
    isplitl [Hred]; · iexact Hred
    isplitl [Hoth] <;> iassumption
  iintro HSt
  iapply (wp_lastWaits A c) $$ [HSt]
  · isplitr; · iexact Hctx
    iexact HSt
  iintro HF
  imod (finish A c I T) $$ [HF Hbar HI HT He0 He1] with HD
  · isplitr; · iexact Hctx
    isplitl [HF]; · iexact HF
    isplitl [Hbar]; · iexact Hbar
    isplitl [HI]; · iexact HI
    isplitl [HT]; · iexact HT
    isplitl [He0] <;> iassumption
  rw [wp_ret]
  imodintro
  iexact HD

end Cert.Emb

end
-- ==== Proof.Deal.lean ====
/-
# Dealing the rights to signal and to write

At the launch the rights of every cell's duties and of every slot's writes lie in one heap. Each goes to the device that
pays the duty or writes the slot: the owner's own for what it sends, its neighbours' for what they receive.
-/
module

public import proofs.«01_k».proof.Proof.Body

@[expose] public section

noncomputable section

namespace Cert.Emb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv slot readerAt released writeTok)
open Idealize.ShloMosaic.Transfers (Flight)

variable {F : FTy → Type} [FloatOps F]

local notation "𝕄" => MT nD τ sig ℕ (Elt F) ℕ UU ℕ

/-! ## Sums over numbers below a bound -/

theorem bigSep_fin (n : ℕ) (Φ : ℕ → sProp 𝕄) : bigSep Finset.univ (fun i : Fin n => Φ i.val) = bigSep (Finset.Ico 0 n) Φ := by
  have h : (Finset.univ : Finset (Fin n)).map Fin.valEmbedding = Finset.Ico 0 n := by
    ext i; simp only [Finset.mem_map, Finset.mem_univ, true_and, Finset.mem_Ico, Fin.valEmbedding_apply, Nat.zero_le]
    exact ⟨fun ⟨j, hj⟩ => hj ▸ j.isLt, fun hi => ⟨⟨i, hi⟩, rfl⟩⟩
  rw [← h, bigSep_map]; rfl

/-- Both neighbours, as rearrangements of the devices. -/
def pzE : Dev nD ≃ Dev nD := ⟨pz, pz, pz_pz, pz_pz⟩
def pxE : Dev nD ≃ Dev nD := ⟨px, px, px_px, px_px⟩
theorem bigSep_pz (Φ : Dev nD → sProp 𝕄) : bigSep Finset.univ Φ = bigSep Finset.univ (fun c => Φ (pz c)) := bigSep_univ_equiv pzE Φ
theorem bigSep_px (Φ : Dev nD → sProp 𝕄) : bigSep Finset.univ Φ = bigSep Finset.univ (fun c => Φ (px c)) := bigSep_univ_equiv pxE Φ

/-! ## The duties -/

/-- The duties of one device's cells: the barrier's two, each chunk's four, the credits. -/
abbrev Tk : Type := Fin 2 ⊕ Fin 8 ⊕ Fin 8 ⊕ Fin 8 ⊕ Fin 8 ⊕ Fin 5 ⊕ Fin 6

def tok (x : Dev nD × Tk) : GSem nD τ sig × ℕ × ℕ :=
  match x.2 with
  | .inl d => (barC x.1, 0, d.val)
  | .inr (.inl j) => (zsC x.1 j.val, j.val / 3, 0)
  | .inr (.inr (.inl j)) => (zrC x.1 j.val, j.val / 3, 0)
  | .inr (.inr (.inr (.inl j))) => (xsC x.1 j.val, j.val / 2, 0)
  | .inr (.inr (.inr (.inr (.inl j)))) => (xrC x.1 j.val, j.val / 2, 0)
  | .inr (.inr (.inr (.inr (.inr (.inl k))))) => (zcC x.1, 0, k.val)
  | .inr (.inr (.inr (.inr (.inr (.inr k))))) => (xcC x.1, 0, k.val)

/-- The number a duty is told from the others of its device by. -/
def num (t : Tk) : ℕ :=
  match t with
  | .inl d => d.val
  | .inr (.inl j) => 10 + j.val
  | .inr (.inr (.inl j)) => 20 + j.val
  | .inr (.inr (.inr (.inl j))) => 30 + j.val
  | .inr (.inr (.inr (.inr (.inl j)))) => 40 + j.val
  | .inr (.inr (.inr (.inr (.inr (.inl k))))) => 50 + k.val
  | .inr (.inr (.inr (.inr (.inr (.inr k))))) => 60 + k.val
/-- The same number, read off the cell, the round and the duty. -/
def numOf (k : Kind') (r d : ℕ) : ℕ :=
  match k with
  | .bar => d
  | .zs s => 10 + (3 * r + s)
  | .zr s => 20 + (3 * r + s)
  | .xs s => 30 + (2 * r + s)
  | .xr s => 40 + (2 * r + s)
  | .zc => 50 + d
  | .xc => 60 + d
  | .own => 0

theorem num_inj : Function.Injective num := by decide
theorem numOf_tok (x : Dev nD × Tk) : numOf (kindOf (tok x).1.2) (tok x).2.1 (tok x).2.2 = num x.2 := by
  obtain ⟨c, t⟩ := x
  rcases t with d | j | j | j | j | k | k
  · show numOf (kindOf (.reg barSem)) 0 d.val = d.val; rw [kind_bar]; rfl
  · show numOf (kindOf (.dma (zSend j.val))) (j.val / 3) 0 = 10 + j.val; rw [kind_zs]; show 10 + (3 * (j.val / 3) + j.val % 3) = _; omega
  · show numOf (kindOf (.dma (zRecv j.val))) (j.val / 3) 0 = 20 + j.val; rw [kind_zr]; show 20 + (3 * (j.val / 3) + j.val % 3) = _; omega
  · show numOf (kindOf (.dma (xSend j.val))) (j.val / 2) 0 = 30 + j.val; rw [kind_xs]; show 30 + (2 * (j.val / 2) + j.val % 2) = _; omega
  · show numOf (kindOf (.dma (xRecv j.val))) (j.val / 2) 0 = 40 + j.val; rw [kind_xr]; show 40 + (2 * (j.val / 2) + j.val % 2) = _; omega
  · show numOf (kindOf (.reg zCredit)) 0 k.val = 50 + k.val; rw [kind_zc]; rfl
  · show numOf (kindOf (.reg xCredit)) 0 k.val = 60 + k.val; rw [kind_xc]; rfl
theorem tok_dev (x : Dev nD × Tk) : (tok x).1.1.1 = x.1 := by
  obtain ⟨c, t⟩ := x
  rcases t with d | j | j | j | j | k | k <;> rfl
theorem tok_inj : Function.Injective tok := fun x y h =>
  Prod.ext (by rw [← tok_dev x, ← tok_dev y, h]) (num_inj (by rw [← numOf_tok x, ← numOf_tok y, h]))
/-- Every duty of every cell. -/
def allToks : Finset (GSem nD τ sig × ℕ × ℕ) := Finset.univ.map ⟨tok, tok_inj⟩

/-- The duties of one device's cells, one run for each use. -/
def owned (c : Dev nD) : sProp 𝕄 :=
  iprop((dutyTok ER (barC c) 0 0 ∗ dutyTok ER (barC c) 0 1) ∗ bigSep (Finset.Ico 0 8) (fun j => dutyTok ER (zsC c j) (j / 3) 0)
    ∗ bigSep (Finset.Ico 0 8) (fun j => dutyTok ER (zrC c j) (j / 3) 0) ∗ bigSep (Finset.Ico 0 8) (fun j => dutyTok ER (xsC c j) (j / 2) 0)
    ∗ bigSep (Finset.Ico 0 8) (fun j => dutyTok ER (xrC c j) (j / 2) 0) ∗ bigSep (Finset.Ico 0 5) (fun k => dutyTok ER (zcC c) 0 k)
    ∗ bigSep (Finset.Ico 0 6) (fun k => dutyTok ER (xcC c) 0 k))

theorem allToks_eq : bigSep allToks (fun x => (dutyTok ER x.1 x.2.1 x.2.2 : sProp 𝕄)) ⊢ bigSep Finset.univ (owned (F := F)) := by
  unfold allToks
  rw [bigSep_map, bigSep_univ_prod]
  refine bigSep_mono fun c _ => ?_
  show bigSep Finset.univ (fun t : Tk => (dutyTok ER (tok (c, t)).1 (tok (c, t)).2.1 (tok (c, t)).2.2 : sProp 𝕄)) ⊢ owned c
  rw [bigSep_univ_sum, bigSep_univ_sum, bigSep_univ_sum, bigSep_univ_sum, bigSep_univ_sum, bigSep_univ_sum]
  unfold owned
  refine BIClass.sep_mono ?_ (BIClass.sep_mono ?_ (BIClass.sep_mono ?_ (BIClass.sep_mono ?_ (BIClass.sep_mono ?_ (BIClass.sep_mono ?_ ?_)))))
  · refine (Entails.of_eq (bigSep_fin 2 (fun d => (dutyTok ER (barC c) 0 d : sProp 𝕄)))).trans ?_
    rw [run_bot (a := 0) (by omega), run_bot (a := 1) (by omega), run_nil (a := 2) (by omega)]
    iintro ⟨H0, H1, -⟩
    isplitl [H0] <;> iassumption
  · exact Entails.of_eq (bigSep_fin 8 (fun j => (dutyTok ER (zsC c j) (j / 3) 0 : sProp 𝕄)))
  · exact Entails.of_eq (bigSep_fin 8 (fun j => (dutyTok ER (zrC c j) (j / 3) 0 : sProp 𝕄)))
  · exact Entails.of_eq (bigSep_fin 8 (fun j => (dutyTok ER (xsC c j) (j / 2) 0 : sProp 𝕄)))
  · exact Entails.of_eq (bigSep_fin 8 (fun j => (dutyTok ER (xrC c j) (j / 2) 0 : sProp 𝕄)))
  · exact Entails.of_eq (bigSep_fin 5 (fun k => (dutyTok ER (zcC c) 0 k : sProp 𝕄)))
  · exact Entails.of_eq (bigSep_fin 6 (fun k => (dutyTok ER (xcC c) 0 k : sProp 𝕄)))

/-! ## The writes of the landing slots -/

def wtok (x : Dev nD × (Fin 8 ⊕ Fin 8)) : Key × ℕ :=
  match x.2 with
  | .inl j => (zKey x.1 j.val, j.val / 3)
  | .inr j => (xKey x.1 j.val, j.val / 2)
theorem wtok_inj : Function.Injective wtok := by
  rintro ⟨c, j | j⟩ ⟨d, k | k⟩ h <;> (have h1 := congrArg (fun y => y.1.1) h; have h2 := congrArg (fun y => y.1.2.val) h; have h3 := congrArg Prod.snd h)
  all_goals (simp only [wtok, zKey, xKey] at h1 h2 h3; subst h1; have := j.isLt; have := k.isLt)
  · rw [show j = k from Fin.ext (by omega)]
  · omega
  · omega
  · rw [show j = k from Fin.ext (by omega)]

/-- The writes of one device's landing slots. -/
def writes (c : Dev nD) : sProp 𝕄 :=
  iprop(bigSep (Finset.Ico 0 8) (fun j => writeTok ES (zKey c j) (j / 3 + 1)) ∗ bigSep (Finset.Ico 0 8) (fun j => writeTok ES (xKey c j) (j / 2 + 1)))

theorem writes_of : bigSep ((Finset.univ : Finset Key) ×ˢ Finset.range 4) (fun x => (writeTok ES x.1 (x.2 + 1) : sProp 𝕄)) ⊢ bigSep Finset.univ (writes (F := F)) := by
  have hs : (Finset.univ : Finset (Dev nD × (Fin 8 ⊕ Fin 8))).map ⟨wtok, wtok_inj⟩ ⊆ (Finset.univ : Finset Key) ×ˢ Finset.range 4 := by
    intro y hy
    obtain ⟨x, -, rfl⟩ := Finset.mem_map.mp hy
    refine Finset.mem_product.mpr ⟨Finset.mem_univ _, Finset.mem_range.mpr ?_⟩
    obtain ⟨c, j | j⟩ := x <;> have := j.isLt
    · show j.val / 3 < 4; omega
    · show j.val / 2 < 4; omega
  refine (bigSep_subset hs).trans ?_
  rw [bigSep_map, bigSep_univ_prod]
  refine bigSep_mono fun c _ => ?_
  show bigSep Finset.univ (fun t : Fin 8 ⊕ Fin 8 => (writeTok ES (wtok (c, t)).1 ((wtok (c, t)).2 + 1) : sProp 𝕄)) ⊢ writes c
  rw [bigSep_univ_sum]
  exact BIClass.sep_mono (Entails.of_eq (bigSep_fin 8 (fun j => (writeTok ES (zKey c j) (j / 3 + 1) : sProp 𝕄))))
    (Entails.of_eq (bigSep_fin 8 (fun j => (writeTok ES (xKey c j) (j / 2 + 1) : sProp 𝕄))))

/-- Every slot's reader stands at its device. -/
theorem readers_of : bigSep (Finset.univ : Finset Key) (fun k => (readerAt ES k 0 : sProp 𝕄)) ⊢ bigSep Finset.univ (readers (F := F)) := by
  rw [bigSep_univ_prod]
  refine bigSep_mono fun c _ => ?_
  show bigSep (Finset.univ : Finset (Fin 5)) (fun i => (readerAt ES (c, i) 0 : sProp 𝕄)) ⊢ readers c
  unfold readers
  rw [bigSep_eq_bigSepL_of_eq [0, 1, 2, 3, 4] (by decide) (by decide), run_bot (a := 0) (by omega), run_bot (a := 1) (by omega), run_bot (a := 2) (by omega),
    run_nil (a := 3) (by omega), run_bot (a := 0) (by omega), run_bot (a := 1) (by omega), run_nil (a := 2) (by omega)]
  show iprop(readerAt ES (c, (0 : Fin 5)) 0 ∗ readerAt ES (c, (1 : Fin 5)) 0 ∗ readerAt ES (c, (2 : Fin 5)) 0 ∗ readerAt ES (c, (3 : Fin 5)) 0
    ∗ readerAt ES (c, (4 : Fin 5)) 0) ⊢ (iprop((readerAt ES (zKey c 0) 0 ∗ readerAt ES (zKey c 1) 0 ∗ readerAt ES (zKey c 2) 0 ∗ emp)
      ∗ readerAt ES (xKey c 0) 0 ∗ readerAt ES (xKey c 1) 0 ∗ emp) : sProp 𝕄)
  iintro ⟨H0, H1, H2, H3, H4⟩
  isplitl [H0 H1 H2]
  · isplitl [H0]; · iexact H0
    isplitl [H1]; · iexact H1
    isplitl [H2]; · iexact H2
    iempintro
  isplitl [H3]; · iexact H3
  isplitl [H4]; · iexact H4
  iempintro

/-! ## To the devices that use them -/

/-- What device `c` keeps of its cells' duties, -/
def keeps (c : Dev nD) : sProp 𝕄 :=
  iprop(bigSep (Finset.Ico 0 8) (fun j => dutyTok ER (zsC c j) (j / 3) 0) ∗ bigSep (Finset.Ico 0 8) (fun j => dutyTok ER (xsC c j) (j / 2) 0))
/-- what goes to the device of the other half of the table, -/
def toZ (c : Dev nD) : sProp 𝕄 :=
  iprop(dutyTok ER (barC c) 0 0 ∗ bigSep (Finset.Ico 0 8) (fun j => dutyTok ER (zrC c j) (j / 3) 0)
    ∗ bigSep (Finset.Ico 0 8) (fun j => writeTok ES (zKey c j) (j / 3 + 1)) ∗ bigSep (Finset.Ico 0 5) (fun k => dutyTok ER (zcC c) 0 k))
/-- what goes to the device of the other rows. -/
def toX (c : Dev nD) : sProp 𝕄 :=
  iprop(dutyTok ER (barC c) 0 1 ∗ bigSep (Finset.Ico 0 8) (fun j => dutyTok ER (xrC c j) (j / 2) 0)
    ∗ bigSep (Finset.Ico 0 8) (fun j => writeTok ES (xKey c j) (j / 2 + 1)) ∗ bigSep (Finset.Ico 0 6) (fun k => dutyTok ER (xcC c) 0 k))

theorem owned_split (c : Dev nD) : iprop(owned (F := F) c ∗ writes c) ⊢ iprop(keeps (F := F) c ∗ toZ c ∗ toX c) := by
  unfold owned writes keeps toZ toX
  iintro ⟨⟨⟨B0, B1⟩, Hzs, Hzr, Hxs, Hxr, Hzc, Hxc⟩, Wz, Wx⟩
  isplitl [Hzs Hxs]; · isplitl [Hzs] <;> iassumption
  isplitl [B0 Hzr Wz Hzc]
  · isplitl [B0]; · iexact B0
    isplitl [Hzr]; · iexact Hzr
    isplitl [Wz] <;> iassumption
  isplitl [B1]; · iexact B1
  isplitl [Hxr]; · iexact Hxr
  isplitl [Wx] <;> iassumption
theorem toks_of (c : Dev nD) : iprop(keeps (F := F) c ∗ toZ (pz c) ∗ toX (px c)) ⊢ toks c := by
  unfold keeps toZ toX toks
  rw [bigSep_sep', bigSep_sep', bigSep_sep', bigSep_sep']
  iintro ⟨⟨Hzs, Hxs⟩, ⟨B0, Hzr, Wz, Hzc⟩, B1, Hxr, Wx, Hxc⟩
  isplitl [B0]; · iexact B0
  isplitl [B1]; · iexact B1
  isplitl [Hzs Hzr Wz]
  · isplitl [Hzs]; · iexact Hzs
    isplitl [Hzr] <;> iassumption
  isplitl [Hxs Hxr Wx]
  · isplitl [Hxs]; · iexact Hxs
    isplitl [Hxr] <;> iassumption
  isplitl [Hzc] <;> iassumption

/-- Every device is dealt its rights. -/
theorem toks_deal :
    iprop(bigSep allToks (fun x => (dutyTok ER x.1 x.2.1 x.2.2 : sProp 𝕄))
        ∗ bigSep ((Finset.univ : Finset Key) ×ˢ Finset.range 4) (fun x => (writeTok ES x.1 (x.2 + 1) : sProp 𝕄)))
      ⊢ bigSep Finset.univ (toks (F := F)) := by
  refine (BIClass.sep_mono allToks_eq writes_of).trans ?_
  refine (show iprop(bigSep Finset.univ (owned (F := F)) ∗ bigSep Finset.univ (writes (F := F)))
    ⊢ iprop(bigSep Finset.univ (keeps (F := F)) ∗ bigSep Finset.univ (toZ (F := F)) ∗ bigSep Finset.univ (toX (F := F))) from by
      rw [← bigSep_sep', ← bigSep_sep', ← bigSep_sep']; exact bigSep_mono fun c _ => owned_split c).trans ?_
  rw [bigSep_pz (toZ (F := F)), bigSep_px (toX (F := F)), ← bigSep_sep', ← bigSep_sep']
  exact bigSep_mono fun c _ => toks_of c

end Cert.Emb

end
-- ==== Proof.Credit.lean ====
/-
# What is owed at the launch, credited

What all devices owe at the launch is what all devices are to receive: a device's dues name its neighbours' cells, and
each device is its neighbours' neighbour. So the launch's credit of a device is the credit of everything it awaits.
-/
module

public import proofs.«01_k».proof.Proof.Deal

@[expose] public section

noncomputable section

namespace Cert.Emb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv slot readerAt released writeTok)
open Idealize.ShloMosaic.Transfers (Flight)

variable {F : FTy → Type} [FloatOps F]

local notation "𝕄" => MT nD τ sig ℕ (Elt F) ℕ UU ℕ

/-- What device `c` is owed by the device of the other half of the table, -/
def dueZ (c : Dev nD) : CellTallies nD τ sig ℕ :=
  ((∑ j ∈ Finset.Ico 0 8, tallyAt (zrC c j) (iz j) NC) + (∑ k ∈ Finset.Ico 0 5, tallyAt (zcC c) (izc k) 1)) + tallyAt (barC c) 1 1
/-- and by the device of the other rows. -/
def dueX (c : Dev nD) : CellTallies nD τ sig ℕ :=
  ((∑ j ∈ Finset.Ico 0 8, tallyAt (xrC c j) (ix j) NC) + (∑ k ∈ Finset.Ico 0 6, tallyAt (xcC c) (ixc k) 1)) + tallyAt (barC c) 1 1

theorem O₀_eq (c : Dev nD) : O₀ c = dueZ (pz c) + dueX (px c) := by unfold O₀ owe dueZ dueX; rw [add_assoc, add_comm (tallyAt (barC (px c)) 1 1), add_add_add_comm]
theorem sum_O₀ : ∑ c, O₀ c = ∑ c, (dueZ c + dueX c) := by
  rw [Finset.sum_congr rfl fun c _ => O₀_eq c, Finset.sum_add_distrib, Finset.sum_add_distrib]
  exact congrArg₂ (· + ·) (Equiv.sum_comp pzE dueZ) (Equiv.sum_comp pxE dueX)

theorem tally_away {c : Dev nD} {sm : SemLoc sig} {g : GSem nD τ sig} (h : g.1 ≠ (c : Thread nD τ)) (i n u : ℕ) :
    (tallyAt ((c : Thread nD τ), sm) i n : CellTallies nD τ sig ℕ) g u = 0 := by
  rw [tallyAt_apply, if_neg (fun h' => h (congrArg Prod.fst h'.1))]
theorem sum_away {c : Dev nD} {s : Finset ℕ} {sm : ℕ → SemLoc sig} {g : GSem nD τ sig} (h : g.1 ≠ (c : Thread nD τ)) (I : ℕ → ℕ) (n u : ℕ) :
    (∑ j ∈ s, tallyAt ((c : Thread nD τ), sm j) (I j) n : CellTallies nD τ sig ℕ) g u = 0 := by
  rw [Finset.sum_apply, Finsupp.finset_sum_apply, Finset.sum_eq_zero fun j _ => tally_away h _ _ _]
/-- What a device is owed lies at its own cells. -/
theorem due_away {c : Dev nD} {g : GSem nD τ sig} (h : g.1 ≠ (c : Thread nD τ)) (u : ℕ) : (dueZ c + dueX c) g u = 0 := by
  unfold dueZ dueX
  rw [Pi.add_apply, Finsupp.add_apply, Pi.add_apply, Finsupp.add_apply, Pi.add_apply, Finsupp.add_apply, Pi.add_apply, Finsupp.add_apply,
    Pi.add_apply, Finsupp.add_apply, sum_away h, sum_away (sm := fun _ => .reg zCredit) h, sum_away h, sum_away (sm := fun _ => .reg xCredit) h, tally_away h]; rfl

theorem launch_at (c : Dev nD) (sm : SemLoc sig) (u : ℕ) :
    launchCredit (Pipeline.owing O₀) 0 ((c : Thread nD τ), sm) u = (dueZ c + dueX c) ((c : Thread nD τ), sm) u := by
  rw [Pipeline.launchCredit_owing]
  have h : (∑ d, O₀ d) ((c : Thread nD τ), sm) u = (∑ d, (dueZ d + dueX d)) ((c : Thread nD τ), sm) u := by rw [sum_O₀]
  rw [Finset.sum_apply, Finsupp.finset_sum_apply, Finset.sum_apply, Finsupp.finset_sum_apply] at h
  rw [h, Fintype.sum_eq_single c fun d hd => due_away (fun h' => hd (congrArg Prod.fst h').symm) u]

/-- The cells of one device together make up what it is owed. -/
theorem launch_sum (c : Dev nD) :
    ∑ sm : SemLoc sig, tallyOn ((c : Thread nD τ), sm) (launchCredit (Pipeline.owing O₀) 0 ((c : Thread nD τ), sm)) = dueZ c + dueX c := by
  funext g; ext u
  rw [Finset.sum_apply, Finsupp.finset_sum_apply]
  by_cases hg : g.1 = (c : Thread nD τ)
  · obtain ⟨t, sm⟩ := g
    obtain rfl : t = (c : Thread nD τ) := hg
    rw [Fintype.sum_eq_single sm fun sm' h => by rw [tallyOn_ne (fun h' => h (congrArg Prod.snd h').symm)]; rfl, tallyOn_self, launch_at]
  · rw [due_away hg]
    exact Finset.sum_eq_zero fun sm _ => by rw [tallyOn_ne (fun h' => hg (congrArg Prod.fst h'))]; rfl

theorem cred_two (a b : CellTallies nD τ sig ℕ) : (cred (a + b) : sProp 𝕄) = iprop(cred a ∗ cred b) := BI.Entails.antisymm (cred_add _ _).1 (cred_add _ _).2
theorem cred_many {ι : Type} [DecidableEq ι] (s : Finset ι) (f : ι → CellTallies nD τ sig ℕ) : (cred (∑ j ∈ s, f j) : sProp 𝕄) = bigSep s fun j => cred (f j) := by
  induction s using Finset.induction_on with
  | empty => rw [Finset.sum_empty, cred_zero, bigSep_empty]; rfl
  | insert j s hj ih => rw [Finset.sum_insert hj, bigSep_insert hj, cred_two, ih]; rfl

/-- A device's launch credit is the credit of everything it awaits. -/
theorem creds_of (c : Dev nD) : (Pipeline.launchCred O₀ c : sProp 𝕄) ⊢ creds c := by
  unfold Pipeline.launchCred
  rw [← cred_many, launch_sum]
  unfold dueZ dueX creds
  rw [show (tallyAt (barC c) 1 2 : CellTallies nD τ sig ℕ) = tallyAt (barC c) 1 1 + tallyAt (barC c) 1 1 from (tallyAt_add (barC c) 1 1 1).symm,
    cred_two, cred_two, cred_two, cred_two, cred_two, cred_two, cred_many, cred_many, cred_many, cred_many]
  iintro ⟨⟨⟨Hz, Hzc⟩, B0⟩, ⟨Hx, Hxc⟩, B1⟩
  isplitl [B0 B1]; · isplitl [B0] <;> iassumption
  isplitl [Hz]; · iexact Hz
  isplitl [Hx]; · iexact Hx
  isplitl [Hzc] <;> iassumption

end Cert.Emb

end
-- ==== Proof.Fund.lean ====
/-
# The launch's ghost state, funded

From one element of ghost state every cell is put under the schedule, the entry's cells open at once, the region's
cells asleep until their owner opens them; every landing slot is put under its release record; and every device is dealt
its rights, its readers and its credit.
-/
module

public import proofs.«01_k».proof.Proof.Credit

@[expose] public section

noncomputable section

namespace Cert.Emb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv slot readerAt released writeTok)
open Idealize.ShloMosaic.Transfers (Flight)

variable {F : FTy → Type} [FloatOps F]

local notation "𝕄" => MT nD τ sig ℕ (Elt F) ℕ UU ℕ

theorem csem_inj : Function.Injective csem := by decide
theorem kcell_inj : Function.Injective kcell := fun x y h =>
  Prod.ext (congrArg (fun g : GSem nD τ sig => g.1.1) h) (csem_inj (congrArg Prod.snd h))
/-- The entry's cells, one for each device, -/
def wakeC : Finset (GSem nD τ sig) := Finset.univ.map ⟨fun c : Dev nD => kcell (c, 0), fun a b h => congrArg Prod.fst (kcell_inj h)⟩
/-- and the region's. -/
def sleepC : Finset (GSem nD τ sig) := (Finset.univ : Finset (Dev nD × Fin 12)).map ⟨fun x : Dev nD × Fin 12 => kcell (x.1, x.2.succ), fun x y h =>
  Prod.ext (congrArg (fun z : Dev nD × Fin 13 => z.1) (kcell_inj h)) (Fin.succ_injective _ (congrArg (fun z : Dev nD × Fin 13 => z.2) (kcell_inj h)))⟩

theorem wake_sleep : Disjoint wakeC sleepC := by
  refine Finset.disjoint_left.mpr fun g hg hs => ?_
  obtain ⟨c, -, rfl⟩ := Finset.mem_map.mp hg
  obtain ⟨x, hx, h⟩ := Finset.mem_map.mp hs
  exact Fin.succ_ne_zero _ (congrArg Prod.snd (kcell_inj h))
theorem mem_cells (x : Dev nD × Fin 13) : kcell x ∈ wakeC ∪ sleepC := by
  obtain ⟨c, i⟩ := x
  by_cases hi : i = 0
  · subst hi; exact Finset.mem_union_left _ (Finset.mem_map.mpr ⟨c, Finset.mem_univ _, rfl⟩)
  · exact Finset.mem_union_right _ (Finset.mem_map.mpr ⟨(c, i.pred hi), Finset.mem_univ _, congrArg (fun i => kcell (c, i)) (Fin.succ_pred i hi)⟩)

theorem over_wake (Φ : GSem nD τ sig → sProp 𝕄) : bigSep wakeC Φ = bigSep Finset.univ (fun c : Dev nD => Φ (barC c)) := by
  unfold wakeC; rw [bigSep_map]; rfl
theorem over_sleep (Φ : GSem nD τ sig → sProp 𝕄) : bigSep sleepC Φ = bigSep Finset.univ (fun c : Dev nD => bigSep Finset.univ (fun i : Fin 12 => Φ (kcell (c, i.succ)))) := by
  unfold sleepC; rw [bigSep_map, bigSep_univ_prod]; rfl

/-- Device `c`'s right to open its cells of the region. -/
def opens (c : Dev nD) : sProp 𝕄 := bigSep Finset.univ (fun i : Fin 12 => openTok ER (kcell (c, i.succ)))

variable (A : Dev nD → Mat F)

/-- What a device is dealt. -/
def mine (c : Dev nD) : sProp 𝕄 :=
  iprop(ctx A ∗ opens (F := F) c ∗ toks (F := F) c ∗ readers (F := F) c ∗ creds (F := F) c ∗ atPos ER (barC c) 0 ∅ 0)

/-- The launch's element of the protocol. -/
def u₁ : UB × UT := (launchOf wakeC sleepC allToks, (Release.initSlots (Finset.univ : Finset Key) 4, 1))

/-- Everything is known of the kept cells and slots once they are. -/
theorem know_cells (κ : GSem nD τ sig → ℕ) : bigSep (wakeC ∪ sleepC) (fun g => cellInv ER (Rd A) (κ g) g)
    ⊢ bigSep Finset.univ (fun x : Dev nD × Fin 13 => hasInv A (kcell x)) :=
  BI.bigSep_intro_persistent fun x _ => (bigSep_elim (mem_cells x)).trans (by
    show cellInv ER (Rd A) (κ (kcell x)) (kcell x) ⊢ hasInv A (kcell x)
    unfold hasInv; iintro H; iexists _; iexact H)
theorem know_slots (ι : Key → ℕ) : bigSep (Finset.univ : Finset Key) (fun k => slotInv ES (ι k) k (slotOf (F := F) k))
    ⊢ bigSep Finset.univ (fun k : Key => hasSlot (F := F) k) :=
  bigSep_mono fun k _ => by
    show slotInv ES (ι k) k (slotOf (F := F) k) ⊢ hasSlot k
    unfold hasSlot; iintro H; iexists _; iexact H

/-- The launch: from the entry's counters, the credit and the element, every device's share. -/
theorem fund :
    iprop(bigSep Finset.univ (fun c : Dev nD => (semVal (barC c) 0 : sProp 𝕄)) ∗ bigSep Finset.univ (fun c : Dev nD => (Pipeline.launchCred O₀ c : sProp 𝕄))
        ∗ BI.own ((embR : Emb (UB × UT) (MT nD τ sig ℕ (Elt F) ℕ UU ℕ)) u₁) ∗ levAts L lv)
      ⊢ (|={Set.univ}=> bigSep Finset.univ (mine A) : sProp 𝕄) := by
  unfold u₁
  iintro ⟨Hv, Hc, Hu, #Hlev⟩
  ihave Hu := (own_pair_emb (embR : Emb (UB × UT) (MT nD τ sig ℕ (Elt F) ℕ UU ℕ)) _ _) $$ Hu
  icases Hu with ⟨HR, HT⟩
  ihave HT := (own_pair_emb ((Emb.inr : Emb UT (UB × UT)).trans (embR : Emb (UB × UT) (MT nD τ sig ℕ (Elt F) ℕ UU ℕ))) _ _) $$ HT
  icases HT with ⟨HS, -⟩
  ihave Hv := (Entails.of_eq (over_wake (fun g => (semVal g 0 : sProp 𝕄))).symm) $$ Hv
  imod (Rounds.fund_launch ER (Rd A) wake_sleep (fun g _ h => h) allToks) $$ [Hv HR] with ⟨%κ, -, HI, Hre, Hat, Hop, Htk⟩
  · isplitl [Hv]; · iexact Hv
    iexact HR
  imod (Release.slots_init ES (Finset.univ : Finset Key) 4 (slotOf (F := F))) $$ [HS] with ⟨%ι, -, HJ, Hrd, Hwr⟩
  · iexact HS
  imodintro
  ihave HI := (know_cells A κ) $$ HI
  ihave HJ := (know_slots ι) $$ HJ
  ihave Hre := (Entails.of_eq (over_wake (fun g => (reached ER g 0 : sProp 𝕄)))) $$ Hre
  ihave Hat := (Entails.of_eq (over_wake (fun g => (atPos ER g 0 ∅ 0 : sProp 𝕄)))) $$ Hat
  ihave Hop := (Entails.of_eq (over_sleep (fun g => (openTok ER g : sProp 𝕄)))) $$ Hop
  ihave Htk := toks_deal $$ [Htk Hwr]
  · isplitl [Htk]; · iexact Htk
    iexact Hwr
  ihave Hrd := readers_of $$ Hrd
  ihave Hc := (show bigSep Finset.univ (fun c : Dev nD => (Pipeline.launchCred O₀ c : sProp 𝕄)) ⊢ bigSep Finset.univ (creds (F := F)) from bigSep_mono fun c _ => creds_of c) $$ Hc
  ihave #Hctx := (show iprop(bigSep Finset.univ (fun x : Dev nD × Fin 13 => hasInv A (kcell x)) ∗ bigSep Finset.univ (fun k : Key => hasSlot (F := F) k)
    ∗ bigSep Finset.univ (fun d : Dev nD => (reached ER (barC d) 0 : sProp 𝕄)) ∗ levAts L lv) ⊢ ctx A from .rfl) $$ [HI HJ Hre]
  · isplitl [HI]; · iexact HI
    isplitl [HJ]; · iexact HJ
    isplitl [Hre]; · iexact Hre
    iexact Hlev
  iapply (bigSep_with_persistent (R := ctx A)
    (Φ := fun c => iprop(opens (F := F) c ∗ toks (F := F) c ∗ readers (F := F) c ∗ creds (F := F) c ∗ atPos ER (barC c) 0 ∅ 0)) fun c _ => by
      unfold mine; exact .rfl)
  isplitr; · iexact Hctx
  rw [bigSep_sep', bigSep_sep', bigSep_sep', bigSep_sep']
  isplitl [Hop]; · iexact Hop
  isplitl [Htk]; · iexact Htk
  isplitl [Hrd]; · iexact Hrd
  isplitl [Hc]; · iexact Hc
  iexact Hat

/-! ## Opening a device's cells -/

/-- A cell is opened by its owner. -/
theorem open_cell (g : GSem nD τ sig) : iprop(hasInv A g ∗ openTok ER g ∗ semVal g 0) ⊢ (|={Set.univ}=> at_ g 0 : sProp 𝕄) := by
  unfold hasInv at_
  iintro ⟨⟨%κ, HI⟩, Ho, Hv⟩
  iapply (Rounds.cell_open ER (Rd A) (Set.mem_univ κ))
  isplitl [HI]; · iexact HI
  isplitl [Ho] <;> iassumption

/-- The region's cells one by one, in the order of their numbers. -/
theorem by_number (c : Dev nD) (Φ : GSem nD τ sig → sProp 𝕄) : bigSep Finset.univ (fun i : Fin 12 => Φ (kcell (c, i.succ)))
    = iprop(Φ (zsC c 0) ∗ Φ (zsC c 1) ∗ Φ (zsC c 2) ∗ Φ (zrC c 0) ∗ Φ (zrC c 1) ∗ Φ (zrC c 2) ∗ Φ (xsC c 0) ∗ Φ (xsC c 1) ∗ Φ (xrC c 0) ∗ Φ (xrC c 1)
      ∗ Φ (zcC c) ∗ Φ (xcC c)) := by
  rw [bigSep_eq_bigSepL_of_eq [0, 1, 2, 3, 4, 5, 6, 7, 8, 9, 10, 11] (by decide) (by decide)]; rfl

theorem runs_of (c : Dev nD) (Φ : GSem nD τ sig → sProp 𝕄) : bigSep Finset.univ (fun i : Fin 12 => Φ (kcell (c, i.succ)))
    ⊣⊢ iprop(bigSep (Finset.Ico 0 3) (fun j => Φ (zsC c j)) ∗ bigSep (Finset.Ico 0 3) (fun j => Φ (zrC c j))
      ∗ bigSep (Finset.Ico 0 2) (fun j => Φ (xsC c j)) ∗ bigSep (Finset.Ico 0 2) (fun j => Φ (xrC c j)) ∗ Φ (zcC c) ∗ Φ (xcC c)) := by
  have e3 (Ψ : ℕ → sProp 𝕄) : bigSep (Finset.Ico 0 3) Ψ = iprop(Ψ 0 ∗ Ψ 1 ∗ Ψ 2) := by
    rw [run_bot (a := 0) (by omega), run_bot (a := 1) (by omega), run_bot (a := 2) (by omega), run_nil (a := 3) (by omega)]
    exact congrArg (fun X => iprop(Ψ 0 ∗ Ψ 1 ∗ X)) (BI.equiv_iff.mp sep_emp)
  have e2 (Ψ : ℕ → sProp 𝕄) : bigSep (Finset.Ico 0 2) Ψ = iprop(Ψ 0 ∗ Ψ 1) := by
    rw [run_bot (a := 0) (by omega), run_bot (a := 1) (by omega), run_nil (a := 2) (by omega)]
    exact congrArg (fun X => iprop(Ψ 0 ∗ X)) (BI.equiv_iff.mp sep_emp)
  rw [by_number, e3, e3, e2, e2]
  constructor
  · iintro ⟨H1, H2, H3, H4, H5, H6, H7, H8, H9, H10, H11⟩
    isplitl [H1 H2 H3]
    · isplitl [H1]; · iexact H1
      isplitl [H2] <;> iassumption
    isplitl [H4 H5 H6]
    · isplitl [H4]; · iexact H4
      isplitl [H5] <;> iassumption
    isplitl [H7 H8]; · isplitl [H7] <;> iassumption
    isplitl [H9 H10]; · isplitl [H9] <;> iassumption
    iexact H11
  · iintro ⟨⟨H1, H2, H3⟩, ⟨H4, H5, H6⟩, ⟨H7, H8⟩, ⟨H9, H10⟩, H11⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem at_div (a b : ℕ) (h : b ≤ a) (f : ℕ → GSem nD τ sig) :
    bigSep (Finset.Ico 0 b) (fun j => at_ (F := F) (f j) 0) ⊢ bigSep (Finset.Ico 0 b) (fun j => at_ (F := F) (f j) (j / a)) :=
  Entails.of_eq (bigSep_congr fun j hj => by rw [Nat.div_eq_of_lt ((Finset.mem_Ico.mp hj).2.trans_le h)])
theorem ready_of (c : Dev nD) : bigSep Finset.univ (fun i : Fin 12 => at_ (F := F) (kcell (c, i.succ)) 0) ⊢ ready (F := F) c := by
  refine (runs_of c (fun g => at_ (F := F) g 0)).1.trans ?_
  unfold ready
  iintro ⟨H1, H2, H3, H4, H5, H6⟩
  isplitl [H1]; · iapply (at_div 3 3 le_rfl (zsC c)) $$ H1
  isplitl [H2]; · iapply (at_div 3 3 le_rfl (zrC c)) $$ H2
  isplitl [H3]; · iapply (at_div 2 2 le_rfl (xsC c)) $$ H3
  isplitl [H4]; · iapply (at_div 2 2 le_rfl (xrC c)) $$ H4
  isplitl [H5] <;> iassumption

theorem open_number (c : Dev nD) (i : Fin 12) :
    iprop(ctx A ∗ (openTok ER (kcell (c, i.succ)) ∗ semVal (kcell (c, i.succ)) 0)) ⊢ (|={Set.univ}=> at_ (kcell (c, i.succ)) 0 : sProp 𝕄) := by
  generalize hx : ((c, i.succ) : Dev nD × Fin 13) = x
  have h := ctx_cell A x rfl
  generalize kcell x = g at h ⊢
  iintro ⟨Hctx, Ho, Hv⟩
  ihave HI := h $$ Hctx
  iapply (open_cell A g)
  isplitl [HI]; · iexact HI
  isplitl [Ho]; · iexact Ho
  iexact Hv

/-- The counters at zero and the rights to open give the region's cells, open. -/
theorem open_cells (c : Dev nD) : iprop(ctx A ∗ opens (F := F) c ∗ cells (F := F) c) ⊢ (|={Set.univ}=> ready c : sProp 𝕄) := by
  unfold cells opens
  iintro ⟨#Hctx, Ho, Hv⟩
  ihave Hv := (runs_of c (fun g => (semVal g 0 : sProp 𝕄))).2 $$ Hv
  imod (show iprop(ctx A ∗ bigSep Finset.univ (fun i : Fin 12 => iprop(openTok ER (kcell (c, i.succ)) ∗ semVal (kcell (c, i.succ)) 0)))
    ⊢ (|={Set.univ}=> bigSep Finset.univ (fun i : Fin 12 => at_ (F := F) (kcell (c, i.succ)) 0) : sProp 𝕄) from
      (bigSep_with_persistent fun i _ => open_number A c i).trans (bigSep_fupd _ _)) $$ [Ho Hv] with H
  · isplitr; · iexact Hctx
    rw [bigSep_sep']
    isplitl [Ho] <;> iassumption
  imodintro
  iapply (ready_of c) $$ H

end Cert.Emb

end
-- ==== Proof.Launch.lean ====
/-
# The kernel launched

The host reshapes the row numbers, the region runs the kernel's body on every device. The region is entered with what
the launch dealt, its own counters opened as cells, and left with the result's rows and every counter at zero.
-/
module

public import proofs.«01_k».proof.Proof.Fund

public import proofs.«01_k».proof.Proof.Gen.KernelIdeal.Frame
public import Idealize.ShloMosaic.Lib.Pipeline.Regions

@[expose] public section

noncomputable section

namespace Cert.Emb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv slot readerAt released writeTok)
open Idealize.ShloMosaic.Transfers (Flight)

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-! ## The data of the run -/

/-- The row numbers as the kernel reads them, -/
def idsv (c : Dev nD) : S4096x1.Idx → Elt F .i32 := ((cfg0.win 0).blk t0_0).view.read (Elt F) (V m c main_v1)
/-- and the device's partial rows. -/
def Av (c : Dev nD) : Mat F := partialRows c (idsv m c) (m ((c : Thread nD τ).loc main_arg1))

/-- A device's counters of the region: its cells', its local copies'. -/
def osem (i : Fin 17) : SemLoc sig :=
  if h : i.val < 12 then csem ⟨i.val + 1, by omega⟩ else if i.val = 12 then .dma (eSem 0) else if i.val = 13 then .dma (eSem 1)
  else if i.val = 14 then .dma (stSem 0) else if i.val = 15 then .dma (stSem 1) else .dma st2Sem

theorem own_list (c : Dev nD) : (Pipeline.ownSems0 (Ix := ℕ) (Name := ℕ) (U := UU) (Lvl := ℕ) (Val := Elt F) (τ := τ) osem c : sProp 𝕄)
    = iprop(semVal (zsC c 0) 0 ∗ semVal (zsC c 1) 0 ∗ semVal (zsC c 2) 0 ∗ semVal (zrC c 0) 0 ∗ semVal (zrC c 1) 0 ∗ semVal (zrC c 2) 0
      ∗ semVal (xsC c 0) 0 ∗ semVal (xsC c 1) 0 ∗ semVal (xrC c 0) 0 ∗ semVal (xrC c 1) 0 ∗ semVal (zcC c) 0 ∗ semVal (xcC c) 0
      ∗ locals c) := by
  rw [Pipeline.ownSems0_eq_of_list c osem [0, 1, 2, 3, 4, 5, 6, 7, 8, 9, 10, 11, 12, 13, 14, 15, 16] (by decide) (by decide)]; rfl
theorem own_split (c : Dev nD) : (Pipeline.ownSems0 (Ix := ℕ) (Name := ℕ) (U := UU) (Lvl := ℕ) (Val := Elt F) (τ := τ) osem c : sProp 𝕄)
    ⊣⊢ iprop(cells c ∗ locals c) := by
  have h1 := (Entails.of_eq (by_number c (fun g => (semVal g 0 : sProp 𝕄))).symm).trans (runs_of c (fun g => (semVal g 0 : sProp 𝕄))).1
  have h2 := (runs_of c (fun g => (semVal g 0 : sProp 𝕄))).2.trans (Entails.of_eq (by_number c (fun g => (semVal g 0 : sProp 𝕄))))
  rw [own_list]
  unfold cells
  constructor
  · iintro ⟨H1, H2, H3, H4, H5, H6, H7, H8, H9, H10, H11, H12, HL⟩
    isplitr [HL]
    · iapply h1
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iexact HL
  · iintro ⟨H, HL⟩
    ihave H := h2 $$ H
    icases H with ⟨H1, H2, H3, H4, H5, H6, H7, H8, H9, H10, H11, H12⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HL

/-- The table and the result's rows on a device. -/
abbrev tabV (c : Dev nD) : sProp 𝕄 := tabP c (m ((c : Thread nD τ).loc main_arg1))

/-- What the region starts from on a device, beside its buffers, -/
def enter (c : Dev nD) : sProp 𝕄 :=
  iprop(ctx (Av m) ∗ (ready (F := F) c ∗ toks (F := F) c ∗ readers (F := F) c ∗ creds (F := F) c ∗ atPos ER (barC c) 0 ∅ 0 ∗ locals (F := F) c)
    ∗ tabV m c ∗ (∃ f, outL c ↦[Finset.univ]{fullShare} f))
/-- what it ends with, -/
def leave (c : Dev nD) : sProp 𝕄 :=
  iprop(tabV m c ∗ (outL c ↦[Finset.univ]{fullShare} outv (Av m) c) ∗ semVal (barC c) 0)

/-- The region's proof data: the row numbers as the host left them; owing the launch's dues until the body has paid them. -/
def dat0 (c : Dev nD) : Pipeline.Dat τ (Elt F) ℕ ℕ UU ℕ cfg0 c where
  A w := V m c (Pipeline.arrRef spec0 w)
  after w _ := match w with
    | ⟨0, _⟩ => idsv m c
  Φ t := if t.val = 0 then iprop(enter m c ∗ scratch c) else iprop(leave m c ∗ (cells c ∗ locals c) ∗ scratch c)
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c
  | 0 => dat0 m

/-! ## The region's body -/

theorem before_in (c : Dev nD) (d : (cfg0.win 0).block.Idx → Elt F (cfg0.win 0).elt) : (dat0 m c).before 0 t0_0 d = idsv m c := by
  unfold Pipeline.Dat.before; rw [if_pos (by decide)]; rfl

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The body on a device, from its share of the region to the result's rows. -/
theorem body_run (c : Dev nD) :
    iprop((enter m c ∗ scratch c) ∗ oweW c (O₀ c) ∗ idsP c (idsv m c))
      ⊢ WP c (body (F := F)) (fun _ => iprop((leave m c ∗ (cells c ∗ locals c) ∗ scratch c) ∗ oweW c 0 ∗ idsP c (idsv m c))) := by
  refine BIBase.Entails.trans ?_ ((wp_body (Av m) c (idsv m c) (m ((c : Thread nD τ).loc main_arg1)) rfl).trans (wp_mono _ _ _ fun _ => ?_))
  · unfold enter Start
    iintro ⟨⟨⟨#Hctx, ⟨H1, H2, H3, H4, H5, H6⟩, HT, Hout⟩, Hs⟩, HO, HI⟩
    isplitr; · iexact Hctx
    isplitl [H1 H2 H3 H4 H5 H6 Hs]
    · isplitl [H1]; · iexact H1
      isplitl [H2]; · iexact H2
      isplitl [H3]; · iexact H3
      isplitl [H4]; · iexact H4
      isplitl [H5]; · iexact H5
      isplitl [H6]; · iexact H6
      iexact Hs
    isplitl [HI]; · iexact HI
    isplitl [HT]; · iexact HT
    isplitl [Hout]; · iexact Hout
    iexact HO
  · unfold Done leave
    iintro ⟨HI, HT, Hout, Hb, Hc, Hl, Hs, HO⟩
    isplitl [HT Hout Hb Hc Hl Hs]
    · isplitl [HT Hout Hb]
      · isplitl [HT]; · iexact HT
        isplitl [Hout] <;> iassumption
      isplitl [Hc Hl]; · isplitl [Hc] <;> iassumption
      iexact Hs
    isplitl [HO] <;> iassumption

set_option maxRecDepth 4000 in
/-- The library's body obligation on device `c`. -/
theorem body_obligation (c : Dev nD) : Pipeline.BodyObligation (dat0 (F := F) m c) (defs₀ (F := F)) 𝒱₀ (0 : ℕ) Set.univ := fun t => by
  obtain rfl := fin_N0 t
  rw [bigSep_W0, bigSep_W0]
  simp only [owns_whole_eq]
  rw [show (dat0 m c).Φ t0_0.castSucc = iprop(enter m c ∗ scratch c) from rfl, show (dat0 m c).Φ t0_0.succ = iprop(leave m c ∗ (cells c ∗ locals c) ∗ scratch c) from rfl]
  iintro ⟨HΦ, HO, ⟨%d0, %f0, %hf0, H0⟩⟩
  rw [before_in] at hf0
  subst hf0
  iapply (show iprop((enter m c ∗ scratch c) ∗ (dat0 m c).owesAt 0 t0_0.castSucc ∗ idsP c (idsv m c)) ⊢ WP c (bodyAt0 (F := F) t0_0) _ from by
    rw [body_eq]
    refine BIBase.Entails.trans ?_ ((body_run m c).trans (wp_mono _ _ _ fun _ => ?_))
    · iintro ⟨HΦ, HO, HI⟩
      isplitl [HΦ]; · iexact HΦ
      isplitl [HO]
      · unfold Pipeline.Dat.owesAt Pipeline.owesWithin oweW
        icases HO with ⟨%W, -, HO⟩; iexists W; iexact HO
      iexact HI
    · iintro ⟨HΦ, HO, HI⟩
      isplitl [HΦ]; · iexact HΦ
      isplitl [HO]
      · unfold oweW Pipeline.Dat.owesAt Pipeline.owesWithin
        icases HO with ⟨%W, HO⟩; iexists W; isplitr; · ipureintro; exact fun _ _ => Or.inl trivial
        iexact HO
      iexists _; isplitr; swap; (· unfold idsP; iexact HI); ipureintro; rfl)
  isplitl [HΦ]; · iexact HΦ
  isplitl [HO]; · iexact HO
  unfold idsP; iexact H0

end Cert.Emb

end
-- ==== Proof.Run.lean ====
/-
# The run

From any memory with every counter at zero, @main on the eight devices ends, on every path, with the arguments as they
were, every device's result holding its rows, and every counter at zero.
-/
module

public import proofs.«01_k».proof.Proof.Launch

@[expose] public section

noncomputable section

namespace Cert.Emb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv slot readerAt released writeTok)
open Idealize.ShloMosaic.Transfers (Flight)

variable {F : FTy → Type} [FloatOps F]

local notation "𝕄" => MT nD τ sig ℕ (Elt F) ℕ UU ℕ

variable (m : (ℓ : Loc nD τ sig) → Buf (Elt F) ℓ) (ρ : Dev nD → PrngReg)

local notation "ℍ" => Pipeline.HostSeg (Name := ℕ) (U := UU) (pcfgs (F := F)) defs₀ 𝒱₀ L lv
local notation "ℝ𝕊" => Pipeline.RegionSeg (pcfgs (F := F)) adm (pdats m) (0 : ℕ) defs₀ 𝒱₀ L lv

/-! ## The waits of the row numbers' fetch -/

theorem O₀_pos {c : Dev nD} {g : GSem nD τ sig} {u : ℕ} (h : 0 < O₀ c g u) : g.1.2 = .tc ∧ 0 < u ∧ u < 200 := by
  unfold O₀ at h
  rw [Pi.add_apply, Finsupp.add_apply, Pi.add_apply, Finsupp.add_apply] at h
  by_cases h1 : 0 < owe c 0 0 0 0 g u
  · obtain ⟨ht, hu⟩ := owe_pos h1
    unfold iz izc ix ixc at hu
    exact ⟨ht, by omega, by omega⟩
  · have h' : 0 < tallyAt (barC (px c)) 1 1 g u ∨ 0 < tallyAt (barC (pz c)) 1 1 g u := by omega
    rcases h' with h' | h' <;> rw [tallyAt_apply] at h' <;> split at h' <;> rename_i hc
    · obtain ⟨rfl, rfl⟩ := hc; exact ⟨rfl, by decide, by decide⟩
    · exact absurd h' (Nat.lt_irrefl 0)
    · obtain ⟨rfl, rfl⟩ := hc; exact ⟨rfl, by decide, by decide⟩
    · exact absurd h' (Nat.lt_irrefl 0)

theorem mayWait_start (c : Dev nD) (sm : SemLoc sig) : (levAts L lv : sProp 𝕄) ⊢ MayWait (c : Thread nD τ) sm 0 (O₀ c) :=
  MayOwe.of_cut (L := L) (lev := lv) 0 (fun p hp => by rw [Finset.mem_singleton.mp hp, L_tc]; exact Finset.mem_range.mpr (show (0 : ℕ) < 200 by decide))
    (fun g u hg => by obtain ⟨ht, -, hu⟩ := O₀_pos hg; unfold L; rw [if_pos ht]; exact Finset.mem_range.mpr hu)
    (fun p hp => by rw [Finset.mem_singleton.mp hp]; exact le_rfl) (fun g u hg => (O₀_pos hg).2.1)
theorem mayWait_end (c : Dev nD) (sm : SemLoc sig) : (levAts L lv : sProp 𝕄) ⊢ MayWait (c : Thread nD τ) sm 0 (0 : CellTallies nD τ sig ℕ) := by
  rw [MayWait_zero]; iintro -; iempintro

/-! ## @main's two segments -/

/-- What rides beside a device's buffers through the host's reshape. -/
def ride (c : Dev nD) : sProp 𝕄 := iprop(mine (Av m) c ∗ owes (c : Thread nD τ) (O₀ c) ∅)

theorem ops_sub : ∀ op ∈ (hostOps0 : List (HloOp τ sig (Elt F))), op.bufs ⊆ Pipeline.ucRefs τ sig := fun op h =>
  Pipeline.sub_ucRefs op (List.forall_iff_forall_mem.mp hostOps0_sub op h)
theorem ops_fresh : ∀ op ∈ (hostOps0 : List (HloOp τ sig (Elt F))), op.fresh = ∅ := fun op h => List.forall_iff_forall_mem.mp hostOps0_fresh op h

/-- The host's reshape of the row numbers. -/
def seg0 : ℍ := Pipeline.HostSeg.ofOps _ _ _ _ _ (Pipeline.ucRefs τ sig) hostOps0 ops_sub ops_fresh (fun c b => m (c, b)) (ride m)

theorem held_entry (c : Dev nD) : (unscopedBufs (Ix := ℕ) (Name := ℕ) (U := UU) (Lvl := ℕ) c (V m c) : sProp 𝕄)
    = StableHlo.held (c : Thread nD τ) (Pipeline.ucRefs τ sig) (StableHlo.after hostOps0 (fun b => m (c, b))) :=
  Pipeline.unscopedBufs_held c (StableHlo.after hostOps0 (fun b => m (c, b)))

/-- The last state: the arguments as they were, the result's rows, the entry's counter at zero. -/
def last (c : Dev nD) : sProp 𝕄 :=
  iprop((((c : Thread nD τ).loc main_arg0) ↦{fullShare} m ((c : Thread nD τ).loc main_arg0)) ∗ leave m c)

theorem prefs_none (c : Dev nD) (X) : (Pipeline.prefHeld (Ix := ℕ) (Name := ℕ) (U := UU) (Lvl := ℕ) (Val := Elt F) (pcfgs (F := F) 0).pre c (fun _ => fullShare) X : sProp 𝕄) = (BI.emp : sProp 𝕄) := by
  unfold Pipeline.prefHeld; rw [show (Finset.univ : Finset (Fin 0)) = ∅ from rfl, BI.bigSep_empty]

theorem own_facts : Pipeline.OwnSemFacts spec0 osem := by decide

/-- The kernel's region. -/
def reg0 : ℝ𝕊 0 where
  win := launch0.win.to₀
  block_pos := launch0.block_pos
  stage_whole := launch0.stage_whole
  K := Fin 17
  osem := osem
  ho := own_facts
  hbody c := (body_obligation m c).loose
  hwaits c := Pipeline.cellsWaits_intro _ (pdats m) 0 0 c fun w s t => by
    show (levAts L lv : sProp 𝕄) ⊢ MayWait (c : Thread nD τ) _ 0 (if t.val = 0 then O₀ c else 0)
    split
    · exact mayWait_start c _
    · exact mayWait_end c _
  pre c := iprop(StableHlo.held (c : Thread nD τ) (Pipeline.ucRefs τ sig) (StableHlo.after hostOps0 (fun b => m (c, b))) ∗ ride m c)
  post c := iprop(last m c ∗ ∃ W, owes (c : Thread nD τ) (0 : CellTallies nD τ sig ℕ) W)
  X c := enter m c
  Y c := leave m c
  Z c := iprop(((c : Thread nD τ).loc main_arg0) ↦{fullShare} m ((c : Thread nD τ).loc main_arg0))
  hentry c := by
    have hsplit := Pipeline.arrays_of_unscopedBufs (pcfgs (F := F)) adm (pdats m) launch0.win launch0.arr_whole c
      ((pdats m 0 c).share_full fun _ => rfl) (V m c) fun _ => rfl
    rw [← held_entry]
    unfold ride mine
    iintro ⟨⟨Hub, ⟨#Hctx, Hop, Htk, Hrd, Hcr, Hat⟩, HO⟩, Hos, -⟩
    ihave H := hsplit $$ Hub
    icases H with ⟨Ha, Hr⟩
    ihave Hr := (Entails.of_eq (unscopedRest0_eq c (V m c))) $$ Hr
    icases Hr with ⟨H0, H1, H2⟩
    ihave Hos := (own_split c).1 $$ Hos
    icases Hos with ⟨Hcl, Hlo⟩
    imod (open_cells (Av m) c) $$ [Hop Hcl] with Hrdy
    · isplitr; · iexact Hctx
      isplitl [Hop] <;> iassumption
    imodintro
    isplitl [Ha]; · iexact Ha
    isplitr; · iapply (Entails.of_eq (prefs_none (F := F) c _).symm); iempintro
    isplitl [HO]
    · unfold Pipeline.Dat.owesAt Pipeline.owesWithin
      iexists ∅; isplitr; · ipureintro; exact fun _ _ => Or.inl trivial
      iexact HO
    isplitr [H0]
    · unfold enter tabV tabP
      isplitr; · iexact Hctx
      isplitl [Hrdy Htk Hrd Hcr Hat Hlo]
      · isplitl [Hrdy]; · iexact Hrdy
        isplitl [Htk]; · iexact Htk
        isplitl [Hrd]; · iexact Hrd
        isplitl [Hcr]; · iexact Hcr
        isplitl [Hat]; · iexact Hat
        iexact Hlo
      isplitl [H1]
      · rw [← V_main_arg1 m c]; iexact H1
      iexists _; iexact H2
    · rw [← V_main_arg0 m c]; iexact H0
  hin c := by
    rw [scopedRest0_eq]
    show iprop(enter m c ∗ _ ∗ _) ⊢ iprop(enter m c ∗ scratch c)
    unfold scratch
    iintro ⟨HX, -, Hs⟩
    isplitl [HX]; · iexact HX
    iexact Hs
  hout c := by
    rw [scopedRest0_eq]
    show iprop(leave m c ∗ (cells c ∗ locals c) ∗ scratch c) ⊢ _
    unfold scratch
    iintro ⟨HY, Hc, Hs⟩
    isplitl [HY]; · iexact HY
    isplitl [Hc]; · iapply (own_split c).2 $$ Hc
    iexact Hs
  hexit c := by
    unfold last
    iintro ⟨-, HO, HY, HZ⟩
    imodintro
    isplitr [HO]
    · isplitl [HZ] <;> iassumption
    · unfold Pipeline.Dat.owesAt Pipeline.owesWithin
      icases HO with ⟨%W, -, HO⟩; iexists W; iexact HO

/-- @main as the list of the two. -/
def segs : List (Pipeline.Seg (pcfgs (F := F)) adm (pdats m) (0 : ℕ) defs₀ 𝒱₀ L lv) := [.host (seg0 m), .region (reg0 m)]
theorem main_eq (c : Dev nD) : main (F := F) c = Pipeline.Seg.run (segs m) := main_segs adm (pdats m) 0 𝒱₀ L lv (seg0 m) (reg0 m) rfl c

/-! ## The launch -/

/-- The launch's element: the pipeline library's at the fetch's cells, the protocol's. -/
def u₀ : UU :=
  (initOf (Pipeline.cells (Pipeline.pin (pcfgs (F := F)) adm) cellOf_inj) (Pipeline.launchToks (Pipeline.pin (pcfgs (F := F)) adm) cellOf_inj), u₁)

/-- The protocol's element rides whole on device 0. -/
def G (c : Dev nD) : sProp 𝕄 := if c = 0 then BI.own ((embR : Emb (UB × UT) (MT nD τ sig ℕ (Elt F) ℕ UU ℕ)) u₁) else iprop(emp)
theorem bigSep_G_eq : bigSep Finset.univ (G (F := F)) = (BI.own ((embR : Emb (UB × UT) (MT nD τ sig ℕ (Elt F) ℕ UU ℕ)) u₁) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem unscopedSems0_eq (c : Dev nD) : (unscopedSems0 c : sProp 𝕄) = semVal (barC c) 0 := by
  unfold unscopedSems0
  rw [bigSep_eq_bigSepL_of_eq [SemLoc.reg barSem] (by decide) (by decide)]; rfl

/-- The state @main starts from on a device. -/
def T₀ (c : Dev nD) : sProp 𝕄 := iprop(StableHlo.held (c : Thread nD τ) (Pipeline.ucRefs τ sig) (fun b => m (c, b)) ∗ ride m c)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have hb (c : Dev nD) : (unscopedBufs (Ix := ℕ) (Name := ℕ) (U := UU) (Lvl := ℕ) c (fun b => m ((c : Thread nD τ).loc b)) : sProp 𝕄)
      = StableHlo.held (c : Thread nD τ) (Pipeline.ucRefs τ sig) (fun b => m (c, b)) := Pipeline.unscopedBufs_held c (fun b => m (c, b))
  have h1 (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G (F := F) c)
      ⊢ (iprop(semVal (barC c) 0 ∗ Pipeline.launchCred O₀ c ∗ G (F := F) c
          ∗ (StableHlo.held (c : Thread nD τ) (Pipeline.ucRefs τ sig) (fun b => m (c, b)) ∗ owes (c : Thread nD τ) (O₀ c) ∅)) : sProp 𝕄) := by
    rw [unscopedSems0_eq, hb]
    iintro ⟨Hub, Hus, HO, Hcr, -, HG⟩
    isplitl [Hus]; · iexact Hus
    isplitl [Hcr]; · iexact Hcr
    isplitl [HG]; · iexact HG
    isplitl [Hub] <;> iassumption
  have h2 (c : Dev nD) : iprop(mine (Av m) c ∗ (StableHlo.held (c : Thread nD τ) (Pipeline.ucRefs τ sig) (fun b => m (c, b)) ∗ owes (c : Thread nD τ) (O₀ c) ∅))
      ⊢ T₀ m c := by
    unfold T₀ ride
    iintro ⟨Hm, Hub, HO⟩
    isplitl [Hub]; · iexact Hub
    isplitl [Hm] <;> iassumption
  iintro ⟨H, Hlev⟩
  ihave H' := (show _ ⊢ iprop((bigSep Finset.univ fun c : Dev nD => (semVal (barC c) 0 : sProp 𝕄))
        ∗ (bigSep Finset.univ fun c : Dev nD => (Pipeline.launchCred O₀ c : sProp 𝕄)) ∗ bigSep Finset.univ (G (F := F))
        ∗ bigSep Finset.univ fun c : Dev nD => iprop(StableHlo.held (c : Thread nD τ) (Pipeline.ucRefs τ sig) (fun b => m (c, b)) ∗ owes (c : Thread nD τ) (O₀ c) ∅))
      from by rw [← bigSep_sep', ← bigSep_sep', ← bigSep_sep']; exact bigSep_mono fun c _ => h1 c) $$ H
  icases H' with ⟨Hs, Hc, HG, Hrest⟩
  ihave Hu := (Entails.of_eq (bigSep_G_eq (F := F))) $$ HG
  imod (fund (Av m)) $$ [Hs Hc Hu Hlev] with Hm
  · isplitl [Hs]; · iexact Hs
    isplitl [Hc]; · iexact Hc
    isplitl [Hu] <;> iassumption
  imodintro
  iapply (show iprop(bigSep Finset.univ (mine (Av m))
        ∗ bigSep Finset.univ fun c : Dev nD => iprop(StableHlo.held (c : Thread nD τ) (Pipeline.ucRefs τ sig) (fun b => m (c, b)) ∗ owes (c : Thread nD τ) (O₀ c) ∅))
      ⊢ bigSep Finset.univ (T₀ m) from by rw [← bigSep_sep']; exact bigSep_mono fun c _ => h2 c)
  isplitl [Hm] <;> iassumption

set_option backward.isDefEq.respectTransparency.types false in
/-- The run: every device ends with its arguments as they were, its result's rows, and every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = outv (Av m) c) ∧ r.2.sem = fun _ => 0) :=
  Pipeline.θ_run_regions_kit_sems (pcfgs (F := F)) adm (pdats m) (0 : ℕ) cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G (F := F)) (u₀ := u₀ (F := F))
    (hu₀ := by
      unfold u₀
      iintro Hu
      ihave H := (ownU_pair _ _) $$ Hu
      icases H with ⟨HP, HX⟩
      imodintro
      isplitl [HP]; · iexact HP
      rw [bigSep_G_eq]; iexact HX)
    (T₀ := T₀ m) (Tₙ := last m)
    (hch := ⟨fun c => .rfl, fun c => .rfl, fun c => .rfl⟩)
    (hinit := init m ρ)
    (QY := fun c s => s.mem ((c : Thread nD τ).loc main_arg0) = m ((c : Thread nD τ).loc main_arg0)
      ∧ s.mem ((c : Thread nD τ).loc main_arg1) = m ((c : Thread nD τ).loc main_arg1)
      ∧ s.mem ((c : Thread nD τ).loc main_v2) = outv (Av m) c ∧ s.sem (barC c) = 0)
    (hfin := fun c s' => by
      unfold last leave tabV tabP
      iintro ⟨⟨H0, H1, H2, Hb⟩, HSI⟩
      icombine HSI H0 gives %h0
      icombine HSI H1 gives %h1
      icombine HSI H2 gives %h2
      icombine HSI Hb gives %hb
      imodintro
      isplitr; · ipureintro; exact ⟨Buf.eq_of_forall_mem_univ h0, Buf.eq_of_forall_mem_univ h1, Buf.eq_of_forall_mem_univ h2, hb⟩
      iexact HSI)
    (hQ := fun s h hs => ⟨fun c => ⟨(h c).1, (h c).2.1, (h c).2.2.1⟩, sem_eq_zero hs fun c sm hsm => by
      have hl : ∀ sm : SemLoc sig, sm.isScoped .tc = false → sm = .reg barSem := by decide
      obtain rfl := hl sm hsm
      exact (h c).2.2.2⟩)

end Cert.Emb

end
-- ==== Proof.Same.lean ====
/-
# The two readings of the kernel

The kernel's text is printed twice, once for each way of reading floats. The two body tables are the same one.
-/
module

public import proofs.«01_k».proof.Proof.Gen.Kernel
public import proofs.«01_k».proof.Proof.Gen.KernelIdeal

@[expose] public section

set_option maxRecDepth 100000

noncomputable section

namespace Cert.Emb

open Idealize.ShloMosaic Idealize.SL.Sem

variable {F : FTy → Type} [FloatOps F]

/-- The kernels' bodies are the same. -/
theorem bodies_same : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ)) ?_
  funext l x
  match l with
  | 0 => rfl

/-- So are the body tables. -/
theorem defs_same : Cert.Kernel.defs (F := F) = Cert.KernelIdeal.defs (F := F) := congrArg (Pipeline.defs _) bodies_same

end Cert.Emb

end
-- ==== Proof.Rows.lean ====
/-
# The rows a device's partial rows hold

Over the extended reals the one-hot product of a block adds, to every partial row, the table's row of that number when
the block holds it, and zero otherwise.
-/
module

public import Idealize.ShloMosaic.Lib.ValueIdx
public import proofs.«01_k».proof.Proof.ESteps
public import Idealize.ShloMosaic.Lib.MatmulPlain
public import Idealize.ShloMosaic.Lib.ValueLayoutCasts
public import Idealize.ShloMosaic.Lib.WordCmp

@[expose] public section

noncomputable section

namespace Cert.Emb

open Cert.KernelIdeal Cert.KernelIdeal.Gen
open Idealize.ShloMosaic Idealize.ShloMosaic.TcCoe
open Idealize.SL.Sem
open Idealize.ShloMosaic.ValueIdx (ix2 ix3 eq_ix2 eq_ix3)

/-! ## One block -/

/-- A column broadcast over many reads its row's one entry. -/
theorem column_apply (v : IVec S2048x1 32) (r : Fin 2048) (k : Fin 512) :
    broadcastTo S2048x512 v broadcasts_S2048x1_S2048x512 (ix2 r k) = v (ix2 r (0 : Fin 1)) :=
  broadcastTo_apply v _ (ix2 r k) (ix2 r (0 : Fin 1)) fun a => match a with
    | ⟨0, _⟩ => rfl
    | ⟨1, _⟩ => rfl

theorem tabBase_eq (c : Dev nD) : tabBase c = BitVec.ofNat 32 (8192 * (c.val % 2)) := by revert c; decide

/-- The number the one-hot matrix compares a row's number with in column `k`. -/
theorem column_number (c : Dev nD) (b : ℕ) (k : ℕ) :
    IntOp.addi (Scalar.addi (tabBase c) (BitVec.ofNat 32 (512 * b))) (BitVec.ofNat 32 k)
      = BitVec.ofNat 32 (8192 * (c.val % 2) + 512 * b + k) := by
  rw [tabBase_eq, BitVec.ofNat_add, BitVec.ofNat_add]; rfl

/-- A decided bit as an extended real. -/
theorem bit_real (p : Prop) [Decidable p] :
    (FloatOps.sitofp .f32 ((BitVec.ofBool (decide p)).setWidth 32) : Ideal .f32) = if p then (1 : EReal) else 0 := by
  by_cases h : p
  · rw [if_pos h, decide_eq_true h]
    show (((((BitVec.ofBool true).setWidth 32 : BitVec 32).toInt : ℝ)) : EReal) = 1
    rw [show ((BitVec.ofBool true).setWidth 32 : BitVec 32).toInt = 1 by decide]; simp
  · rw [if_neg h, decide_eq_false h]
    show (((((BitVec.ofBool false).setWidth 32 : BitVec 32).toInt : ℝ)) : EReal) = 0
    rw [show ((BitVec.ofBool false).setWidth 32 : BitVec 32).toInt = 0 by decide]; simp

/-- Entry `(r, k)` of block `b`'s one-hot matrix, row `r`'s number being `n`. -/
theorem oneHot_apply (c : Dev nD) {b : ℕ} (hb : b < 16) (ids : IVec S2048x1 32) (r : Fin 2048) (k : Fin 512) {n : ℕ}
    (hn : n < 16384) (h : ids (ix2 r (0 : Fin 1)) = BitVec.ofNat 32 n) :
    (oneHot c b ids : FVec Ideal S2048x512 .f32) (ix2 r k) = if n = 8192 * (c.val % 2) + 512 * b + k.val then (1 : EReal) else 0 := by
  have hk := k.isLt
  have e : cmpi .eq (broadcastTo S2048x512 ids broadcasts_S2048x1_S2048x512)
      (broadcastTo S2048x512 (addi (broadcast S1x512 (Scalar.addi (tabBase c) (BitVec.ofNat 32 (512 * b))))
        (iota .tc S1x512 32 [1] iota_S1x512_d1_w32)) broadcasts_S1x512_S2048x512) (ix2 r k)
      = BitVec.ofBool (decide (n = 8192 * (c.val % 2) + 512 * b + k.val)) := by
    rw [WordCmp.cmpi_at, column_apply, ValueIdx.broadcastTo_1b_ab_apply, h]
    refine Eq.trans (congrArg (IntOp.cmpi .eq (BitVec.ofNat 32 n)) ?_) (WordCmp.cmpi_eq_ofNat (by omega) (by omega))
    refine Eq.trans ?_ (column_number c b k.val)
    show IntOp.addi _ (BitVec.ofNat 32 (0 * 512 + k.val)) = _
    rw [Nat.zero_mul, Nat.zero_add]; rfl
  unfold oneHot
  rw [ValueIdx.sitofp_apply, ValueIdx.extui_apply, e]
  exact bit_real _

/-- Row `u` of block `b` of a table. -/
theorem rows_apply {F : FTy → Type} [FloatOps F] (T : S8192x2048.Idx → Elt F .f32) {b : ℕ} (hb : b < 16) (u : Fin 512) (d : Fin 2048) :
    rows T b (ix2 u d) = T (ix2 (⟨512 * b + u.val, by have := u.isLt; omega⟩ : Fin 8192) d) := by
  show T ((Rect.unit (s := S8192x2048) ![512 * (b % 16), 0] S512x2048.size (inb_rows b)).emb (ix2 u d)) = _
  refine congrArg T (funext fun a => Fin.ext ?_)
  fin_cases a <;> simp [Rect.emb_apply, Nat.mod_eq_of_lt hb]

/-- The row of a table a number names, of its remainder by 8192. -/
def pick (T : S8192x2048.Idx → Ideal .f32) (n : ℕ) (d : Fin 2048) : EReal := T (ix2 (⟨n % 8192, Nat.mod_lt _ (by decide)⟩ : Fin 8192) d)

/-- Block `b`'s product holds the row of number `n` when the block does, and zero otherwise. -/
theorem gathered_apply (c : Dev nD) {b : ℕ} (hb : b < 16) (ids : IVec S2048x1 32) (T : S8192x2048.Idx → Ideal .f32) (r : Fin 2048)
    (d : Fin 2048) {n : ℕ} (hn : n < 16384) (h : ids (ix2 r (0 : Fin 1)) = BitVec.ofNat 32 n) :
    (gathered c b ids (blockAt (F := Ideal) T b) : FVec Ideal S2048x2048 .f32) (ix2 r d)
      = if n / 512 = 16 * (c.val % 2) + b then pick T n d else 0 := by
  have hv : shapeCast S512x2048 (blockAt (F := Ideal) T b) shapeCasts_S1x512x2048_S512x2048 = rows (F := Ideal) T b := eLoad_val (F := Ideal) T b
  unfold gathered
  rw [hv]
  refine (Ideal.matmul_plain_apply none (oneHot c b ids : FVec Ideal S2048x512 .f32) (rows (F := Ideal) T b : FVec Ideal S512x2048 .f32)
    (constant S2048x2048 .f32 0x00000000#32) r d).trans ?_
  rw [show (constant S2048x2048 .f32 0x00000000#32 : FVec Ideal S2048x2048 .f32) (ix2 r d) = 0 from Ideal.ofBits_zero_f32, zero_add]
  refine (Finset.sum_congr rfl fun k _ => congrArg₂ (fun x y : EReal => x * y) (oneHot_apply c hb ids r k hn h)
    (rows_apply (F := Ideal) T hb k d)).trans ?_
  by_cases hb' : n / 512 = 16 * (c.val % 2) + b
  · rw [if_pos hb', Finset.sum_eq_single (⟨n % 512, Nat.mod_lt _ (by decide)⟩ : Fin 512)]
    · rw [if_pos (by show n = 8192 * (c.val % 2) + 512 * b + n % 512; omega), one_mul]
      unfold pick
      refine congrArg T ?_
      have e : 512 * b + n % 512 = n % 8192 := by omega
      funext a; fin_cases a
      · exact Fin.ext e
      · rfl
    · intro k _ hk
      rw [if_neg, zero_mul]
      intro e
      exact hk (Fin.ext (by show k.val = n % 512; have := k.isLt; omega))
    · exact fun h => absurd (Finset.mem_univ _) h
  · rw [if_neg hb']
    refine Finset.sum_eq_zero fun k _ => ?_
    rw [if_neg, zero_mul]
    intro e
    have := k.isLt
    omega

/-! ## All blocks -/

/-- After blocks `0` to `b` a partial row holds the table's row when one of them holds it, and zero otherwise. -/
theorem accAt_apply (c : Dev nD) (ids : IVec S2048x1 32) (T : S8192x2048.Idx → Ideal .f32) (r d : Fin 2048) {n : ℕ}
    (hn : n < 16384) (h : ids (ix2 r (0 : Fin 1)) = BitVec.ofNat 32 n) :
    ∀ b < 16, accAt (F := Ideal) c ids T b (ix2 r d)
      = if 16 * (c.val % 2) ≤ n / 512 ∧ n / 512 ≤ 16 * (c.val % 2) + b then pick T n d else 0
  | 0, _ => by
    unfold accAt accFirst
    rw [shapeCast_self, gathered_apply c (by omega) ids T r d hn h]
    refine if_congr ?_ rfl rfl
    omega
  | b + 1, hb => by
    unfold accAt accNext
    rw [shapeCast_self, ValueIdx.addf_apply, accAt_apply c ids T r d hn h b (by omega), gathered_apply c hb ids T r d hn h]
    by_cases h1 : 16 * (c.val % 2) ≤ n / 512 ∧ n / 512 ≤ 16 * (c.val % 2) + b
    · rw [if_pos h1, if_neg (by omega), if_pos (by omega), add_zero]
    · rw [if_neg h1, zero_add]
      refine if_congr ?_ rfl rfl
      omega

/-- A partial row holds the table's row of its number when the device's half of the table does, and zero otherwise. -/
theorem partialRows_apply (c : Dev nD) (I : S4096x1.Idx → Elt Ideal .i32) (T : S8192x2048.Idx → Ideal .f32) (r d : Fin 2048) {n : ℕ}
    (hn : n < 16384) (h : idsOf (F := Ideal) c I (ix2 r (0 : Fin 1)) = BitVec.ofNat 32 n) :
    partialRows (F := Ideal) c I T (ix2 r d) = if n / 8192 = c.val % 2 then pick T n d else 0 := by
  unfold partialRows
  rw [accAt_apply c _ T r d hn h 15 (by decide)]
  refine if_congr ?_ rfl rfl
  omega

/-- The device's row number `r` is the one of row `2048 (c / 4) + r`. -/
theorem idsOf_apply {F : FTy → Type} [FloatOps F] (c : Dev nD) (I : S4096x1.Idx → Elt F .i32) (r : Fin 2048) :
    idsOf c I (ix2 r (0 : Fin 1)) = I (ix2 (⟨2048 * (c.val / 4) + r.val, by have := half_lt c; have := r.isLt; omega⟩ : Fin 4096) (0 : Fin 1)) := by
  have ho : k0_off1 c = ![2048 * (c.val / 4), 0] := by revert c; decide
  unfold idsOf
  refine (congrFun (shapeCast_self (s := S2048x1) _ _) (ix2 r (0 : Fin 1))).trans ?_
  show I ((Rect.unit (s := S4096x1) (k0_off1 c) S2048x1.size (k0_off1_inb c)).emb (ix2 r (0 : Fin 1))) = _
  refine congrArg I (funext fun a => Fin.ext ?_)
  fin_cases a <;> simp [Rect.emb_apply, ho]

end Cert.Emb

end
-- ==== Proof.Value.lean ====
/-
# The result's value

Over the extended reals, row numbers between 0 and 16383: the result on every device is the whole table's rows of those
numbers, which is what the reference's gather reads.
-/
module

public import proofs.«01_k».proof.Proof.Run
public import proofs.«01_k».proof.Proof.Rows
public import proofs.«01_k».proof.Proof.Gen.Pre_in_range_KernelIdeal
public import proofs.«01_k».proof.Proof.Gen.ReferenceIdeal.Run
public import Idealize.ShloMosaic.Lib.Layout
public import Idealize.ShloMosaic.Lib.ReduceAll
public import Idealize.ShloMosaic.Lib.Routing.Ops

@[expose] public section

noncomputable section

namespace Cert.Emb

open Cert.KernelIdeal Cert.KernelIdeal.Gen
open Idealize.ShloMosaic Idealize.ShloMosaic.TcCoe
open Idealize.SL.Sem
open Idealize.ShloMosaic.ValueIdx (ix1 ix2 ix3 eq_ix1 eq_ix2 eq_ix3)

/-- The whole table's shape. -/
abbrev STab : Shape := ⟨2, ![16384, 2048]⟩
/-- A device's half of the whole table. -/
abbrev half (c : Dev nD) (E : STab.Idx → Ideal .f32) : S8192x2048.Idx → Ideal .f32 :=
  Layout.blockN ⟨2, ![8192, 2048]⟩ ⟨2, ![16384, 2048]⟩ (Layout.meshBlock [2, 2, 2] ![[2], []] c) E

/-! ## What the precondition says -/

theorem in_range_apply {X : S4096.Idx → BitVec 32} {T : S8192x2048.Idx → Ideal .f32}
    (h : Cert.Pre_in_range_KernelIdeal.fn (F := Ideal) X T = fun _ => 1#1) (i : S4096.Idx) : (X i).toNat < 16384 := by
  have hs : Subsingleton Cert.Pre_in_range_KernelIdeal.S_.Idx := ⟨fun a b => funext fun x => x.elim0⟩
  have h1 := Host.reduce_andi_all _ _ _ _ ValueIdx.ix0 (congrFun h ValueIdx.ix0) i
  have h2 : IntOp.andi (IntOp.cmpi .sge (X i) 0#32) (IntOp.cmpi .slt (X i) (BitVec.ofNat 32 16384)) = 1#1 := h1
  rw [WordCmp.andi_sge_zero_slt_ofNat (by decide), WordCmp.ofBool_decide_eq_one_iff] at h2
  exact h2

/-! ## The two halves' sum -/

theorem meshBlock_row (c : Dev nD) : ((Layout.meshBlock [2, 2, 2] ![[2], []] c) (0 : Fin 2)).val = c.val % 2 := by revert c; decide
theorem meshBlock_col (c : Dev nD) : ((Layout.meshBlock [2, 2, 2] ![[2], []] c) (1 : Fin 2)).val = 0 := by revert c; decide

/-- The row a device's half holds of a number its half does. -/
theorem pick_half (c : Dev nD) (E : STab.Idx → Ideal .f32) {n : ℕ} (hn : n < 16384) (d : Fin 2048) (h : n / 8192 = c.val % 2) :
    pick (half c E) n d = E (ix2 (⟨n, hn⟩ : Fin 16384) d) := by
  unfold pick half
  rw [Layout.blockN_apply]
  refine congrArg E (funext fun a => Fin.ext ?_)
  rw [Layout.TilesN.idx_val]
  match a with
  | ⟨0, _⟩ =>
    show ((Layout.meshBlock [2, 2, 2] ![[2], []] c) (0 : Fin 2)).val * 8192 + n % 8192 = n
    rw [meshBlock_row]; omega
  | ⟨1, _⟩ =>
    show ((Layout.meshBlock [2, 2, 2] ![[2], []] c) (1 : Fin 2)).val * 2048 + d.val = d.val
    rw [meshBlock_col]; omega

/-- Every row of the two halves' sum is the whole table's. -/
theorem sumv_apply (A : Dev nD → Mat Ideal) (E : STab.Idx → Ideal .f32) (c : Dev nD) (r d : Fin 2048) {n : ℕ} (hn : n < 16384)
    (hA : ∀ c' : Dev nD, c'.val / 4 = c.val / 4 → A c' (ix2 r d) = if n / 8192 = c'.val % 2 then pick (half c' E) n d else 0) :
    sumv A c (ix2 r d) = E (ix2 (⟨n, hn⟩ : Fin 16384) d) := by
  unfold sumv
  rw [ValueIdx.addf_apply, hA c rfl, hA (pz c) (pz_half c), pz_shard]
  by_cases h : n / 8192 = c.val % 2
  · rw [if_pos h, if_neg (by omega), add_zero, pick_half c E hn d h]
  · have h' : n / 8192 = 1 - c.val % 2 := by omega
    rw [if_neg h, if_pos h', zero_add, pick_half (pz c) E hn d (by rw [pz_shard]; exact h')]

/-! ## The result -/

/-- The rows of the whole table the numbers name. -/
def picked (X : S4096.Idx → BitVec 32) (hX : ∀ i, (X i).toNat < 16384) (E : STab.Idx → Ideal .f32) : S4096x2048.Idx → Ideal .f32 :=
  fun i => E (ix2 (⟨(X (ix1 (i 0))).toNat, hX _⟩ : Fin 16384) (i 1))

variable (m : (ℓ : Loc nD τ sig) → Buf (Elt Ideal) ℓ)

/-- The kernel's row numbers are the argument's. -/
theorem idsv_apply (c : Dev nD) (i : Fin 4096) : idsv m c (ix2 i (0 : Fin 1)) = (m ((c : Thread nD τ).loc main_arg0) : S4096.Idx → BitVec 32) (ix1 i) := by
  have e : V m c main_v1 = shapeCast S4096x1 (m ((c : Thread nD τ).loc main_arg0) : S4096.Idx → BitVec 32) shapeCasts_S4096_S4096x1 := by
    unfold V hostOps0
    after_results <;> rfl
  have e' : idsv m c (ix2 i (0 : Fin 1)) = V m c main_v1 (ix2 i (0 : Fin 1)) := by
    unfold idsv
    refine congrArg (V m c main_v1) (funext fun a => Fin.ext ?_)
    exact Pipeline.Window.rect_emb_val_of_index_zero (win0 0) t0_0 a (by fin_cases a <;> rfl) _
  rw [e', e]
  exact ValueIdx.shapeCast_a_a1_apply _ _ i 0

/-- The result on every device. -/
theorem outv_eq (X : S4096.Idx → BitVec 32) (hX : ∀ i, (X i).toNat < 16384) (E : STab.Idx → Ideal .f32)
    (h0 : ∀ c : Dev nD, m ((c : Thread nD τ).loc main_arg0) = X) (h1 : ∀ c : Dev nD, m ((c : Thread nD τ).loc main_arg1) = half c E)
    (c : Dev nD) : outv (Av m) c = picked X hX E := by
  have key (c : Dev nD) (r d : Fin 2048) (i : Fin 4096) (hi : i.val = 2048 * (c.val / 4) + r.val) :
      sumv (Av m) c (ix2 r d) = E (ix2 (⟨(X (ix1 i)).toNat, hX _⟩ : Fin 16384) d) := by
    refine sumv_apply (Av m) E c r d (hX _) fun c' hc' => ?_
    unfold Av
    rw [h1 c']
    refine partialRows_apply c' (idsv m c') (half c' E) r d (hX _) ?_
    rw [idsOf_apply, idsv_apply, h0 c', BitVec.ofNat_toNat, BitVec.setWidth_eq]
    refine congrArg X (congrArg ix1 (Fin.ext ?_))
    show 2048 * (c'.val / 4) + r.val = i.val
    rw [hc', hi]
  funext i
  have hi : (i 0).val < 4096 := (i 0).isLt
  have hc := half_lt c
  unfold outv halves
  split
  · rename_i h
    exact key c _ (i 1) (i 0) (by show (i 0).val = 2048 * (c.val / 4) + (i 0).val % 2048; omega)
  · rename_i h
    exact key (px c) _ (i 1) (i 0) (by show (i 0).val = 2048 * ((px c).val / 4) + (i 0).val % 2048; rw [px_half]; omega)

/-! ## The reference -/

/-- The reference's gather reads the same rows. -/
theorem gather_eq (X : S4096.Idx → BitVec 32) (hX : ∀ i, (X i).toNat < 16384) (E : STab.Idx → Ideal .f32) :
    Host.gather Cert.ReferenceIdeal.gather_S16384x2048_S4096x1_S4096x2048_1_0_n_n_0_1_12048 E
      (broadcastInDim S4096x1 ![0] Cert.ReferenceIdeal.Facts₀.bcast_S4096_S4096x1_0
        (select (cmpi .slt X (broadcastInDim S4096 ![] Cert.ReferenceIdeal.Facts₀.bcast_S_S4096 (constantI ⟨0, ![]⟩ 32 0#32)))
          (addi X (broadcastInDim S4096 ![] Cert.ReferenceIdeal.Facts₀.bcast_S_S4096 (constantI ⟨0, ![]⟩ 32 16384#32))) X))
      = picked X hX E := by
  funext i
  obtain ⟨r, d, rfl⟩ : ∃ (r : Fin 4096) (d : Fin 2048), i = ix2 r d := ⟨i 0, i 1, eq_ix2 i⟩
  refine Routing.gather_row _ rfl rfl rfl rfl rfl E _ r d (⟨(X (ix1 r)).toNat, hX _⟩ : Fin 16384) ?_ (by decide)
  have hs : cmpi .slt X (broadcastInDim S4096 ![] Cert.ReferenceIdeal.Facts₀.bcast_S_S4096 (constantI ⟨0, ![]⟩ 32 0#32)) (ix1 r) = 0#1 := by
    show IntOp.cmpi .slt (X (ix1 r)) 0#32 = 0#1
    rw [WordCmp.cmpi_slt_zero, WordCmp.ofBool_decide_eq_zero_iff]
    have := hX (ix1 r)
    omega
  refine (Eq.trans (b := X (ix1 r)) ?_ ?_)
  · refine (broadcastInDim_apply _ _ _ _ (ix1 r) ?_).trans ?_
    · intro a; fin_cases a; rfl
    · rw [ValueIdx.select_apply, hs, ValueIdx.select_zero]
  · rw [BitVec.ofNat_toNat, BitVec.setWidth_eq]

end Cert.Emb

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range_KernelIdeal
public import proofs.«01_k».proof.Proof.Gen.Pre_in_range_ReferenceIdeal
public import proofs.«01_k».proof.Proof.Gen.ReferenceIdeal.Run
public import proofs.«01_k».proof.Proof.Run
public import proofs.«01_k».proof.Proof.Same
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel as written runs, leaves its arguments and every counter at zero. -/
theorem kernel_frame : Cert.quiescent_Kernel (hKernel := Cert.Kernel.Gen.facts) := fun m ρ _ => by
  rw [Cert.Emb.defs_same]
  refine (θ_run Cert.KernelIdeal.defs _ _).mono (fun r h => ?_) (Cert.Emb.run_main (F := Bits) m ρ)
  exact ⟨fun c => ⟨(h.1 c).1, (h.1 c).2.1⟩, h.2⟩

/-- So does the kernel over the extended reals. -/
theorem ideal_frame : Cert.quiescent_KernelIdeal (hKernelIdeal := Cert.KernelIdeal.Gen.facts) :=
  fun m ρ _ => (θ_run Cert.KernelIdeal.defs _ _).mono (fun _ h => ⟨fun c => ⟨(h.1 c).1, (h.1 c).2.1⟩, h.2⟩)
    (Cert.Emb.run_main (F := Ideal) m ρ)

/-- So does the reference, which has no counter. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run (F := Ideal) m ρ)

/-- On row numbers in range the kernel's result on every device is the reference's. -/
theorem same_value : Cert.algebraic_KernelIdeal_ReferenceIdeal_pre_in_range_KernelIdeal (hKernelIdeal := Cert.KernelIdeal.Gen.facts)
    (hReferenceIdeal := Cert.ReferenceIdeal.Gen.facts) (hPre_in_range_KernelIdeal := Cert.Pre_in_range_KernelIdeal.Gen.facts) := by
  intro m ρ m' ρ' hpre hm
  let X : Cert.KernelIdeal.S4096.Idx → BitVec 32 :=
    m' (((0 : Dev Cert.ReferenceIdeal.nD).tc : Thread Cert.ReferenceIdeal.nD Cert.ReferenceIdeal.τ).loc Cert.ReferenceIdeal.main_arg0)
  let E : Cert.Emb.STab.Idx → Ideal .f32 :=
    m' (((0 : Dev Cert.ReferenceIdeal.nD).tc : Thread Cert.ReferenceIdeal.nD Cert.ReferenceIdeal.τ).loc Cert.ReferenceIdeal.main_arg1)
  have hX : ∀ i, (X i).toNat < 16384 := fun i => by
    have h := Cert.Emb.in_range_apply (hpre 0) i
    rw [(hm 0).1] at h
    exact h
  refine ⟨Cert.Emb.picked X hX E, ?_, ?_⟩
  · exact (θ_run Cert.KernelIdeal.defs _ _).mono (fun _ h c => ⟨(h.1 c).2.2.trans
      (Cert.Emb.outv_eq m X hX E (fun c => (hm c).1) (fun c => (hm c).2) c), (h.1 c).1, (h.1 c).2.1⟩) (Cert.Emb.run_main (F := Ideal) m ρ)
  · exact (θ_run Cert.ReferenceIdeal.defs _ _).mono (fun _ h => ⟨(h 0).1.trans (Cert.Emb.gather_eq X hX E), (h 0).2⟩)
      (Cert.ReferenceIdeal.Value.run (F := Ideal) m' ρ')

theorem claim : Cert.Claim := ⟨Cert.Kernel.Gen.facts, Cert.KernelIdeal.Gen.facts, Cert.ReferenceIdeal.Gen.facts,
  Cert.Pre_in_range_KernelIdeal.Gen.facts, Cert.Pre_in_range_ReferenceIdeal.Gen.facts,
  kernel_frame, ideal_frame, fun m ρ _ => ideal_frame m ρ trivial, reference_frame,
  fun m ρ _ => reference_frame m ρ trivial, trivial, same_value⟩

end Cert.Proof

end
